-- ==== Defs.lean ====
def Pre_Nms (m : (ℓ : Loc Cert.Nms.nD Cert.Nms.τ Cert.Nms.sig) → Buf (Elt Bits) ℓ) : Prop :=
  True

def Pre_NmsIdeal (m : (ℓ : Loc Cert.NmsIdeal.nD Cert.NmsIdeal.τ Cert.NmsIdeal.sig) → Buf (Elt Ideal) ℓ) : Prop :=
  True

def Pre_NmsRefIdeal (m : (ℓ : Loc Cert.NmsRefIdeal.nD Cert.NmsRefIdeal.τ Cert.NmsRefIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeRefIdeal (m : (ℓ : Loc Cert.DecodeRefIdeal.nD Cert.DecodeRefIdeal.τ Cert.DecodeRefIdeal.sig) → Buf (Elt Ideal) ℓ) : Prop :=
  True

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_first_two_classes_low [hPre_first_two_classes_low : Cert.Pre_first_two_classes_low.Facts] (m : (ℓ : Loc Cert.WholeIdeal.nD Cert.WholeIdeal.τ Cert.WholeIdeal.sig) → Buf (Elt Ideal) ℓ) : Prop :=
  ∀ c : Dev Cert.WholeIdeal.nD,
    (Cert.Pre_first_two_classes_low.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))).1 = (fun _ => 1#1)
    ∧ (Cert.Pre_first_two_classes_low.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))).2 = (fun _ => 1#1)

def Pre_WholeRefIdeal (m : (ℓ : Loc Cert.WholeRefIdeal.nD Cert.WholeRefIdeal.τ Cert.WholeRefIdeal.sig) → Buf (Elt Ideal) ℓ) : Prop :=
  True

def Pre_WholeRefIdeal_first_two_classes_low [hPre_first_two_classes_low : Cert.Pre_first_two_classes_low.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_first_two_classes_low.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))).1 = (fun _ => 1#1)
    ∧ (Cert.Pre_first_two_classes_low.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))).2 = (fun _ => 1#1)

def Pre_WholeRefIdeal_first_two_classes_low_boxes_positive [hPre_first_two_classes_low_boxes_positive : Cert.Pre_first_two_classes_low_boxes_positive.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_first_two_classes_low_boxes_positive.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))).1 = (fun _ => 1#1)
    ∧ (Cert.Pre_first_two_classes_low_boxes_positive.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))).2.1 = (fun _ => 1#1)
    ∧ (Cert.Pre_first_two_classes_low_boxes_positive.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))).2.2.1 = (fun _ => 1#1)
    ∧ (Cert.Pre_first_two_classes_low_boxes_positive.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))).2.2.2 = (fun _ => 1#1)

def Pre_V00 (m : (ℓ : Loc Cert.V00.nD Cert.V00.τ Cert.V00.sig) → Buf (Elt Bits) ℓ) : Prop :=
  True

def Pre_V00Ideal (m : (ℓ : Loc Cert.V00Ideal.nD Cert.V00Ideal.τ Cert.V00Ideal.sig) → Buf (Elt Ideal) ℓ) : Prop :=
  True

def Pre_V00Ideal_first_two_classes_low [hPre_first_two_classes_low : Cert.Pre_first_two_classes_low.Facts] (m : (ℓ : Loc Cert.V00Ideal.nD Cert.V00Ideal.τ Cert.V00Ideal.sig) → Buf (Elt Ideal) ℓ) : Prop :=
  ∀ c : Dev Cert.V00Ideal.nD,
    (Cert.Pre_first_two_classes_low.fn (F := Ideal) (m ((c.tc : Thread Cert.V00Ideal.nD Cert.V00Ideal.τ).loc Cert.V00Ideal.main_arg0)) (m ((c.tc : Thread Cert.V00Ideal.nD Cert.V00Ideal.τ).loc Cert.V00Ideal.main_arg1)) (m ((c.tc : Thread Cert.V00Ideal.nD Cert.V00Ideal.τ).loc Cert.V00Ideal.main_arg2))).1 = (fun _ => 1#1)
    ∧ (Cert.Pre_first_two_classes_low.fn (F := Ideal) (m ((c.tc : Thread Cert.V00Ideal.nD Cert.V00Ideal.τ).loc Cert.V00Ideal.main_arg0)) (m ((c.tc : Thread Cert.V00Ideal.nD Cert.V00Ideal.τ).loc Cert.V00Ideal.main_arg1)) (m ((c.tc : Thread Cert.V00Ideal.nD Cert.V00Ideal.τ).loc Cert.V00Ideal.main_arg2))).2 = (fun _ => 1#1)

def Pre_V02 (m : (ℓ : Loc Cert.V02.nD Cert.V02.τ Cert.V02.sig) → Buf (Elt Bits) ℓ) : Prop :=
  True

def Pre_V02Ideal (m : (ℓ : Loc Cert.V02Ideal.nD Cert.V02Ideal.τ Cert.V02Ideal.sig) → Buf (Elt Ideal) ℓ) : Prop :=
  True

def Pre_V03 (m : (ℓ : Loc Cert.V03.nD Cert.V03.τ Cert.V03.sig) → Buf (Elt Bits) ℓ) : Prop :=
  True

def Pre_V03Ideal (m : (ℓ : Loc Cert.V03Ideal.nD Cert.V03Ideal.τ Cert.V03Ideal.sig) → Buf (Elt Ideal) ℓ) : Prop :=
  True

def Pre_V04 (m : (ℓ : Loc Cert.V04.nD Cert.V04.τ Cert.V04.sig) → Buf (Elt Bits) ℓ) : Prop :=
  True

def Pre_V04Ideal (m : (ℓ : Loc Cert.V04Ideal.nD Cert.V04Ideal.τ Cert.V04Ideal.sig) → Buf (Elt Ideal) ℓ) : Prop :=
  True

def Pre_V05 (m : (ℓ : Loc Cert.V05.nD Cert.V05.τ Cert.V05.sig) → Buf (Elt Bits) ℓ) : Prop :=
  True

def Pre_V05Ideal (m : (ℓ : Loc Cert.V05Ideal.nD Cert.V05Ideal.τ Cert.V05Ideal.sig) → Buf (Elt Ideal) ℓ) : Prop :=
  True

def quiescent_Nms [hNms : Cert.Nms.Facts] : Prop :=
  ∀ (m : (ℓ : Loc Cert.Nms.nD Cert.Nms.τ Cert.Nms.sig) → Buf (Elt Bits) ℓ) (g : Dev Cert.Nms.nD → PrngReg), Pre_Nms m →
    θ_run (Cert.Nms.defs (F := Bits)) (onTc (τ := Cert.Nms.τ) (Cert.Nms.main (F := Bits))) ⟨m, fun _ => 0, g⟩ (fun r => (∀ c : Dev Cert.Nms.nD,
      r.2.mem ((c.tc : Thread Cert.Nms.nD Cert.Nms.τ).loc Cert.Nms.main_arg0) = m ((c.tc : Thread Cert.Nms.nD Cert.Nms.τ).loc Cert.Nms.main_arg0)
      ∧ r.2.mem ((c.tc : Thread Cert.Nms.nD Cert.Nms.τ).loc Cert.Nms.main_arg1) = m ((c.tc : Thread Cert.Nms.nD Cert.Nms.τ).loc Cert.Nms.main_arg1))
      ∧ r.2.sem = fun _ => 0)

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ r.2.sem = fun _ => 0)

def quiescent_NmsRefIdeal [hNmsRefIdeal : Cert.NmsRefIdeal.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ r.2.sem = fun _ => 0)

def quiescent_DecodeRefIdeal [hDecodeRefIdeal : Cert.DecodeRefIdeal.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeIdeal_pre_first_two_classes_low [hWholeIdeal : Cert.WholeIdeal.Facts] [hPre_first_two_classes_low : Cert.Pre_first_two_classes_low.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_first_two_classes_low m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def quiescent_WholeRefIdeal_pre_first_two_classes_low [hWholeRefIdeal : Cert.WholeRefIdeal.Facts] [hPre_first_two_classes_low : Cert.Pre_first_two_classes_low.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_first_two_classes_low m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def quiescent_WholeRefIdeal_pre_first_two_classes_low_boxes_positive [hWholeRefIdeal : Cert.WholeRefIdeal.Facts] [hPre_first_two_classes_low_boxes_positive : Cert.Pre_first_two_classes_low_boxes_positive.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_first_two_classes_low_boxes_positive m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def quiescent_V00 [hV00 : Cert.V00.Facts] : Prop :=
  ∀ (m : (ℓ : Loc Cert.V00.nD Cert.V00.τ Cert.V00.sig) → Buf (Elt Bits) ℓ) (g : Dev Cert.V00.nD → PrngReg), Pre_V00 m →
    θ_run (Cert.V00.defs (F := Bits)) (onTc (τ := Cert.V00.τ) (Cert.V00.main (F := Bits))) ⟨m, fun _ => 0, g⟩ (fun r => (∀ c : Dev Cert.V00.nD,
      r.2.mem ((c.tc : Thread Cert.V00.nD Cert.V00.τ).loc Cert.V00.main_arg0) = m ((c.tc : Thread Cert.V00.nD Cert.V00.τ).loc Cert.V00.main_arg0)
      ∧ r.2.mem ((c.tc : Thread Cert.V00.nD Cert.V00.τ).loc Cert.V00.main_arg1) = m ((c.tc : Thread Cert.V00.nD Cert.V00.τ).loc Cert.V00.main_arg1)
      ∧ r.2.mem ((c.tc : Thread Cert.V00.nD Cert.V00.τ).loc Cert.V00.main_arg2) = m ((c.tc : Thread Cert.V00.nD Cert.V00.τ).loc Cert.V00.main_arg2))
      ∧ r.2.sem = fun _ => 0)

def quiescent_V00Ideal [hV00Ideal : Cert.V00Ideal.Facts] : Prop :=
  ∀ (m : (ℓ : Loc Cert.V00Ideal.nD Cert.V00Ideal.τ Cert.V00Ideal.sig) → Buf (Elt Ideal) ℓ) (g : Dev Cert.V00Ideal.nD → PrngReg), Pre_V00Ideal m →
    θ_run (Cert.V00Ideal.defs (F := Ideal)) (onTc (τ := Cert.V00Ideal.τ) (Cert.V00Ideal.main (F := Ideal))) ⟨m, fun _ => 0, g⟩ (fun r => (∀ c : Dev Cert.V00Ideal.nD,
      r.2.mem ((c.tc : Thread Cert.V00Ideal.nD Cert.V00Ideal.τ).loc Cert.V00Ideal.main_arg0) = m ((c.tc : Thread Cert.V00Ideal.nD Cert.V00Ideal.τ).loc Cert.V00Ideal.main_arg0)
      ∧ r.2.mem ((c.tc : Thread Cert.V00Ideal.nD Cert.V00Ideal.τ).loc Cert.V00Ideal.main_arg1) = m ((c.tc : Thread Cert.V00Ideal.nD Cert.V00Ideal.τ).loc Cert.V00Ideal.main_arg1)
      ∧ r.2.mem ((c.tc : Thread Cert.V00Ideal.nD Cert.V00Ideal.τ).loc Cert.V00Ideal.main_arg2) = m ((c.tc : Thread Cert.V00Ideal.nD Cert.V00Ideal.τ).loc Cert.V00Ideal.main_arg2))
      ∧ r.2.sem = fun _ => 0)

def quiescent_V00Ideal_pre_first_two_classes_low [hV00Ideal : Cert.V00Ideal.Facts] [hPre_first_two_classes_low : Cert.Pre_first_two_classes_low.Facts] : Prop :=
  ∀ (m : (ℓ : Loc Cert.V00Ideal.nD Cert.V00Ideal.τ Cert.V00Ideal.sig) → Buf (Elt Ideal) ℓ) (g : Dev Cert.V00Ideal.nD → PrngReg), Pre_V00Ideal_first_two_classes_low m →
    θ_run (Cert.V00Ideal.defs (F := Ideal)) (onTc (τ := Cert.V00Ideal.τ) (Cert.V00Ideal.main (F := Ideal))) ⟨m, fun _ => 0, g⟩ (fun r => (∀ c : Dev Cert.V00Ideal.nD,
      r.2.mem ((c.tc : Thread Cert.V00Ideal.nD Cert.V00Ideal.τ).loc Cert.V00Ideal.main_arg0) = m ((c.tc : Thread Cert.V00Ideal.nD Cert.V00Ideal.τ).loc Cert.V00Ideal.main_arg0)
      ∧ r.2.mem ((c.tc : Thread Cert.V00Ideal.nD Cert.V00Ideal.τ).loc Cert.V00Ideal.main_arg1) = m ((c.tc : Thread Cert.V00Ideal.nD Cert.V00Ideal.τ).loc Cert.V00Ideal.main_arg1)
      ∧ r.2.mem ((c.tc : Thread Cert.V00Ideal.nD Cert.V00Ideal.τ).loc Cert.V00Ideal.main_arg2) = m ((c.tc : Thread Cert.V00Ideal.nD Cert.V00Ideal.τ).loc Cert.V00Ideal.main_arg2))
      ∧ r.2.sem = fun _ => 0)

def quiescent_V02 [hV02 : Cert.V02.Facts] : Prop :=
  ∀ (m : (ℓ : Loc Cert.V02.nD Cert.V02.τ Cert.V02.sig) → Buf (Elt Bits) ℓ) (g : Dev Cert.V02.nD → PrngReg), Pre_V02 m →
    θ_run (Cert.V02.defs (F := Bits)) (onTc (τ := Cert.V02.τ) (Cert.V02.main (F := Bits))) ⟨m, fun _ => 0, g⟩ (fun r => (∀ c : Dev Cert.V02.nD,
      r.2.mem ((c.tc : Thread Cert.V02.nD Cert.V02.τ).loc Cert.V02.main_arg0) = m ((c.tc : Thread Cert.V02.nD Cert.V02.τ).loc Cert.V02.main_arg0)
      ∧ r.2.mem ((c.tc : Thread Cert.V02.nD Cert.V02.τ).loc Cert.V02.main_arg1) = m ((c.tc : Thread Cert.V02.nD Cert.V02.τ).loc Cert.V02.main_arg1)
      ∧ r.2.mem ((c.tc : Thread Cert.V02.nD Cert.V02.τ).loc Cert.V02.main_arg2) = m ((c.tc : Thread Cert.V02.nD Cert.V02.τ).loc Cert.V02.main_arg2))
      ∧ r.2.sem = fun _ => 0)

def quiescent_V02Ideal [hV02Ideal : Cert.V02Ideal.Facts] : Prop :=
  ∀ (m : (ℓ : Loc Cert.V02Ideal.nD Cert.V02Ideal.τ Cert.V02Ideal.sig) → Buf (Elt Ideal) ℓ) (g : Dev Cert.V02Ideal.nD → PrngReg), Pre_V02Ideal m →
    θ_run (Cert.V02Ideal.defs (F := Ideal)) (onTc (τ := Cert.V02Ideal.τ) (Cert.V02Ideal.main (F := Ideal))) ⟨m, fun _ => 0, g⟩ (fun r => (∀ c : Dev Cert.V02Ideal.nD,
      r.2.mem ((c.tc : Thread Cert.V02Ideal.nD Cert.V02Ideal.τ).loc Cert.V02Ideal.main_arg0) = m ((c.tc : Thread Cert.V02Ideal.nD Cert.V02Ideal.τ).loc Cert.V02Ideal.main_arg0)
      ∧ r.2.mem ((c.tc : Thread Cert.V02Ideal.nD Cert.V02Ideal.τ).loc Cert.V02Ideal.main_arg1) = m ((c.tc : Thread Cert.V02Ideal.nD Cert.V02Ideal.τ).loc Cert.V02Ideal.main_arg1)
      ∧ r.2.mem ((c.tc : Thread Cert.V02Ideal.nD Cert.V02Ideal.τ).loc Cert.V02Ideal.main_arg2) = m ((c.tc : Thread Cert.V02Ideal.nD Cert.V02Ideal.τ).loc Cert.V02Ideal.main_arg2))
      ∧ r.2.sem = fun _ => 0)

def quiescent_V03 [hV03 : Cert.V03.Facts] : Prop :=
  ∀ (m : (ℓ : Loc Cert.V03.nD Cert.V03.τ Cert.V03.sig) → Buf (Elt Bits) ℓ) (g : Dev Cert.V03.nD → PrngReg), Pre_V03 m →
    θ_run (Cert.V03.defs (F := Bits)) (onTc (τ := Cert.V03.τ) (Cert.V03.main (F := Bits))) ⟨m, fun _ => 0, g⟩ (fun r => (∀ c : Dev Cert.V03.nD,
      r.2.mem ((c.tc : Thread Cert.V03.nD Cert.V03.τ).loc Cert.V03.main_arg0) = m ((c.tc : Thread Cert.V03.nD Cert.V03.τ).loc Cert.V03.main_arg0)
      ∧ r.2.mem ((c.tc : Thread Cert.V03.nD Cert.V03.τ).loc Cert.V03.main_arg1) = m ((c.tc : Thread Cert.V03.nD Cert.V03.τ).loc Cert.V03.main_arg1)
      ∧ r.2.mem ((c.tc : Thread Cert.V03.nD Cert.V03.τ).loc Cert.V03.main_arg2) = m ((c.tc : Thread Cert.V03.nD Cert.V03.τ).loc Cert.V03.main_arg2))
      ∧ r.2.sem = fun _ => 0)

def quiescent_V03Ideal [hV03Ideal : Cert.V03Ideal.Facts] : Prop :=
  ∀ (m : (ℓ : Loc Cert.V03Ideal.nD Cert.V03Ideal.τ Cert.V03Ideal.sig) → Buf (Elt Ideal) ℓ) (g : Dev Cert.V03Ideal.nD → PrngReg), Pre_V03Ideal m →
    θ_run (Cert.V03Ideal.defs (F := Ideal)) (onTc (τ := Cert.V03Ideal.τ) (Cert.V03Ideal.main (F := Ideal))) ⟨m, fun _ => 0, g⟩ (fun r => (∀ c : Dev Cert.V03Ideal.nD,
      r.2.mem ((c.tc : Thread Cert.V03Ideal.nD Cert.V03Ideal.τ).loc Cert.V03Ideal.main_arg0) = m ((c.tc : Thread Cert.V03Ideal.nD Cert.V03Ideal.τ).loc Cert.V03Ideal.main_arg0)
      ∧ r.2.mem ((c.tc : Thread Cert.V03Ideal.nD Cert.V03Ideal.τ).loc Cert.V03Ideal.main_arg1) = m ((c.tc : Thread Cert.V03Ideal.nD Cert.V03Ideal.τ).loc Cert.V03Ideal.main_arg1)
      ∧ r.2.mem ((c.tc : Thread Cert.V03Ideal.nD Cert.V03Ideal.τ).loc Cert.V03Ideal.main_arg2) = m ((c.tc : Thread Cert.V03Ideal.nD Cert.V03Ideal.τ).loc Cert.V03Ideal.main_arg2))
      ∧ r.2.sem = fun _ => 0)

def quiescent_V04 [hV04 : Cert.V04.Facts] : Prop :=
  ∀ (m : (ℓ : Loc Cert.V04.nD Cert.V04.τ Cert.V04.sig) → Buf (Elt Bits) ℓ) (g : Dev Cert.V04.nD → PrngReg), Pre_V04 m →
    θ_run (Cert.V04.defs (F := Bits)) (onTc (τ := Cert.V04.τ) (Cert.V04.main (F := Bits))) ⟨m, fun _ => 0, g⟩ (fun r => (∀ c : Dev Cert.V04.nD,
      r.2.mem ((c.tc : Thread Cert.V04.nD Cert.V04.τ).loc Cert.V04.main_arg0) = m ((c.tc : Thread Cert.V04.nD Cert.V04.τ).loc Cert.V04.main_arg0)
      ∧ r.2.mem ((c.tc : Thread Cert.V04.nD Cert.V04.τ).loc Cert.V04.main_arg1) = m ((c.tc : Thread Cert.V04.nD Cert.V04.τ).loc Cert.V04.main_arg1)
      ∧ r.2.mem ((c.tc : Thread Cert.V04.nD Cert.V04.τ).loc Cert.V04.main_arg2) = m ((c.tc : Thread Cert.V04.nD Cert.V04.τ).loc Cert.V04.main_arg2))
      ∧ r.2.sem = fun _ => 0)

def quiescent_V04Ideal [hV04Ideal : Cert.V04Ideal.Facts] : Prop :=
  ∀ (m : (ℓ : Loc Cert.V04Ideal.nD Cert.V04Ideal.τ Cert.V04Ideal.sig) → Buf (Elt Ideal) ℓ) (g : Dev Cert.V04Ideal.nD → PrngReg), Pre_V04Ideal m →
    θ_run (Cert.V04Ideal.defs (F := Ideal)) (onTc (τ := Cert.V04Ideal.τ) (Cert.V04Ideal.main (F := Ideal))) ⟨m, fun _ => 0, g⟩ (fun r => (∀ c : Dev Cert.V04Ideal.nD,
      r.2.mem ((c.tc : Thread Cert.V04Ideal.nD Cert.V04Ideal.τ).loc Cert.V04Ideal.main_arg0) = m ((c.tc : Thread Cert.V04Ideal.nD Cert.V04Ideal.τ).loc Cert.V04Ideal.main_arg0)
      ∧ r.2.mem ((c.tc : Thread Cert.V04Ideal.nD Cert.V04Ideal.τ).loc Cert.V04Ideal.main_arg1) = m ((c.tc : Thread Cert.V04Ideal.nD Cert.V04Ideal.τ).loc Cert.V04Ideal.main_arg1)
      ∧ r.2.mem ((c.tc : Thread Cert.V04Ideal.nD Cert.V04Ideal.τ).loc Cert.V04Ideal.main_arg2) = m ((c.tc : Thread Cert.V04Ideal.nD Cert.V04Ideal.τ).loc Cert.V04Ideal.main_arg2))
      ∧ r.2.sem = fun _ => 0)

def quiescent_V05 [hV05 : Cert.V05.Facts] : Prop :=
  ∀ (m : (ℓ : Loc Cert.V05.nD Cert.V05.τ Cert.V05.sig) → Buf (Elt Bits) ℓ) (g : Dev Cert.V05.nD → PrngReg), Pre_V05 m →
    θ_run (Cert.V05.defs (F := Bits)) (onTc (τ := Cert.V05.τ) (Cert.V05.main (F := Bits))) ⟨m, fun _ => 0, g⟩ (fun r => (∀ c : Dev Cert.V05.nD,
      r.2.mem ((c.tc : Thread Cert.V05.nD Cert.V05.τ).loc Cert.V05.main_arg0) = m ((c.tc : Thread Cert.V05.nD Cert.V05.τ).loc Cert.V05.main_arg0)
      ∧ r.2.mem ((c.tc : Thread Cert.V05.nD Cert.V05.τ).loc Cert.V05.main_arg1) = m ((c.tc : Thread Cert.V05.nD Cert.V05.τ).loc Cert.V05.main_arg1)
      ∧ r.2.mem ((c.tc : Thread Cert.V05.nD Cert.V05.τ).loc Cert.V05.main_arg2) = m ((c.tc : Thread Cert.V05.nD Cert.V05.τ).loc Cert.V05.main_arg2))
      ∧ r.2.sem = fun _ => 0)

def quiescent_V05Ideal [hV05Ideal : Cert.V05Ideal.Facts] : Prop :=
  ∀ (m : (ℓ : Loc Cert.V05Ideal.nD Cert.V05Ideal.τ Cert.V05Ideal.sig) → Buf (Elt Ideal) ℓ) (g : Dev Cert.V05Ideal.nD → PrngReg), Pre_V05Ideal m →
    θ_run (Cert.V05Ideal.defs (F := Ideal)) (onTc (τ := Cert.V05Ideal.τ) (Cert.V05Ideal.main (F := Ideal))) ⟨m, fun _ => 0, g⟩ (fun r => (∀ c : Dev Cert.V05Ideal.nD,
      r.2.mem ((c.tc : Thread Cert.V05Ideal.nD Cert.V05Ideal.τ).loc Cert.V05Ideal.main_arg0) = m ((c.tc : Thread Cert.V05Ideal.nD Cert.V05Ideal.τ).loc Cert.V05Ideal.main_arg0)
      ∧ r.2.mem ((c.tc : Thread Cert.V05Ideal.nD Cert.V05Ideal.τ).loc Cert.V05Ideal.main_arg1) = m ((c.tc : Thread Cert.V05Ideal.nD Cert.V05Ideal.τ).loc Cert.V05Ideal.main_arg1)
      ∧ r.2.mem ((c.tc : Thread Cert.V05Ideal.nD Cert.V05Ideal.τ).loc Cert.V05Ideal.main_arg2) = m ((c.tc : Thread Cert.V05Ideal.nD Cert.V05Ideal.τ).loc Cert.V05Ideal.main_arg2))
      ∧ r.2.sem = fun _ => 0)

def preserves_Nms_NmsIdeal : Prop :=
  True

def algebraic_NmsIdeal_NmsRefIdeal [hNmsIdeal : Cert.NmsIdeal.Facts] [hNmsRefIdeal : Cert.NmsRefIdeal.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsRefIdeal.nD Cert.NmsRefIdeal.τ Cert.NmsRefIdeal.sig) → Buf (Elt Ideal) ℓ) (g' : Dev Cert.NmsRefIdeal.nD → PrngReg), Pre_NmsIdeal m →
    (∀ c : Dev Cert.NmsIdeal.nD,
      m' ((c.tc : Thread Cert.NmsRefIdeal.nD Cert.NmsRefIdeal.τ).loc Cert.NmsRefIdeal.main_arg0) = m ((c.tc : Thread Cert.NmsIdeal.nD Cert.NmsIdeal.τ).loc Cert.NmsIdeal.main_arg0)
      ∧ m' ((c.tc : Thread Cert.NmsRefIdeal.nD Cert.NmsRefIdeal.τ).loc Cert.NmsRefIdeal.main_arg1) = m ((c.tc : Thread Cert.NmsIdeal.nD Cert.NmsIdeal.τ).loc Cert.NmsIdeal.main_arg1)) →
    ∃ (v0 : (c : Dev Cert.NmsIdeal.nD) → Buf (Elt Ideal) ((c.tc : Thread Cert.NmsIdeal.nD Cert.NmsIdeal.τ).loc Cert.NmsIdeal.main_v10)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v10) = v0 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ θ_run (Cert.NmsRefIdeal.defs (F := Ideal)) (onTc (τ := Cert.NmsRefIdeal.τ) (Cert.NmsRefIdeal.main (F := Ideal))) ⟨m', fun _ => 0, g'⟩ (fun r => ∀ c : Dev Cert.NmsRefIdeal.nD,
          r.2.mem ((c.tc : Thread Cert.NmsRefIdeal.nD Cert.NmsRefIdeal.τ).loc Cert.NmsRefIdeal.main_v74) = v0 c
          ∧ r.2.mem ((c.tc : Thread Cert.NmsRefIdeal.nD Cert.NmsRefIdeal.τ).loc Cert.NmsRefIdeal.main_arg0) = m' ((c.tc : Thread Cert.NmsRefIdeal.nD Cert.NmsRefIdeal.τ).loc Cert.NmsRefIdeal.main_arg0)
          ∧ r.2.mem ((c.tc : Thread Cert.NmsRefIdeal.nD Cert.NmsRefIdeal.τ).loc Cert.NmsRefIdeal.main_arg1) = m' ((c.tc : Thread Cert.NmsRefIdeal.nD Cert.NmsRefIdeal.τ).loc Cert.NmsRefIdeal.main_arg1))

def preserves_Decode_DecodeIdeal : Prop :=
  True

def algebraic_DecodeIdeal_DecodeRefIdeal [hDecodeIdeal : Cert.DecodeIdeal.Facts] [hDecodeRefIdeal : Cert.DecodeRefIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeRefIdeal.nD Cert.DecodeRefIdeal.τ Cert.DecodeRefIdeal.sig) → Buf (Elt Ideal) ℓ) (g' : Dev Cert.DecodeRefIdeal.nD → PrngReg), Pre_DecodeIdeal m →
    (∀ c : Dev Cert.DecodeIdeal.nD,
      m' ((c.tc : Thread Cert.DecodeRefIdeal.nD Cert.DecodeRefIdeal.τ).loc Cert.DecodeRefIdeal.main_arg0) = m ((c.tc : Thread Cert.DecodeIdeal.nD Cert.DecodeIdeal.τ).loc Cert.DecodeIdeal.main_arg0)
      ∧ m' ((c.tc : Thread Cert.DecodeRefIdeal.nD Cert.DecodeRefIdeal.τ).loc Cert.DecodeRefIdeal.main_arg1) = m ((c.tc : Thread Cert.DecodeIdeal.nD Cert.DecodeIdeal.τ).loc Cert.DecodeIdeal.main_arg1)) →
    ∃ (v0 : (c : Dev Cert.DecodeIdeal.nD) → Buf (Elt Ideal) ((c.tc : Thread Cert.DecodeIdeal.nD Cert.DecodeIdeal.τ).loc Cert.DecodeIdeal.main_v2)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v2) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ θ_run (Cert.DecodeRefIdeal.defs (F := Ideal)) (onTc (τ := Cert.DecodeRefIdeal.τ) (Cert.DecodeRefIdeal.main (F := Ideal))) ⟨m', fun _ => 0, g'⟩ (fun r => ∀ c : Dev Cert.DecodeRefIdeal.nD,
          r.2.mem ((c.tc : Thread Cert.DecodeRefIdeal.nD Cert.DecodeRefIdeal.τ).loc Cert.DecodeRefIdeal.main_v28) = v0 c
          ∧ r.2.mem ((c.tc : Thread Cert.DecodeRefIdeal.nD Cert.DecodeRefIdeal.τ).loc Cert.DecodeRefIdeal.main_arg0) = m' ((c.tc : Thread Cert.DecodeRefIdeal.nD Cert.DecodeRefIdeal.τ).loc Cert.DecodeRefIdeal.main_arg0)
          ∧ r.2.mem ((c.tc : Thread Cert.DecodeRefIdeal.nD Cert.DecodeRefIdeal.τ).loc Cert.DecodeRefIdeal.main_arg1) = m' ((c.tc : Thread Cert.DecodeRefIdeal.nD Cert.DecodeRefIdeal.τ).loc Cert.DecodeRefIdeal.main_arg1))

def preserves_Whole_WholeIdeal : Prop :=
  True

def holds_WholeIdeal_no_scores_pre_first_two_classes_low [hWholeIdeal : Cert.WholeIdeal.Facts] [hPre_first_two_classes_low : Cert.Pre_first_two_classes_low.Facts] [hPost_no_scores : Cert.Post_no_scores.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_first_two_classes_low m →
    θ_run (Cert.WholeIdeal.defs (F := Ideal)) (onTc (τ := Cert.WholeIdeal.τ) (Cert.WholeIdeal.main (F := Ideal))) ⟨m, fun _ => 0, g⟩ (fun r => ∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ (Cert.Post_no_scores.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (r.2.mem ((c.tc : Thread Cert.WholeIdeal.nD Cert.WholeIdeal.τ).loc Cert.WholeIdeal.main_v43)) (r.2.mem ((c.tc : Thread Cert.WholeIdeal.nD Cert.WholeIdeal.τ).loc Cert.WholeIdeal.main_v45)) (r.2.mem ((c.tc : Thread Cert.WholeIdeal.nD Cert.WholeIdeal.τ).loc Cert.WholeIdeal.main_v44)) (r.2.mem ((c.tc : Thread Cert.WholeIdeal.nD Cert.WholeIdeal.τ).loc Cert.WholeIdeal.main_v47))) = (fun _ => 1#1))

def holds_WholeRefIdeal_a_score_pre_first_two_classes_low [hWholeRefIdeal : Cert.WholeRefIdeal.Facts] [hPre_first_two_classes_low : Cert.Pre_first_two_classes_low.Facts] [hPost_a_score : Cert.Post_a_score.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_first_two_classes_low m →
    θ_run (Cert.WholeRefIdeal.defs (F := Ideal)) (onTc (τ := Cert.WholeRefIdeal.τ) (Cert.WholeRefIdeal.main (F := Ideal))) ⟨m, fun _ => 0, g⟩ (fun r => ∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ (Cert.Post_a_score.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (r.2.mem ((c.tc : Thread Cert.WholeRefIdeal.nD Cert.WholeRefIdeal.τ).loc Cert.WholeRefIdeal.main_v126)) (r.2.mem ((c.tc : Thread Cert.WholeRefIdeal.nD Cert.WholeRefIdeal.τ).loc Cert.WholeRefIdeal.main_v135)) (r.2.mem ((c.tc : Thread Cert.WholeRefIdeal.nD Cert.WholeRefIdeal.τ).loc Cert.WholeRefIdeal.main_v134)) (r.2.mem ((c.tc : Thread Cert.WholeRefIdeal.nD Cert.WholeRefIdeal.τ).loc Cert.WholeRefIdeal.main_v137))) = (fun _ => 1#1))

def holds_WholeIdeal_nothing_found_pre_first_two_classes_low [hWholeIdeal : Cert.WholeIdeal.Facts] [hPre_first_two_classes_low : Cert.Pre_first_two_classes_low.Facts] [hPost_nothing_found : Cert.Post_nothing_found.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_first_two_classes_low m →
    θ_run (Cert.WholeIdeal.defs (F := Ideal)) (onTc (τ := Cert.WholeIdeal.τ) (Cert.WholeIdeal.main (F := Ideal))) ⟨m, fun _ => 0, g⟩ (fun r => ∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ (Cert.Post_nothing_found.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (r.2.mem ((c.tc : Thread Cert.WholeIdeal.nD Cert.WholeIdeal.τ).loc Cert.WholeIdeal.main_v43)) (r.2.mem ((c.tc : Thread Cert.WholeIdeal.nD Cert.WholeIdeal.τ).loc Cert.WholeIdeal.main_v45)) (r.2.mem ((c.tc : Thread Cert.WholeIdeal.nD Cert.WholeIdeal.τ).loc Cert.WholeIdeal.main_v44)) (r.2.mem ((c.tc : Thread Cert.WholeIdeal.nD Cert.WholeIdeal.τ).loc Cert.WholeIdeal.main_v47))).1 = (fun _ => 1#1)
      ∧ (Cert.Post_nothing_found.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (r.2.mem ((c.tc : Thread Cert.WholeIdeal.nD Cert.WholeIdeal.τ).loc Cert.WholeIdeal.main_v43)) (r.2.mem ((c.tc : Thread Cert.WholeIdeal.nD Cert.WholeIdeal.τ).loc Cert.WholeIdeal.main_v45)) (r.2.mem ((c.tc : Thread Cert.WholeIdeal.nD Cert.WholeIdeal.τ).loc Cert.WholeIdeal.main_v44)) (r.2.mem ((c.tc : Thread Cert.WholeIdeal.nD Cert.WholeIdeal.τ).loc Cert.WholeIdeal.main_v47))).2.1 = (fun _ => 1#1)
      ∧ (Cert.Post_nothing_found.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (r.2.mem ((c.tc : Thread Cert.WholeIdeal.nD Cert.WholeIdeal.τ).loc Cert.WholeIdeal.main_v43)) (r.2.mem ((c.tc : Thread Cert.WholeIdeal.nD Cert.WholeIdeal.τ).loc Cert.WholeIdeal.main_v45)) (r.2.mem ((c.tc : Thread Cert.WholeIdeal.nD Cert.WholeIdeal.τ).loc Cert.WholeIdeal.main_v44)) (r.2.mem ((c.tc : Thread Cert.WholeIdeal.nD Cert.WholeIdeal.τ).loc Cert.WholeIdeal.main_v47))).2.2 = (fun _ => 1#1))

def holds_WholeRefIdeal_a_detection_pre_first_two_classes_low [hWholeRefIdeal : Cert.WholeRefIdeal.Facts] [hPre_first_two_classes_low : Cert.Pre_first_two_classes_low.Facts] [hPost_a_detection : Cert.Post_a_detection.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_first_two_classes_low m →
    θ_run (Cert.WholeRefIdeal.defs (F := Ideal)) (onTc (τ := Cert.WholeRefIdeal.τ) (Cert.WholeRefIdeal.main (F := Ideal))) ⟨m, fun _ => 0, g⟩ (fun r => ∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ (Cert.Post_a_detection.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (r.2.mem ((c.tc : Thread Cert.WholeRefIdeal.nD Cert.WholeRefIdeal.τ).loc Cert.WholeRefIdeal.main_v126)) (r.2.mem ((c.tc : Thread Cert.WholeRefIdeal.nD Cert.WholeRefIdeal.τ).loc Cert.WholeRefIdeal.main_v135)) (r.2.mem ((c.tc : Thread Cert.WholeRefIdeal.nD Cert.WholeRefIdeal.τ).loc Cert.WholeRefIdeal.main_v134)) (r.2.mem ((c.tc : Thread Cert.WholeRefIdeal.nD Cert.WholeRefIdeal.τ).loc Cert.WholeRefIdeal.main_v137))).1 = (fun _ => 1#1)
      ∧ (Cert.Post_a_detection.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (r.2.mem ((c.tc : Thread Cert.WholeRefIdeal.nD Cert.WholeRefIdeal.τ).loc Cert.WholeRefIdeal.main_v126)) (r.2.mem ((c.tc : Thread Cert.WholeRefIdeal.nD Cert.WholeRefIdeal.τ).loc Cert.WholeRefIdeal.main_v135)) (r.2.mem ((c.tc : Thread Cert.WholeRefIdeal.nD Cert.WholeRefIdeal.τ).loc Cert.WholeRefIdeal.main_v134)) (r.2.mem ((c.tc : Thread Cert.WholeRefIdeal.nD Cert.WholeRefIdeal.τ).loc Cert.WholeRefIdeal.main_v137))).2 = (fun _ => 1#1))

def holds_WholeRefIdeal_a_box_pre_first_two_classes_low_boxes_positive [hWholeRefIdeal : Cert.WholeRefIdeal.Facts] [hPre_first_two_classes_low_boxes_positive : Cert.Pre_first_two_classes_low_boxes_positive.Facts] [hPost_a_box : Cert.Post_a_box.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_first_two_classes_low_boxes_positive m →
    θ_run (Cert.WholeRefIdeal.defs (F := Ideal)) (onTc (τ := Cert.WholeRefIdeal.τ) (Cert.WholeRefIdeal.main (F := Ideal))) ⟨m, fun _ => 0, g⟩ (fun r => ∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ (Cert.Post_a_box.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (r.2.mem ((c.tc : Thread Cert.WholeRefIdeal.nD Cert.WholeRefIdeal.τ).loc Cert.WholeRefIdeal.main_v126)) (r.2.mem ((c.tc : Thread Cert.WholeRefIdeal.nD Cert.WholeRefIdeal.τ).loc Cert.WholeRefIdeal.main_v135)) (r.2.mem ((c.tc : Thread Cert.WholeRefIdeal.nD Cert.WholeRefIdeal.τ).loc Cert.WholeRefIdeal.main_v134)) (r.2.mem ((c.tc : Thread Cert.WholeRefIdeal.nD Cert.WholeRefIdeal.τ).loc Cert.WholeRefIdeal.main_v137))) = (fun _ => 1#1))

def preserves_V00_V00Ideal : Prop :=
  True

def holds_V00Ideal_first_place_empty_pre_first_two_classes_low [hV00Ideal : Cert.V00Ideal.Facts] [hPre_first_two_classes_low : Cert.Pre_first_two_classes_low.Facts] [hPost_first_place_empty : Cert.Post_first_place_empty.Facts] : Prop :=
  ∀ (m : (ℓ : Loc Cert.V00Ideal.nD Cert.V00Ideal.τ Cert.V00Ideal.sig) → Buf (Elt Ideal) ℓ) (g : Dev Cert.V00Ideal.nD → PrngReg), Pre_V00Ideal_first_two_classes_low m →
    θ_run (Cert.V00Ideal.defs (F := Ideal)) (onTc (τ := Cert.V00Ideal.τ) (Cert.V00Ideal.main (F := Ideal))) ⟨m, fun _ => 0, g⟩ (fun r => ∀ c : Dev Cert.V00Ideal.nD,
      r.2.mem ((c.tc : Thread Cert.V00Ideal.nD Cert.V00Ideal.τ).loc Cert.V00Ideal.main_arg0) = m ((c.tc : Thread Cert.V00Ideal.nD Cert.V00Ideal.τ).loc Cert.V00Ideal.main_arg0)
      ∧ r.2.mem ((c.tc : Thread Cert.V00Ideal.nD Cert.V00Ideal.τ).loc Cert.V00Ideal.main_arg1) = m ((c.tc : Thread Cert.V00Ideal.nD Cert.V00Ideal.τ).loc Cert.V00Ideal.main_arg1)
      ∧ r.2.mem ((c.tc : Thread Cert.V00Ideal.nD Cert.V00Ideal.τ).loc Cert.V00Ideal.main_arg2) = m ((c.tc : Thread Cert.V00Ideal.nD Cert.V00Ideal.τ).loc Cert.V00Ideal.main_arg2)
      ∧ (Cert.Post_first_place_empty.fn (F := Ideal) (m ((c.tc : Thread Cert.V00Ideal.nD Cert.V00Ideal.τ).loc Cert.V00Ideal.main_arg0)) (m ((c.tc : Thread Cert.V00Ideal.nD Cert.V00Ideal.τ).loc Cert.V00Ideal.main_arg1)) (m ((c.tc : Thread Cert.V00Ideal.nD Cert.V00Ideal.τ).loc Cert.V00Ideal.main_arg2)) (r.2.mem ((c.tc : Thread Cert.V00Ideal.nD Cert.V00Ideal.τ).loc Cert.V00Ideal.main_v41)) (r.2.mem ((c.tc : Thread Cert.V00Ideal.nD Cert.V00Ideal.τ).loc Cert.V00Ideal.main_v43)) (r.2.mem ((c.tc : Thread Cert.V00Ideal.nD Cert.V00Ideal.τ).loc Cert.V00Ideal.main_v42)) (r.2.mem ((c.tc : Thread Cert.V00Ideal.nD Cert.V00Ideal.τ).loc Cert.V00Ideal.main_v45))).1 = (fun _ => 1#1)
      ∧ (Cert.Post_first_place_empty.fn (F := Ideal) (m ((c.tc : Thread Cert.V00Ideal.nD Cert.V00Ideal.τ).loc Cert.V00Ideal.main_arg0)) (m ((c.tc : Thread Cert.V00Ideal.nD Cert.V00Ideal.τ).loc Cert.V00Ideal.main_arg1)) (m ((c.tc : Thread Cert.V00Ideal.nD Cert.V00Ideal.τ).loc Cert.V00Ideal.main_arg2)) (r.2.mem ((c.tc : Thread Cert.V00Ideal.nD Cert.V00Ideal.τ).loc Cert.V00Ideal.main_v41)) (r.2.mem ((c.tc : Thread Cert.V00Ideal.nD Cert.V00Ideal.τ).loc Cert.V00Ideal.main_v43)) (r.2.mem ((c.tc : Thread Cert.V00Ideal.nD Cert.V00Ideal.τ).loc Cert.V00Ideal.main_v42)) (r.2.mem ((c.tc : Thread Cert.V00Ideal.nD Cert.V00Ideal.τ).loc Cert.V00Ideal.main_v45))).2.1 = (fun _ => 1#1)
      ∧ (Cert.Post_first_place_empty.fn (F := Ideal) (m ((c.tc : Thread Cert.V00Ideal.nD Cert.V00Ideal.τ).loc Cert.V00Ideal.main_arg0)) (m ((c.tc : Thread Cert.V00Ideal.nD Cert.V00Ideal.τ).loc Cert.V00Ideal.main_arg1)) (m ((c.tc : Thread Cert.V00Ideal.nD Cert.V00Ideal.τ).loc Cert.V00Ideal.main_arg2)) (r.2.mem ((c.tc : Thread Cert.V00Ideal.nD Cert.V00Ideal.τ).loc Cert.V00Ideal.main_v41)) (r.2.mem ((c.tc : Thread Cert.V00Ideal.nD Cert.V00Ideal.τ).loc Cert.V00Ideal.main_v43)) (r.2.mem ((c.tc : Thread Cert.V00Ideal.nD Cert.V00Ideal.τ).loc Cert.V00Ideal.main_v42)) (r.2.mem ((c.tc : Thread Cert.V00Ideal.nD Cert.V00Ideal.τ).loc Cert.V00Ideal.main_v45))).2.2 = (fun _ => 1#1))

def preserves_V02_V02Ideal : Prop :=
  True

def holds_V02Ideal_none_counted [hV02Ideal : Cert.V02Ideal.Facts] [hPost_none_counted : Cert.Post_none_counted.Facts] : Prop :=
  ∀ (m : (ℓ : Loc Cert.V02Ideal.nD Cert.V02Ideal.τ Cert.V02Ideal.sig) → Buf (Elt Ideal) ℓ) (g : Dev Cert.V02Ideal.nD → PrngReg), Pre_V02Ideal m →
    θ_run (Cert.V02Ideal.defs (F := Ideal)) (onTc (τ := Cert.V02Ideal.τ) (Cert.V02Ideal.main (F := Ideal))) ⟨m, fun _ => 0, g⟩ (fun r => ∀ c : Dev Cert.V02Ideal.nD,
      r.2.mem ((c.tc : Thread Cert.V02Ideal.nD Cert.V02Ideal.τ).loc Cert.V02Ideal.main_arg0) = m ((c.tc : Thread Cert.V02Ideal.nD Cert.V02Ideal.τ).loc Cert.V02Ideal.main_arg0)
      ∧ r.2.mem ((c.tc : Thread Cert.V02Ideal.nD Cert.V02Ideal.τ).loc Cert.V02Ideal.main_arg1) = m ((c.tc : Thread Cert.V02Ideal.nD Cert.V02Ideal.τ).loc Cert.V02Ideal.main_arg1)
      ∧ r.2.mem ((c.tc : Thread Cert.V02Ideal.nD Cert.V02Ideal.τ).loc Cert.V02Ideal.main_arg2) = m ((c.tc : Thread Cert.V02Ideal.nD Cert.V02Ideal.τ).loc Cert.V02Ideal.main_arg2)
      ∧ (Cert.Post_none_counted.fn (F := Ideal) (m ((c.tc : Thread Cert.V02Ideal.nD Cert.V02Ideal.τ).loc Cert.V02Ideal.main_arg0)) (m ((c.tc : Thread Cert.V02Ideal.nD Cert.V02Ideal.τ).loc Cert.V02Ideal.main_arg1)) (m ((c.tc : Thread Cert.V02Ideal.nD Cert.V02Ideal.τ).loc Cert.V02Ideal.main_arg2)) (r.2.mem ((c.tc : Thread Cert.V02Ideal.nD Cert.V02Ideal.τ).loc Cert.V02Ideal.main_v12)) (r.2.mem ((c.tc : Thread Cert.V02Ideal.nD Cert.V02Ideal.τ).loc Cert.V02Ideal.main_v15)) (r.2.mem ((c.tc : Thread Cert.V02Ideal.nD Cert.V02Ideal.τ).loc Cert.V02Ideal.main_v18)) (r.2.mem ((c.tc : Thread Cert.V02Ideal.nD Cert.V02Ideal.τ).loc Cert.V02Ideal.main_v19))) = (fun _ => 1#1))

def preserves_V03_V03Ideal : Prop :=
  True

def holds_V03Ideal_none_counted [hV03Ideal : Cert.V03Ideal.Facts] [hPost_none_counted : Cert.Post_none_counted.Facts] : Prop :=
  ∀ (m : (ℓ : Loc Cert.V03Ideal.nD Cert.V03Ideal.τ Cert.V03Ideal.sig) → Buf (Elt Ideal) ℓ) (g : Dev Cert.V03Ideal.nD → PrngReg), Pre_V03Ideal m →
    θ_run (Cert.V03Ideal.defs (F := Ideal)) (onTc (τ := Cert.V03Ideal.τ) (Cert.V03Ideal.main (F := Ideal))) ⟨m, fun _ => 0, g⟩ (fun r => ∀ c : Dev Cert.V03Ideal.nD,
      r.2.mem ((c.tc : Thread Cert.V03Ideal.nD Cert.V03Ideal.τ).loc Cert.V03Ideal.main_arg0) = m ((c.tc : Thread Cert.V03Ideal.nD Cert.V03Ideal.τ).loc Cert.V03Ideal.main_arg0)
      ∧ r.2.mem ((c.tc : Thread Cert.V03Ideal.nD Cert.V03Ideal.τ).loc Cert.V03Ideal.main_arg1) = m ((c.tc : Thread Cert.V03Ideal.nD Cert.V03Ideal.τ).loc Cert.V03Ideal.main_arg1)
      ∧ r.2.mem ((c.tc : Thread Cert.V03Ideal.nD Cert.V03Ideal.τ).loc Cert.V03Ideal.main_arg2) = m ((c.tc : Thread Cert.V03Ideal.nD Cert.V03Ideal.τ).loc Cert.V03Ideal.main_arg2)
      ∧ (Cert.Post_none_counted.fn (F := Ideal) (m ((c.tc : Thread Cert.V03Ideal.nD Cert.V03Ideal.τ).loc Cert.V03Ideal.main_arg0)) (m ((c.tc : Thread Cert.V03Ideal.nD Cert.V03Ideal.τ).loc Cert.V03Ideal.main_arg1)) (m ((c.tc : Thread Cert.V03Ideal.nD Cert.V03Ideal.τ).loc Cert.V03Ideal.main_arg2)) (r.2.mem ((c.tc : Thread Cert.V03Ideal.nD Cert.V03Ideal.τ).loc Cert.V03Ideal.main_v18)) (r.2.mem ((c.tc : Thread Cert.V03Ideal.nD Cert.V03Ideal.τ).loc Cert.V03Ideal.main_v21)) (r.2.mem ((c.tc : Thread Cert.V03Ideal.nD Cert.V03Ideal.τ).loc Cert.V03Ideal.main_v24)) (r.2.mem ((c.tc : Thread Cert.V03Ideal.nD Cert.V03Ideal.τ).loc Cert.V03Ideal.main_v25))) = (fun _ => 1#1))

def preserves_V04_V04Ideal : Prop :=
  True

def holds_V04Ideal_none_counted [hV04Ideal : Cert.V04Ideal.Facts] [hPost_none_counted : Cert.Post_none_counted.Facts] : Prop :=
  ∀ (m : (ℓ : Loc Cert.V04Ideal.nD Cert.V04Ideal.τ Cert.V04Ideal.sig) → Buf (Elt Ideal) ℓ) (g : Dev Cert.V04Ideal.nD → PrngReg), Pre_V04Ideal m →
    θ_run (Cert.V04Ideal.defs (F := Ideal)) (onTc (τ := Cert.V04Ideal.τ) (Cert.V04Ideal.main (F := Ideal))) ⟨m, fun _ => 0, g⟩ (fun r => ∀ c : Dev Cert.V04Ideal.nD,
      r.2.mem ((c.tc : Thread Cert.V04Ideal.nD Cert.V04Ideal.τ).loc Cert.V04Ideal.main_arg0) = m ((c.tc : Thread Cert.V04Ideal.nD Cert.V04Ideal.τ).loc Cert.V04Ideal.main_arg0)
      ∧ r.2.mem ((c.tc : Thread Cert.V04Ideal.nD Cert.V04Ideal.τ).loc Cert.V04Ideal.main_arg1) = m ((c.tc : Thread Cert.V04Ideal.nD Cert.V04Ideal.τ).loc Cert.V04Ideal.main_arg1)
      ∧ r.2.mem ((c.tc : Thread Cert.V04Ideal.nD Cert.V04Ideal.τ).loc Cert.V04Ideal.main_arg2) = m ((c.tc : Thread Cert.V04Ideal.nD Cert.V04Ideal.τ).loc Cert.V04Ideal.main_arg2)
      ∧ (Cert.Post_none_counted.fn (F := Ideal) (m ((c.tc : Thread Cert.V04Ideal.nD Cert.V04Ideal.τ).loc Cert.V04Ideal.main_arg0)) (m ((c.tc : Thread Cert.V04Ideal.nD Cert.V04Ideal.τ).loc Cert.V04Ideal.main_arg1)) (m ((c.tc : Thread Cert.V04Ideal.nD Cert.V04Ideal.τ).loc Cert.V04Ideal.main_arg2)) (r.2.mem ((c.tc : Thread Cert.V04Ideal.nD Cert.V04Ideal.τ).loc Cert.V04Ideal.main_v23)) (r.2.mem ((c.tc : Thread Cert.V04Ideal.nD Cert.V04Ideal.τ).loc Cert.V04Ideal.main_v26)) (r.2.mem ((c.tc : Thread Cert.V04Ideal.nD Cert.V04Ideal.τ).loc Cert.V04Ideal.main_v29)) (r.2.mem ((c.tc : Thread Cert.V04Ideal.nD Cert.V04Ideal.τ).loc Cert.V04Ideal.main_v30))) = (fun _ => 1#1))

def preserves_V05_V05Ideal : Prop :=
  True

def holds_V05Ideal_none_counted [hV05Ideal : Cert.V05Ideal.Facts] [hPost_none_counted : Cert.Post_none_counted.Facts] : Prop :=
  ∀ (m : (ℓ : Loc Cert.V05Ideal.nD Cert.V05Ideal.τ Cert.V05Ideal.sig) → Buf (Elt Ideal) ℓ) (g : Dev Cert.V05Ideal.nD → PrngReg), Pre_V05Ideal m →
    θ_run (Cert.V05Ideal.defs (F := Ideal)) (onTc (τ := Cert.V05Ideal.τ) (Cert.V05Ideal.main (F := Ideal))) ⟨m, fun _ => 0, g⟩ (fun r => ∀ c : Dev Cert.V05Ideal.nD,
      r.2.mem ((c.tc : Thread Cert.V05Ideal.nD Cert.V05Ideal.τ).loc Cert.V05Ideal.main_arg0) = m ((c.tc : Thread Cert.V05Ideal.nD Cert.V05Ideal.τ).loc Cert.V05Ideal.main_arg0)
      ∧ r.2.mem ((c.tc : Thread Cert.V05Ideal.nD Cert.V05Ideal.τ).loc Cert.V05Ideal.main_arg1) = m ((c.tc : Thread Cert.V05Ideal.nD Cert.V05Ideal.τ).loc Cert.V05Ideal.main_arg1)
      ∧ r.2.mem ((c.tc : Thread Cert.V05Ideal.nD Cert.V05Ideal.τ).loc Cert.V05Ideal.main_arg2) = m ((c.tc : Thread Cert.V05Ideal.nD Cert.V05Ideal.τ).loc Cert.V05Ideal.main_arg2)
      ∧ (Cert.Post_none_counted.fn (F := Ideal) (m ((c.tc : Thread Cert.V05Ideal.nD Cert.V05Ideal.τ).loc Cert.V05Ideal.main_arg0)) (m ((c.tc : Thread Cert.V05Ideal.nD Cert.V05Ideal.τ).loc Cert.V05Ideal.main_arg1)) (m ((c.tc : Thread Cert.V05Ideal.nD Cert.V05Ideal.τ).loc Cert.V05Ideal.main_arg2)) (r.2.mem ((c.tc : Thread Cert.V05Ideal.nD Cert.V05Ideal.τ).loc Cert.V05Ideal.main_v21)) (r.2.mem ((c.tc : Thread Cert.V05Ideal.nD Cert.V05Ideal.τ).loc Cert.V05Ideal.main_v24)) (r.2.mem ((c.tc : Thread Cert.V05Ideal.nD Cert.V05Ideal.τ).loc Cert.V05Ideal.main_v27)) (r.2.mem ((c.tc : Thread Cert.V05Ideal.nD Cert.V05Ideal.τ).loc Cert.V05Ideal.main_v28))) = (fun _ => 1#1))

def Claim : Prop :=
  ∃ (hNms : Cert.Nms.Facts) (hNmsIdeal : Cert.NmsIdeal.Facts) (hNmsRefIdeal : Cert.NmsRefIdeal.Facts) (hDecode : Cert.Decode.Facts) (hDecodeIdeal : Cert.DecodeIdeal.Facts) (hDecodeRefIdeal : Cert.DecodeRefIdeal.Facts) (hWhole : Cert.Whole.Facts) (hWholeIdeal : Cert.WholeIdeal.Facts) (hWholeRefIdeal : Cert.WholeRefIdeal.Facts) (hV00 : Cert.V00.Facts) (hV00Ideal : Cert.V00Ideal.Facts) (hV02 : Cert.V02.Facts) (hV02Ideal : Cert.V02Ideal.Facts) (hV03 : Cert.V03.Facts) (hV03Ideal : Cert.V03Ideal.Facts) (hV04 : Cert.V04.Facts) (hV04Ideal : Cert.V04Ideal.Facts) (hV05 : Cert.V05.Facts) (hV05Ideal : Cert.V05Ideal.Facts) (hPre_first_two_classes_low : Cert.Pre_first_two_classes_low.Facts) (hPre_first_two_classes_low_boxes_positive : Cert.Pre_first_two_classes_low_boxes_positive.Facts) (hPost_no_scores : Cert.Post_no_scores.Facts) (hPost_a_score : Cert.Post_a_score.Facts) (hPost_nothing_found : Cert.Post_nothing_found.Facts) (hPost_a_detection : Cert.Post_a_detection.Facts) (hPost_a_box : Cert.Post_a_box.Facts) (hPost_first_place_empty : Cert.Post_first_place_empty.Facts) (hPost_none_counted : Cert.Post_none_counted.Facts),
    quiescent_Nms (hNms := hNms)
    ∧ quiescent_NmsIdeal (hNmsIdeal := hNmsIdeal)
    ∧ quiescent_NmsRefIdeal (hNmsRefIdeal := hNmsRefIdeal)
    ∧ quiescent_Decode (hDecode := hDecode)
    ∧ quiescent_DecodeIdeal (hDecodeIdeal := hDecodeIdeal)
    ∧ quiescent_DecodeRefIdeal (hDecodeRefIdeal := hDecodeRefIdeal)
    ∧ quiescent_Whole (hWhole := hWhole)
    ∧ quiescent_WholeIdeal (hWholeIdeal := hWholeIdeal)
    ∧ quiescent_WholeIdeal_pre_first_two_classes_low (hWholeIdeal := hWholeIdeal) (hPre_first_two_classes_low := hPre_first_two_classes_low)
    ∧ quiescent_WholeRefIdeal (hWholeRefIdeal := hWholeRefIdeal)
    ∧ quiescent_WholeRefIdeal_pre_first_two_classes_low (hWholeRefIdeal := hWholeRefIdeal) (hPre_first_two_classes_low := hPre_first_two_classes_low)
    ∧ quiescent_WholeRefIdeal_pre_first_two_classes_low_boxes_positive (hWholeRefIdeal := hWholeRefIdeal) (hPre_first_two_classes_low_boxes_positive := hPre_first_two_classes_low_boxes_positive)
    ∧ quiescent_V00 (hV00 := hV00)
    ∧ quiescent_V00Ideal (hV00Ideal := hV00Ideal)
    ∧ quiescent_V00Ideal_pre_first_two_classes_low (hV00Ideal := hV00Ideal) (hPre_first_two_classes_low := hPre_first_two_classes_low)
    ∧ quiescent_V02 (hV02 := hV02)
    ∧ quiescent_V02Ideal (hV02Ideal := hV02Ideal)
    ∧ quiescent_V03 (hV03 := hV03)
    ∧ quiescent_V03Ideal (hV03Ideal := hV03Ideal)
    ∧ quiescent_V04 (hV04 := hV04)
    ∧ quiescent_V04Ideal (hV04Ideal := hV04Ideal)
    ∧ quiescent_V05 (hV05 := hV05)
    ∧ quiescent_V05Ideal (hV05Ideal := hV05Ideal)
    ∧ preserves_Nms_NmsIdeal
    ∧ algebraic_NmsIdeal_NmsRefIdeal (hNmsIdeal := hNmsIdeal) (hNmsRefIdeal := hNmsRefIdeal)
    ∧ preserves_Decode_DecodeIdeal
    ∧ algebraic_DecodeIdeal_DecodeRefIdeal (hDecodeIdeal := hDecodeIdeal) (hDecodeRefIdeal := hDecodeRefIdeal)
    ∧ preserves_Whole_WholeIdeal
    ∧ holds_WholeIdeal_no_scores_pre_first_two_classes_low (hWholeIdeal := hWholeIdeal) (hPre_first_two_classes_low := hPre_first_two_classes_low) (hPost_no_scores := hPost_no_scores)
    ∧ holds_WholeRefIdeal_a_score_pre_first_two_classes_low (hWholeRefIdeal := hWholeRefIdeal) (hPre_first_two_classes_low := hPre_first_two_classes_low) (hPost_a_score := hPost_a_score)
    ∧ holds_WholeIdeal_nothing_found_pre_first_two_classes_low (hWholeIdeal := hWholeIdeal) (hPre_first_two_classes_low := hPre_first_two_classes_low) (hPost_nothing_found := hPost_nothing_found)
    ∧ holds_WholeRefIdeal_a_detection_pre_first_two_classes_low (hWholeRefIdeal := hWholeRefIdeal) (hPre_first_two_classes_low := hPre_first_two_classes_low) (hPost_a_detection := hPost_a_detection)
    ∧ holds_WholeRefIdeal_a_box_pre_first_two_classes_low_boxes_positive (hWholeRefIdeal := hWholeRefIdeal) (hPre_first_two_classes_low_boxes_positive := hPre_first_two_classes_low_boxes_positive) (hPost_a_box := hPost_a_box)
    ∧ preserves_V00_V00Ideal
    ∧ holds_V00Ideal_first_place_empty_pre_first_two_classes_low (hV00Ideal := hV00Ideal) (hPre_first_two_classes_low := hPre_first_two_classes_low) (hPost_first_place_empty := hPost_first_place_empty)
    ∧ preserves_V02_V02Ideal
    ∧ holds_V02Ideal_none_counted (hV02Ideal := hV02Ideal) (hPost_none_counted := hPost_none_counted)
    ∧ preserves_V03_V03Ideal
    ∧ holds_V03Ideal_none_counted (hV03Ideal := hV03Ideal) (hPost_none_counted := hPost_none_counted)
    ∧ preserves_V04_V04Ideal
    ∧ holds_V04Ideal_none_counted (hV04Ideal := hV04Ideal) (hPost_none_counted := hPost_none_counted)
    ∧ preserves_V05_V05Ideal
    ∧ holds_V05Ideal_none_counted (hV05Ideal := hV05Ideal) (hPost_none_counted := hPost_none_counted)
-- ==== Post_a_box.lean ====
abbrev S8x20000x80 : Shape := ⟨3, ![8, 20000, 80]⟩
abbrev S8x20000x4 : Shape := ⟨3, ![8, 20000, 4]⟩
abbrev S20000x4 : Shape := ⟨2, ![20000, 4]⟩
abbrev S8x1000x4 : Shape := ⟨3, ![8, 1000, 4]⟩
abbrev S8x1000 : Shape := ⟨2, ![8, 1000]⟩
abbrev S8 : Shape := ⟨1, ![8]⟩
abbrev S8x1x1 : Shape := ⟨3, ![8, 1, 1]⟩
abbrev S_ : Shape := ⟨0, ![]⟩

class Facts : Prop where
  slices_S8x1000x4_S8x1x1_0_0_2 : S8x1000x4.Slices ![0, 0, 2] S8x1x1
  shapeCasts_S8x1x1_S8 : S8x1x1.ShapeCasts S8
  bcast_S_S8 : S_.BroadcastsInDim S8 (![] : Fin 0 → Fin S8.rank)

variable [Facts]

def fn {F : FTy → Type} [FloatOps F] (main_arg0 : FVec F S8x20000x80 .f32) (main_arg1 : FVec F S8x20000x4 .f32) (main_arg2 : FVec F S20000x4 .f32) (main_arg3 : FVec F S8x1000x4 .f32) (main_arg4 : FVec F S8x1000 .f32) (main_arg5 : FVec F S8x1000 .f32) (main_arg6 : IVec S8 32) : IVec S8 1 :=
  let main_v0 : FVec F S8x1x1 .f32 := (extractStridedSlice S8x1x1 ![0, 0, 2] · slices_S8x1000x4_S8x1x1_0_0_2) main_arg3
  let main_v1 : FVec F S8 .f32 := shapeCast S8 main_v0 shapeCasts_S8x1x1_S8
  let main_cst : FVec F S_ .f32 := constant S_ .f32 0x00000000#32
  let main_v2 : FVec F S8 .f32 := broadcastInDim S8 ![] bcast_S_S8 main_cst
  let main_v3 : IVec S8 1 := cmpf .ogt main_v1 main_v2
  main_v3
-- ==== Post_a_detection.lean ====
abbrev S8x20000x80 : Shape := ⟨3, ![8, 20000, 80]⟩
abbrev S8x20000x4 : Shape := ⟨3, ![8, 20000, 4]⟩
abbrev S20000x4 : Shape := ⟨2, ![20000, 4]⟩
abbrev S8x1000x4 : Shape := ⟨3, ![8, 1000, 4]⟩
abbrev S8x1000 : Shape := ⟨2, ![8, 1000]⟩
abbrev S8 : Shape := ⟨1, ![8]⟩
abbrev S8x1 : Shape := ⟨2, ![8, 1]⟩
abbrev S_ : Shape := ⟨0, ![]⟩

class Facts : Prop where
  slices_S8x1000_S8x1_0_0 : S8x1000.Slices ![0, 0] S8x1
  shapeCasts_S8x1_S8 : S8x1.ShapeCasts S8
  bcast_S_S8 : S_.BroadcastsInDim S8 (![] : Fin 0 → Fin S8.rank)

variable [Facts]

def fn {F : FTy → Type} [FloatOps F] (main_arg0 : FVec F S8x20000x80 .f32) (main_arg1 : FVec F S8x20000x4 .f32) (main_arg2 : FVec F S20000x4 .f32) (main_arg3 : FVec F S8x1000x4 .f32) (main_arg4 : FVec F S8x1000 .f32) (main_arg5 : FVec F S8x1000 .f32) (main_arg6 : IVec S8 32) : IVec S8 1 × IVec S8 1 :=
  let main_v0 : FVec F S8x1 .f32 := (extractStridedSlice S8x1 ![0, 0] · slices_S8x1000_S8x1_0_0) main_arg5
  let main_v1 : FVec F S8 .f32 := shapeCast S8 main_v0 shapeCasts_S8x1_S8
  let main_cst : FVec F S_ .f32 := constant S_ .f32 0x40000000#32
  let main_v2 : FVec F S8 .f32 := broadcastInDim S8 ![] bcast_S_S8 main_cst
  let main_v3 : IVec S8 1 := cmpf .oge main_v1 main_v2
  let main_c : IVec S_ 32 := constantI S_ 32 0#32
  let main_v4 : IVec S8 32 := broadcastInDim S8 ![] bcast_S_S8 main_c
  let main_v5 : IVec S8 1 := cmpi .sgt main_arg6 main_v4
  (main_v3, main_v5)
-- ==== Post_a_score.lean ====
abbrev S8x20000x80 : Shape := ⟨3, ![8, 20000, 80]⟩
abbrev S8x20000x4 : Shape := ⟨3, ![8, 20000, 4]⟩
abbrev S20000x4 : Shape := ⟨2, ![20000, 4]⟩
abbrev S8x1000x4 : Shape := ⟨3, ![8, 1000, 4]⟩
abbrev S8x1000 : Shape := ⟨2, ![8, 1000]⟩
abbrev S8 : Shape := ⟨1, ![8]⟩
abbrev S8x1 : Shape := ⟨2, ![8, 1]⟩
abbrev S_ : Shape := ⟨0, ![]⟩

class Facts : Prop where
  slices_S8x1000_S8x1_0_0 : S8x1000.Slices ![0, 0] S8x1
  shapeCasts_S8x1_S8 : S8x1.ShapeCasts S8
  bcast_S_S8 : S_.BroadcastsInDim S8 (![] : Fin 0 → Fin S8.rank)

variable [Facts]

def fn {F : FTy → Type} [FloatOps F] (main_arg0 : FVec F S8x20000x80 .f32) (main_arg1 : FVec F S8x20000x4 .f32) (main_arg2 : FVec F S20000x4 .f32) (main_arg3 : FVec F S8x1000x4 .f32) (main_arg4 : FVec F S8x1000 .f32) (main_arg5 : FVec F S8x1000 .f32) (main_arg6 : IVec S8 32) : IVec S8 1 :=
  let main_v0 : FVec F S8x1 .f32 := (extractStridedSlice S8x1 ![0, 0] · slices_S8x1000_S8x1_0_0) main_arg4
  let main_v1 : FVec F S8 .f32 := shapeCast S8 main_v0 shapeCasts_S8x1_S8
  let main_cst : FVec F S_ .f32 := constant S_ .f32 0x00000000#32
  let main_v2 : FVec F S8 .f32 := broadcastInDim S8 ![] bcast_S_S8 main_cst
  let main_v3 : IVec S8 1 := cmpf .ogt main_v1 main_v2
  main_v3
-- ==== Post_first_place_empty.lean ====
abbrev S8x20000x80 : Shape := ⟨3, ![8, 20000, 80]⟩
abbrev S8x20000x4 : Shape := ⟨3, ![8, 20000, 4]⟩
abbrev S20000x4 : Shape := ⟨2, ![20000, 4]⟩
abbrev S8x1000x4 : Shape := ⟨3, ![8, 1000, 4]⟩
abbrev S8x1000 : Shape := ⟨2, ![8, 1000]⟩
abbrev S8 : Shape := ⟨1, ![8]⟩
abbrev S8x1x4 : Shape := ⟨3, ![8, 1, 4]⟩
abbrev S8x4 : Shape := ⟨2, ![8, 4]⟩
abbrev S_ : Shape := ⟨0, ![]⟩
abbrev S8x1 : Shape := ⟨2, ![8, 1]⟩

class Facts : Prop where
  slices_S8x1000x4_S8x1x4_0_0_0 : S8x1000x4.Slices ![0, 0, 0] S8x1x4
  shapeCasts_S8x1x4_S8x4 : S8x1x4.ShapeCasts S8x4
  bcast_S_S8x4 : S_.BroadcastsInDim S8x4 (![] : Fin 0 → Fin S8x4.rank)
  slices_S8x1000_S8x1_0_0 : S8x1000.Slices ![0, 0] S8x1
  shapeCasts_S8x1_S8 : S8x1.ShapeCasts S8
  bcast_S_S8 : S_.BroadcastsInDim S8 (![] : Fin 0 → Fin S8.rank)

variable [Facts]

def fn {F : FTy → Type} [FloatOps F] (main_arg0 : FVec F S8x20000x80 .f32) (main_arg1 : FVec F S8x20000x4 .f32) (main_arg2 : FVec F S20000x4 .f32) (main_arg3 : FVec F S8x1000x4 .f32) (main_arg4 : FVec F S8x1000 .f32) (main_arg5 : FVec F S8x1000 .f32) (main_arg6 : IVec S8 32) : IVec S8x4 1 × IVec S8 1 × IVec S8 1 :=
  let main_v0 : FVec F S8x1x4 .f32 := (extractStridedSlice S8x1x4 ![0, 0, 0] · slices_S8x1000x4_S8x1x4_0_0_0) main_arg3
  let main_v1 : FVec F S8x4 .f32 := shapeCast S8x4 main_v0 shapeCasts_S8x1x4_S8x4
  let main_cst : FVec F S_ .f32 := constant S_ .f32 0x00000000#32
  let main_v2 : FVec F S8x4 .f32 := broadcastInDim S8x4 ![] bcast_S_S8x4 main_cst
  let main_v3 : IVec S8x4 1 := cmpf .oeq main_v1 main_v2
  let main_v4 : FVec F S8x1 .f32 := (extractStridedSlice S8x1 ![0, 0] · slices_S8x1000_S8x1_0_0) main_arg4
  let main_v5 : FVec F S8 .f32 := shapeCast S8 main_v4 shapeCasts_S8x1_S8
  let main_cst_0 : FVec F S_ .f32 := constant S_ .f32 0x00000000#32
  let main_v6 : FVec F S8 .f32 := broadcastInDim S8 ![] bcast_S_S8 main_cst_0
  let main_v7 : IVec S8 1 := cmpf .oeq main_v5 main_v6
  let main_v8 : FVec F S8x1 .f32 := (extractStridedSlice S8x1 ![0, 0] · slices_S8x1000_S8x1_0_0) main_arg5
  let main_v9 : FVec F S8 .f32 := shapeCast S8 main_v8 shapeCasts_S8x1_S8
  let main_cst_1 : FVec F S_ .f32 := constant S_ .f32 0x00000000#32
  let main_v10 : FVec F S8 .f32 := broadcastInDim S8 ![] bcast_S_S8 main_cst_1
  let main_v11 : IVec S8 1 := cmpf .oeq main_v9 main_v10
  (main_v3, main_v7, main_v11)
-- ==== Post_no_scores.lean ====
abbrev S8x20000x80 : Shape := ⟨3, ![8, 20000, 80]⟩
abbrev S8x20000x4 : Shape := ⟨3, ![8, 20000, 4]⟩
abbrev S20000x4 : Shape := ⟨2, ![20000, 4]⟩
abbrev S8x1000x4 : Shape := ⟨3, ![8, 1000, 4]⟩
abbrev S8x1000 : Shape := ⟨2, ![8, 1000]⟩
abbrev S8 : Shape := ⟨1, ![8]⟩
abbrev S_ : Shape := ⟨0, ![]⟩

class Facts : Prop where
  bcast_S_S8x1000 : S_.BroadcastsInDim S8x1000 (![] : Fin 0 → Fin S8x1000.rank)

variable [Facts]

def fn {F : FTy → Type} [FloatOps F] (main_arg0 : FVec F S8x20000x80 .f32) (main_arg1 : FVec F S8x20000x4 .f32) (main_arg2 : FVec F S20000x4 .f32) (main_arg3 : FVec F S8x1000x4 .f32) (main_arg4 : FVec F S8x1000 .f32) (main_arg5 : FVec F S8x1000 .f32) (main_arg6 : IVec S8 32) : IVec S8x1000 1 :=
  let main_cst : FVec F S_ .f32 := constant S_ .f32 0x00000000#32
  let main_v0 : FVec F S8x1000 .f32 := broadcastInDim S8x1000 ![] bcast_S_S8x1000 main_cst
  let main_v1 : IVec S8x1000 1 := cmpf .oeq main_arg4 main_v0
  main_v1
-- ==== Post_none_counted.lean ====
abbrev S8x20000x80 : Shape := ⟨3, ![8, 20000, 80]⟩
abbrev S8x20000x4 : Shape := ⟨3, ![8, 20000, 4]⟩
abbrev S20000x4 : Shape := ⟨2, ![20000, 4]⟩
abbrev S8x1000x4 : Shape := ⟨3, ![8, 1000, 4]⟩
abbrev S8x1000 : Shape := ⟨2, ![8, 1000]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x20000x80 .f32) (main_arg1 : FVec F S8x20000x4 .f32) (main_arg2 : FVec F S20000x4 .f32) (main_arg3 : FVec F S8x1000x4 .f32) (main_arg4 : FVec F S8x1000 .f32) (main_arg5 : FVec F S8x1000 .f32) (main_arg6 : IVec S8 32) : IVec S8 1 :=
  let main_c : IVec S_ 32 := constantI S_ 32 0#32
  let main_v0 : IVec S8 32 := broadcastInDim S8 ![] bcast_S_S8 main_c
  let main_v1 : IVec S8 1 := cmpi .eq main_arg6 main_v0
  main_v1
-- ==== Post_nothing_found.lean ====
abbrev S8x20000x80 : Shape := ⟨3, ![8, 20000, 80]⟩
abbrev S8x20000x4 : Shape := ⟨3, ![8, 20000, 4]⟩
abbrev S20000x4 : Shape := ⟨2, ![20000, 4]⟩
abbrev S8x1000x4 : Shape := ⟨3, ![8, 1000, 4]⟩
abbrev S8x1000 : Shape := ⟨2, ![8, 1000]⟩
abbrev S8 : Shape := ⟨1, ![8]⟩
abbrev S_ : Shape := ⟨0, ![]⟩

class Facts : Prop where
  bcast_S_S8x1000x4 : S_.BroadcastsInDim S8x1000x4 (![] : Fin 0 → Fin S8x1000x4.rank)
  bcast_S_S8x1000 : S_.BroadcastsInDim S8x1000 (![] : Fin 0 → Fin S8x1000.rank)
  bcast_S_S8 : S_.BroadcastsInDim S8 (![] : Fin 0 → Fin S8.rank)

variable [Facts]

def fn {F : FTy → Type} [FloatOps F] (main_arg0 : FVec F S8x20000x80 .f32) (main_arg1 : FVec F S8x20000x4 .f32) (main_arg2 : FVec F S20000x4 .f32) (main_arg3 : FVec F S8x1000x4 .f32) (main_arg4 : FVec F S8x1000 .f32) (main_arg5 : FVec F S8x1000 .f32) (main_arg6 : IVec S8 32) : IVec S8x1000x4 1 × IVec S8x1000 1 × IVec S8 1 :=
  let main_cst : FVec F S_ .f32 := constant S_ .f32 0x00000000#32
  let main_v0 : FVec F S8x1000x4 .f32 := broadcastInDim S8x1000x4 ![] bcast_S_S8x1000x4 main_cst
  let main_v1 : IVec S8x1000x4 1 := cmpf .oeq main_arg3 main_v0
  let main_cst_0 : FVec F S_ .f32 := constant S_ .f32 0x00000000#32
  let main_v2 : FVec F S8x1000 .f32 := broadcastInDim S8x1000 ![] bcast_S_S8x1000 main_cst_0
  let main_v3 : IVec S8x1000 1 := cmpf .oeq main_arg5 main_v2
  let main_c : IVec S_ 32 := constantI S_ 32 0#32
  let main_v4 : IVec S8 32 := broadcastInDim S8 ![] bcast_S_S8 main_c
  let main_v5 : IVec S8 1 := cmpi .eq main_arg6 main_v4
  (main_v1, main_v3, main_v5)
-- ==== Pre_first_two_classes_low.lean ====
abbrev S8x20000x80 : Shape := ⟨3, ![8, 20000, 80]⟩
abbrev S8x20000x4 : Shape := ⟨3, ![8, 20000, 4]⟩
abbrev S20000x4 : Shape := ⟨2, ![20000, 4]⟩
abbrev S8x20000x2 : Shape := ⟨3, ![8, 20000, 2]⟩
abbrev S_ : Shape := ⟨0, ![]⟩
abbrev S8x20000x78 : Shape := ⟨3, ![8, 20000, 78]⟩

class Facts : Prop where
  slices_S8x20000x80_S8x20000x2_0_0_0 : S8x20000x80.Slices ![0, 0, 0] S8x20000x2
  bcast_S_S8x20000x2 : S_.BroadcastsInDim S8x20000x2 (![] : Fin 0 → Fin S8x20000x2.rank)
  slices_S8x20000x80_S8x20000x78_0_0_2 : S8x20000x80.Slices ![0, 0, 2] S8x20000x78
  bcast_S_S8x20000x78 : S_.BroadcastsInDim S8x20000x78 (![] : Fin 0 → Fin S8x20000x78.rank)

variable [Facts]

def fn {F : FTy → Type} [FloatOps F] (main_arg0 : FVec F S8x20000x80 .f32) (main_arg1 : FVec F S8x20000x4 .f32) (main_arg2 : FVec F S20000x4 .f32) : IVec S8x20000x2 1 × IVec S8x20000x78 1 :=
  let main_v0 : FVec F S8x20000x2 .f32 := (extractStridedSlice S8x20000x2 ![0, 0, 0] · slices_S8x20000x80_S8x20000x2_0_0_0) main_arg0
  let main_cst : FVec F S_ .f32 := constant S_ .f32 0xC1A00000#32
  let main_v1 : FVec F S8x20000x2 .f32 := broadcastInDim S8x20000x2 ![] bcast_S_S8x20000x2 main_cst
  let main_v2 : IVec S8x20000x2 1 := cmpf .ole main_v0 main_v1
  let main_v3 : FVec F S8x20000x78 .f32 := (extractStridedSlice S8x20000x78 ![0, 0, 2] · slices_S8x20000x80_S8x20000x78_0_0_2) main_arg0
  let main_cst_0 : FVec F S_ .f32 := constant S_ .f32 0x00000000#32
  let main_v4 : FVec F S8x20000x78 .f32 := broadcastInDim S8x20000x78 ![] bcast_S_S8x20000x78 main_cst_0
  let main_v5 : IVec S8x20000x78 1 := cmpf .oge main_v3 main_v4
  (main_v2, main_v5)
-- ==== Pre_first_two_classes_low_boxes_positive.lean ====
abbrev S8x20000x80 : Shape := ⟨3, ![8, 20000, 80]⟩
abbrev S8x20000x4 : Shape := ⟨3, ![8, 20000, 4]⟩
abbrev S20000x4 : Shape := ⟨2, ![20000, 4]⟩
abbrev S8x20000x2 : Shape := ⟨3, ![8, 20000, 2]⟩
abbrev S_ : Shape := ⟨0, ![]⟩
abbrev S8x20000x78 : Shape := ⟨3, ![8, 20000, 78]⟩

class Facts : Prop where
  slices_S8x20000x80_S8x20000x2_0_0_0 : S8x20000x80.Slices ![0, 0, 0] S8x20000x2
  bcast_S_S8x20000x2 : S_.BroadcastsInDim S8x20000x2 (![] : Fin 0 → Fin S8x20000x2.rank)
  slices_S8x20000x80_S8x20000x78_0_0_2 : S8x20000x80.Slices ![0, 0, 2] S8x20000x78
  bcast_S_S8x20000x78 : S_.BroadcastsInDim S8x20000x78 (![] : Fin 0 → Fin S8x20000x78.rank)
  bcast_S_S8x20000x4 : S_.BroadcastsInDim S8x20000x4 (![] : Fin 0 → Fin S8x20000x4.rank)
  bcast_S_S20000x4 : S_.BroadcastsInDim S20000x4 (![] : Fin 0 → Fin S20000x4.rank)

variable [Facts]

def fn {F : FTy → Type} [FloatOps F] (main_arg0 : FVec F S8x20000x80 .f32) (main_arg1 : FVec F S8x20000x4 .f32) (main_arg2 : FVec F S20000x4 .f32) : IVec S8x20000x2 1 × IVec S8x20000x78 1 × IVec S8x20000x4 1 × IVec S20000x4 1 :=
  let main_v0 : FVec F S8x20000x2 .f32 := (extractStridedSlice S8x20000x2 ![0, 0, 0] · slices_S8x20000x80_S8x20000x2_0_0_0) main_arg0
  let main_cst : FVec F S_ .f32 := constant S_ .f32 0xC1A00000#32
  let main_v1 : FVec F S8x20000x2 .f32 := broadcastInDim S8x20000x2 ![] bcast_S_S8x20000x2 main_cst
  let main_v2 : IVec S8x20000x2 1 := cmpf .ole main_v0 main_v1
  let main_v3 : FVec F S8x20000x78 .f32 := (extractStridedSlice S8x20000x78 ![0, 0, 2] · slices_S8x20000x80_S8x20000x78_0_0_2) main_arg0
  let main_cst_0 : FVec F S_ .f32 := constant S_ .f32 0x00000000#32
  let main_v4 : FVec F S8x20000x78 .f32 := broadcastInDim S8x20000x78 ![] bcast_S_S8x20000x78 main_cst_0
  let main_v5 : IVec S8x20000x78 1 := cmpf .oge main_v3 main_v4
  let main_cst_1 : FVec F S_ .f32 := constant S_ .f32 0x00000000#32
  let main_v6 : FVec F S8x20000x4 .f32 := broadcastInDim S8x20000x4 ![] bcast_S_S8x20000x4 main_cst_1
  let main_v7 : IVec S8x20000x4 1 := cmpf .oge main_arg1 main_v6
  let main_cst_2 : FVec F S_ .f32 := constant S_ .f32 0x3F800000#32
  let main_v8 : FVec F S20000x4 .f32 := broadcastInDim S20000x4 ![] bcast_S_S20000x4 main_cst_2
  let main_v9 : IVec S20000x4 1 := cmpf .oge main_arg2 main_v8
  (main_v2, main_v5, main_v7, main_v9)
-- ==== Nms.lean ====
abbrev S8x80x512 : Shape := ⟨3, ![8, 80, 512]⟩
abbrev S8x4x80x512 : Shape := ⟨4, ![8, 4, 80, 512]⟩
abbrev S8x4x512x80 : Shape := ⟨4, ![8, 4, 512, 80]⟩
abbrev S8x512x80 : Shape := ⟨3, ![8, 512, 80]⟩
abbrev S8x1x512x80 : Shape := ⟨4, ![8, 1, 512, 80]⟩
abbrev S1x512x80 : Shape := ⟨3, ![1, 512, 80]⟩
abbrev S512x80 : Shape := ⟨2, ![512, 80]⟩
abbrev S1x80 : Shape := ⟨2, ![1, 80]⟩
abbrev S1x1x80 : Shape := ⟨3, ![1, 1, 80]⟩

abbrev nBuf : Space → Nat
  | .hbm => 13
  | .vmem => 14
  | .smem => 0
  | _ => 0

abbrev bufTy : (tb : Table) → Fin (tcTables nBuf tb) → BufTy
  | .hbm, ⟨0, _⟩ => ⟨S8x80x512, .f32⟩
  | .hbm, ⟨1, _⟩ => ⟨S8x4x80x512, .f32⟩
  | .hbm, ⟨2, _⟩ => ⟨S8x4x512x80, .f32⟩
  | .hbm, ⟨3, _⟩ => ⟨S8x512x80, .f32⟩
  | .hbm, ⟨4, _⟩ => ⟨S8x1x512x80, .f32⟩
  | .hbm, ⟨5, _⟩ => ⟨S8x512x80, .f32⟩
  | .hbm, ⟨6, _⟩ => ⟨S8x1x512x80, .f32⟩
  | .hbm, ⟨7, _⟩ => ⟨S8x512x80, .f32⟩
  | .hbm, ⟨8, _⟩ => ⟨S8x1x512x80, .f32⟩
  | .hbm, ⟨9, _⟩ => ⟨S8x512x80, .f32⟩
  | .hbm, ⟨10, _⟩ => ⟨S8x1x512x80, .f32⟩
  | .hbm, ⟨11, _⟩ => ⟨S8x512x80, .f32⟩
  | .hbm, ⟨12, _⟩ => ⟨S8x512x80, .f32⟩
  | .local _ .vmem, ⟨0, _⟩ => ⟨S1x512x80, .f32⟩
  | .local _ .vmem, ⟨1, _⟩ => ⟨S1x512x80, .f32⟩
  | .local _ .vmem, ⟨2, _⟩ => ⟨S1x512x80, .f32⟩
  | .local _ .vmem, ⟨3, _⟩ => ⟨S1x512x80, .f32⟩
  | .local _ .vmem, ⟨4, _⟩ => ⟨S1x512x80, .f32⟩
  | .local _ .vmem, ⟨5, _⟩ => ⟨S1x512x80, .f32⟩
  | .local _ .vmem, ⟨6, _⟩ => ⟨S1x512x80, .f32⟩
  | .local _ .vmem, ⟨7, _⟩ => ⟨S1x512x80, .f32⟩
  | .local _ .vmem, ⟨8, _⟩ => ⟨S1x512x80, .f32⟩
  | .local _ .vmem, ⟨9, _⟩ => ⟨S1x512x80, .f32⟩
  | .local _ .vmem, ⟨10, _⟩ => ⟨S1x512x80, .f32⟩
  | .local _ .vmem, ⟨11, _⟩ => ⟨S1x512x80, .f32⟩
  | .local _ .vmem, ⟨12, _⟩ => ⟨S512x80, .f32⟩
  | .local _ .vmem, ⟨13, _⟩ => ⟨S512x80, .f32⟩
  | _, _ => ⟨S8x80x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c500_i32_22 : BitVec 32 := 500#32
  let v32 : BitVec 32 := Scalar.addi c0_i32 c500_i32_22
  let c1_i32 : BitVec 32 := 1#32
  ⟨c0_i32, v32, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let v41 : Index := Scalar.indexCast arg9
  let c0_31 : Index := 0#32
  ![v41.toNat, 0]
def k0_off2 (k0_t1 : Fin k0_t1_loop.trips) : Fin 3 → Nat :=
  let c0_32 : Index := 0#32
  let c0_i32 : BitVec 32 := 0#32
  let c1_i32 : BitVec 32 := 1#32
  let arg9 : BitVec 32 := Scf.iv c0_i32 c1_i32 k0_t1
  let v43 : Index := Scalar.indexCast arg9
  let c0_33 : Index := 0#32
  ![0, v43.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NmsRefIdeal.lean ====
abbrev S8x80x512 : Shape := ⟨3, ![8, 80, 512]⟩
abbrev S8x4x80x512 : Shape := ⟨4, ![8, 4, 80, 512]⟩
abbrev S8x80x512x4 : Shape := ⟨4, ![8, 80, 512, 4]⟩
abbrev S8x80x500x4 : Shape := ⟨4, ![8, 80, 500, 4]⟩
abbrev S8x80x500 : Shape := ⟨3, ![8, 80, 500]⟩
abbrev S8x80x500x1 : Shape := ⟨4, ![8, 80, 500, 1]⟩
abbrev S8x80x1x500 : Shape := ⟨4, ![8, 80, 1, 500]⟩
abbrev S8x80x500x500 : Shape := ⟨4, ![8, 80, 500, 500]⟩
abbrev S_ : Shape := ⟨0, ![]⟩
abbrev S500 : Shape := ⟨1, ![500]⟩
abbrev S8x80x1 : Shape := ⟨3, ![8, 80, 1]⟩
abbrev S1x1x500 : Shape := ⟨3, ![1, 1, 500]⟩
abbrev S8x80x12 : Shape := ⟨3, ![8, 80, 12]⟩
abbrev S8x512x80 : Shape := ⟨3, ![8, 512, 80]⟩

abbrev nBuf : Space → Nat
  | .hbm => 140
  | .vmem => 0
  | .smem => 0
  | _ => 0

abbrev hbmTy0_0 (i : Nat) : BufTy := match i % 128 with
  | 0 => ⟨S8x80x512, .f32⟩
  | 1 => ⟨S8x4x80x512, .f32⟩
  | 2 => ⟨S8x80x512x4, .f32⟩
  | 3 => ⟨S8x80x500x4, .f32⟩
  | 4 => ⟨S8x80x500, .f32⟩
  | 5 => ⟨S8x80x500x1, .f32⟩
  | 6 => ⟨S8x80x500, .f32⟩
  | 7 => ⟨S8x80x500x1, .f32⟩
  | 8 => ⟨S8x80x500x1, .f32⟩
  | 9 => ⟨S8x80x500, .f32⟩
  | 10 => ⟨S8x80x1x500, .f32⟩
  | 11 => ⟨S8x80x500x500, .f32⟩
  | 12 => ⟨S8x80x500x500, .f32⟩
  | 13 => ⟨S8x80x500x500, .f32⟩
  | 14 => ⟨S8x80x500x1, .f32⟩
  | 15 => ⟨S8x80x500, .f32⟩
  | 16 => ⟨S8x80x500x1, .f32⟩
  | 17 => ⟨S8x80x500x1, .f32⟩
  | 18 => ⟨S8x80x500, .f32⟩
  | 19 => ⟨S8x80x1x500, .f32⟩
  | 20 => ⟨S8x80x500x500, .f32⟩
  | 21 => ⟨S8x80x500x500, .f32⟩
  | 22 => ⟨S8x80x500x500, .f32⟩
  | 23 => ⟨S8x80x500x1, .f32⟩
  | 24 => ⟨S8x80x500, .f32⟩
  | 25 => ⟨S8x80x500x1, .f32⟩
  | 26 => ⟨S8x80x500x1, .f32⟩
  | 27 => ⟨S8x80x500, .f32⟩
  | 28 => ⟨S8x80x1x500, .f32⟩
  | 29 => ⟨S8x80x500x500, .f32⟩
  | 30 => ⟨S8x80x500x500, .f32⟩
  | 31 => ⟨S8x80x500x500, .f32⟩
  | 32 => ⟨S8x80x500x1, .f32⟩
  | 33 => ⟨S8x80x500, .f32⟩
  | 34 => ⟨S8x80x500x1, .f32⟩
  | 35 => ⟨S8x80x500x1, .f32⟩
  | 36 => ⟨S8x80x500, .f32⟩
  | 37 => ⟨S8x80x1x500, .f32⟩
  | 38 => ⟨S8x80x500x500, .f32⟩
  | 39 => ⟨S8x80x500x500, .f32⟩
  | 40 => ⟨S8x80x500x500, .f32⟩
  | 41 => ⟨S8x80x500x500, .f32⟩
  | 42 => ⟨S_, .f32⟩
  | 43 => ⟨S_, .f32⟩
  | 44 => ⟨S8x80x500x500, .f32⟩
  | 45 => ⟨S8x80x500x500, .f32⟩
  | 46 => ⟨S8x80x500x500, .f32⟩
  | 47 => ⟨S_, .f32⟩
  | 48 => ⟨S_, .f32⟩
  | 49 => ⟨S8x80x500x500, .f32⟩
  | 50 => ⟨S8x80x500x500, .f32⟩
  | 51 => ⟨S8x80x500x500, .f32⟩
  | 52 => ⟨S8x80x500x1, .f32⟩
  | 53 => ⟨S8x80x500, .f32⟩
  | 54 => ⟨S8x80x500x1, .f32⟩
  | 55 => ⟨S8x80x500, .f32⟩
  | 56 => ⟨S8x80x500, .f32⟩
  | 57 => ⟨S_, .f32⟩
  | 58 => ⟨S_, .f32⟩
  | 59 => ⟨S8x80x500, .f32⟩
  | 60 => ⟨S8x80x500, .f32⟩
  | 61 => ⟨S8x80x500x1, .f32⟩
  | 62 => ⟨S8x80x500, .f32⟩
  | 63 => ⟨S8x80x500x1, .f32⟩
  | 64 => ⟨S8x80x500, .f32⟩
  | 65 => ⟨S8x80x500, .f32⟩
  | 66 => ⟨S_, .f32⟩
  | 67 => ⟨S_, .f32⟩
  | 68 => ⟨S8x80x500, .f32⟩
  | 69 => ⟨S8x80x500, .f32⟩
  | 70 => ⟨S8x80x500, .f32⟩
  | 71 => ⟨S8x80x500x1, .f32⟩
  | 72 => ⟨S8x80x1x500, .f32⟩
  | 73 => ⟨S8x80x500x500, .f32⟩
  | 74 => ⟨S8x80x500x500, .f32⟩
  | 75 => ⟨S8x80x500x500, .f32⟩
  | 76 => ⟨S8x80x500x500, .f32⟩
  | 77 => ⟨S_, .f32⟩
  | 78 => ⟨S8x80x500x500, .f32⟩
  | 79 => ⟨S8x80x500x500, .f32⟩
  | 80 => ⟨S8x80x500x500, .f32⟩
  | 81 => ⟨S_, .f32⟩
  | 82 => ⟨S8x80x500, .f32⟩
  | 83 => ⟨S8x80x500, .i1⟩
  | 84 => ⟨S500, .i32⟩
  | 85 => ⟨S_, .i32⟩
  | 86 => ⟨S_, .i32⟩
  | 87 => ⟨S8x80x500x500, .f32⟩
  | 88 => ⟨S500, .i32⟩
  | 89 => ⟨S_, .i32⟩
  | 90 => ⟨S_, .i32⟩
  | 91 => ⟨S8x80x500, .i1⟩
  | 92 => ⟨S_, .i32⟩
  | 93 => ⟨S_, .i1⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S8x80x1x500, .f32⟩
  | 106 => ⟨S8x80x500, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S8x80x1, .i1⟩
  | 116 => ⟨S_, .f32⟩
  | 117 => ⟨S8x80x500, .f32⟩
  | 118 => ⟨S8x80x500, .i1⟩
  | 119 => ⟨S8x80x500, .i1⟩
  | 120 => ⟨S8x80x500, .i1⟩
  | 121 => ⟨S_, .i32⟩
  | 122 => ⟨S500, .i32⟩
  | 123 => ⟨S500, .i1⟩
  | 124 => ⟨S1x1x500, .i1⟩
  | 125 => ⟨S8x80x500, .i1⟩
  | 126 => ⟨S8x80x500, .i1⟩
  | 127 => ⟨S8x80x500, .i1⟩
  | _ => ⟨S8x80x512, .f32⟩

abbrev hbmTy0_1 (i : Nat) : BufTy := match i % 128 with
  | 0 => ⟨S8x80x500, .i1⟩
  | 1 => ⟨S_, .i32⟩
  | 2 => ⟨S_, .i32⟩
  | 3 => ⟨S8x80x500, .f32⟩
  | 4 => ⟨S_, .f32⟩
  | 5 => ⟨S_, .f32⟩
  | 6 => ⟨S8x80x500, .f32⟩
  | 7 => ⟨S8x80x500, .f32⟩
  | 8 => ⟨S_, .f32⟩
  | 9 => ⟨S8x80x12, .f32⟩
  | 10 => ⟨S8x80x512, .f32⟩
  | 11 => ⟨S8x512x80, .f32⟩
  | _ => ⟨S8x80x512, .f32⟩

abbrev hbmTy (i : Nat) : BufTy := match i / 128 with
  | 0 => hbmTy0_0 i
  | 1 => hbmTy0_1 i
  | _ => ⟨S8x80x512, .f32⟩

abbrev bufTy : (tb : Table) → Fin (tcTables nBuf tb) → BufTy
  | .hbm, ⟨i, _⟩ => hbmTy i
  | _, _ => ⟨S8x80x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_v40 : Ref sig .tc := ⟨.hbm, 45, rfl⟩
abbrev main_v41 : Ref sig .tc := ⟨.hbm, 46, rfl⟩
abbrev main_cst_0 : Ref sig .tc := ⟨.hbm, 47, rfl⟩
abbrev main_call1_v0 : Ref sig .tc := ⟨.hbm, 48, rfl⟩
abbrev main_call1_v1 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_2 : Ref sig .tc := ⟨.hbm, 66, rfl⟩
abbrev main_call3_v0 : Ref sig .tc := ⟨.hbm, 67, rfl⟩
abbrev main_call3_v1 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_4 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c : Ref sig .tc := ⟨.hbm, 85, rfl⟩
abbrev main_c_5 : Ref sig .tc := ⟨.hbm, 86, rfl⟩
abbrev main_v69_0 : Ref sig .tc := ⟨.hbm, 87, rfl⟩
abbrev main_v69_1 : Ref sig .tc := ⟨.hbm, 88, rfl⟩
abbrev main_v69_2 : Ref sig .tc := ⟨.hbm, 89, rfl⟩
abbrev main_v69_3 : Ref sig .tc := ⟨.hbm, 90, rfl⟩
abbrev main_v69_4 : Ref sig .tc := ⟨.hbm, 91, rfl⟩
abbrev main_while0c_c_12 : Ref sig .tc := ⟨.hbm, 92, rfl⟩
abbrev main_while0c_v75 : Ref sig .tc := ⟨.hbm, 93, rfl⟩
abbrev main_while0b_c_12 : Ref sig .tc := ⟨.hbm, 94, rfl⟩
abbrev main_while0b_v75 : Ref sig .tc := ⟨.hbm, 95, rfl⟩
abbrev main_while0b_call4_c : Ref sig .tc := ⟨.hbm, 96, rfl⟩
abbrev main_while0b_call4_v0 : Ref sig .tc := ⟨.hbm, 97, rfl⟩
abbrev main_while0b_call4_v1 : Ref sig .tc := ⟨.hbm, 98, rfl⟩
abbrev main_while0b_call4_c_0 : Ref sig .tc := ⟨.hbm, 99, rfl⟩
abbrev main_while0b_call4_v2 : Ref sig .tc := ⟨.hbm, 100, rfl⟩
abbrev main_while0b_call4_v3 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_c_3 : Ref sig .tc := ⟨.hbm, 104, rfl⟩
abbrev main_while0b_call4_v4 : Ref sig .tc := ⟨.hbm, 105, rfl⟩
abbrev main_while0b_v76 : Ref sig .tc := ⟨.hbm, 106, rfl⟩
abbrev main_while0b_call5_c : Ref sig .tc := ⟨.hbm, 107, rfl⟩
abbrev main_while0b_call5_v0 : Ref sig .tc := ⟨.hbm, 108, rfl⟩
abbrev main_while0b_call5_v1 : Ref sig .tc := ⟨.hbm, 109, rfl⟩
abbrev main_while0b_call5_c_0 : Ref sig .tc := ⟨.hbm, 110, rfl⟩
abbrev main_while0b_call5_v2 : Ref sig .tc := ⟨.hbm, 111, rfl⟩
abbrev main_while0b_call5_v3 : Ref sig .tc := ⟨.hbm, 112, rfl⟩
abbrev main_while0b_call5_c_1 : Ref sig .tc := ⟨.hbm, 113, rfl⟩
abbrev main_while0b_call5_c_2 : Ref sig .tc := ⟨.hbm, 114, rfl⟩
abbrev main_while0b_v77 : Ref sig .tc := ⟨.hbm, 115, rfl⟩
abbrev main_while0b_cst_13 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_c_14 : Ref sig .tc := ⟨.hbm, 129, rfl⟩
abbrev main_while0b_v90 : Ref sig .tc := ⟨.hbm, 130, rfl⟩
abbrev main_v70 : Ref sig .tc := ⟨.hbm, 131, rfl⟩
abbrev main_cst_6 : Ref sig .tc := ⟨.hbm, 132, rfl⟩
abbrev main_call6_v0 : Ref sig .tc := ⟨.hbm, 133, rfl⟩
abbrev main_call6_v1 : Ref sig .tc := ⟨.hbm, 134, rfl⟩
abbrev main_v71 : Ref sig .tc := ⟨.hbm, 135, rfl⟩
abbrev main_cst_7 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩

abbrev nD : Nat := 1
abbrev τ : Topo := Topo.v7x

variable {F : FTy → Type} [FloatOps F]

abbrev main_while0_count : Scf.Loop 32 := ⟨0#32, 500#32, 1#32⟩
-- ==== Decode.lean ====
abbrev S8x20000x4 : Shape := ⟨3, ![8, 20000, 4]⟩
abbrev S20000x4 : Shape := ⟨2, ![20000, 4]⟩
abbrev S8x4x20000 : Shape := ⟨3, ![8, 4, 20000]⟩
abbrev S4x20000 : Shape := ⟨2, ![4, 20000]⟩
abbrev S1x20000 : Shape := ⟨2, ![1, 20000]⟩
abbrev S8x1x20000 : Shape := ⟨3, ![8, 1, 20000]⟩
abbrev S8x20000 : Shape := ⟨2, ![8, 20000]⟩

abbrev nBuf : Space → Nat
  | .hbm => 5
  | .vmem => 3
  | .smem => 0
  | _ => 0

abbrev bufTy : (tb : Table) → Fin (tcTables nBuf tb) → BufTy
  | .hbm, ⟨0, _⟩ => ⟨S8x20000x4, .f32⟩
  | .hbm, ⟨1, _⟩ => ⟨S20000x4, .f32⟩
  | .hbm, ⟨2, _⟩ => ⟨S8x4x20000, .f32⟩
  | .hbm, ⟨3, _⟩ => ⟨S4x20000, .f32⟩
  | .hbm, ⟨4, _⟩ => ⟨S8x4x20000, .f32⟩
  | .local _ .vmem, ⟨0, _⟩ => ⟨S8x4x20000, .f32⟩
  | .local _ .vmem, ⟨1, _⟩ => ⟨S4x20000, .f32⟩
  | .local _ .vmem, ⟨2, _⟩ => ⟨S8x4x20000, .f32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x4x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DecodeRefIdeal.lean ====
abbrev S8x20000x4 : Shape := ⟨3, ![8, 20000, 4]⟩
abbrev S20000x4 : Shape := ⟨2, ![20000, 4]⟩
abbrev S4 : Shape := ⟨1, ![4]⟩
abbrev S1x1x4 : Shape := ⟨3, ![1, 1, 4]⟩
abbrev S1x20000x4 : Shape := ⟨3, ![1, 20000, 4]⟩
abbrev S8x20000x2 : Shape := ⟨3, ![8, 20000, 2]⟩
abbrev S1x20000x2 : Shape := ⟨3, ![1, 20000, 2]⟩
abbrev S_ : Shape := ⟨0, ![]⟩
abbrev S8x4x20000 : Shape := ⟨3, ![8, 4, 20000]⟩

abbrev nBuf : Space → Nat
  | .hbm => 34
  | .vmem => 0
  | .smem => 0
  | _ => 0

abbrev bufTy : (tb : Table) → Fin (tcTables nBuf tb) → BufTy
  | .hbm, ⟨0, _⟩ => ⟨S8x20000x4, .f32⟩
  | .hbm, ⟨1, _⟩ => ⟨S20000x4, .f32⟩
  | .hbm, ⟨2, _⟩ => ⟨S4, .f32⟩
  | .hbm, ⟨3, _⟩ => ⟨S1x1x4, .f32⟩
  | .hbm, ⟨4, _⟩ => ⟨S8x20000x4, .f32⟩
  | .hbm, ⟨5, _⟩ => ⟨S8x20000x4, .f32⟩
  | .hbm, ⟨6, _⟩ => ⟨S1x20000x4, .f32⟩
  | .hbm, ⟨7, _⟩ => ⟨S8x20000x2, .f32⟩
  | .hbm, ⟨8, _⟩ => ⟨S1x20000x2, .f32⟩
  | .hbm, ⟨9, _⟩ => ⟨S8x20000x2, .f32⟩
  | .hbm, ⟨10, _⟩ => ⟨S8x20000x2, .f32⟩
  | .hbm, ⟨11, _⟩ => ⟨S1x20000x2, .f32⟩
  | .hbm, ⟨12, _⟩ => ⟨S8x20000x2, .f32⟩
  | .hbm, ⟨13, _⟩ => ⟨S8x20000x2, .f32⟩
  | .hbm, ⟨14, _⟩ => ⟨S8x20000x2, .f32⟩
  | .hbm, ⟨15, _⟩ => ⟨S8x20000x2, .f32⟩
  | .hbm, ⟨16, _⟩ => ⟨S1x20000x2, .f32⟩
  | .hbm, ⟨17, _⟩ => ⟨S8x20000x2, .f32⟩
  | .hbm, ⟨18, _⟩ => ⟨S8x20000x2, .f32⟩
  | .hbm, ⟨19, _⟩ => ⟨S8x20000x4, .f32⟩
  | .hbm, ⟨20, _⟩ => ⟨S8x20000x2, .f32⟩
  | .hbm, ⟨21, _⟩ => ⟨S8x20000x2, .f32⟩
  | .hbm, ⟨22, _⟩ => ⟨S_, .f32⟩
  | .hbm, ⟨23, _⟩ => ⟨S8x20000x2, .f32⟩
  | .hbm, ⟨24, _⟩ => ⟨S8x20000x2, .f32⟩
  | .hbm, ⟨25, _⟩ => ⟨S8x20000x2, .f32⟩
  | .hbm, ⟨26, _⟩ => ⟨S8x20000x2, .f32⟩
  | .hbm, ⟨27, _⟩ => ⟨S8x20000x2, .f32⟩
  | .hbm, ⟨28, _⟩ => ⟨S_, .f32⟩
  | .hbm, ⟨29, _⟩ => ⟨S8x20000x2, .f32⟩
  | .hbm, ⟨30, _⟩ => ⟨S8x20000x2, .f32⟩
  | .hbm, ⟨31, _⟩ => ⟨S8x20000x2, .f32⟩
  | .hbm, ⟨32, _⟩ => ⟨S8x20000x4, .f32⟩
  | .hbm, ⟨33, _⟩ => ⟨S8x4x20000, .f32⟩
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Whole.lean ====
abbrev S8x20000x80 : Shape := ⟨3, ![8, 20000, 80]⟩
abbrev S8x20000x4 : Shape := ⟨3, ![8, 20000, 4]⟩
abbrev S20000x4 : Shape := ⟨2, ![20000, 4]⟩
abbrev S8x4x20000 : Shape := ⟨3, ![8, 4, 20000]⟩
abbrev S4x20000 : Shape := ⟨2, ![4, 20000]⟩
abbrev S1x20000 : Shape := ⟨2, ![1, 20000]⟩
abbrev S8x1x20000 : Shape := ⟨3, ![8, 1, 20000]⟩
abbrev S8x20000 : Shape := ⟨2, ![8, 20000]⟩
abbrev S_ : Shape := ⟨0, ![]⟩
abbrev S8x80 : Shape := ⟨2, ![8, 80]⟩
abbrev S8x80x1 : Shape := ⟨3, ![8, 80, 1]⟩
abbrev S8x80x20000 : Shape := ⟨3, ![8, 80, 20000]⟩
abbrev S8x80x512 : Shape := ⟨3, ![8, 80, 512]⟩
abbrev S512 : Shape := ⟨1, ![512]⟩
abbrev S8x1x40960 : Shape := ⟨3, ![8, 1, 40960]⟩
abbrev S8x40960x1 : Shape := ⟨3, ![8, 40960, 1]⟩
abbrev S1 : Shape := ⟨1, ![1]⟩
abbrev S1x1x1 : Shape := ⟨3, ![1, 1, 1]⟩
abbrev S8x40960 : Shape := ⟨2, ![8, 40960]⟩
abbrev S8x4x40960 : Shape := ⟨3, ![8, 4, 40960]⟩
abbrev S8x4x80x512 : Shape := ⟨4, ![8, 4, 80, 512]⟩
abbrev S8x4x512x80 : Shape := ⟨4, ![8, 4, 512, 80]⟩
abbrev S8x512x80 : Shape := ⟨3, ![8, 512, 80]⟩
abbrev S8x1x512x80 : Shape := ⟨4, ![8, 1, 512, 80]⟩
abbrev S1x512x80 : Shape := ⟨3, ![1, 512, 80]⟩
abbrev S512x80 : Shape := ⟨2, ![512, 80]⟩
abbrev S1x80 : Shape := ⟨2, ![1, 80]⟩
abbrev S1x1x80 : Shape := ⟨3, ![1, 1, 80]⟩
abbrev S8x1000 : Shape := ⟨2, ![8, 1000]⟩
abbrev S1000 : Shape := ⟨1, ![1000]⟩
abbrev S8x1x1000 : Shape := ⟨3, ![8, 1, 1000]⟩
abbrev S8x1000x1 : Shape := ⟨3, ![8, 1000, 1]⟩
abbrev S8x4x1000 : Shape := ⟨3, ![8, 4, 1000]⟩
abbrev S8x1000x4 : Shape := ⟨3, ![8, 1000, 4]⟩
abbrev S8 : Shape := ⟨1, ![8]⟩

abbrev nBuf : Space → Nat
  | .hbm => 127
  | .vmem => 17
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S20000x4, .f32⟩
  | .hbm, ⟨3, _⟩ => ⟨S8x4x20000, .f32⟩
  | .hbm, ⟨4, _⟩ => ⟨S4x20000, .f32⟩
  | .hbm, ⟨5, _⟩ => ⟨S8x4x20000, .f32⟩
  | .hbm, ⟨6, _⟩ => ⟨S_, .f32⟩
  | .hbm, ⟨7, _⟩ => ⟨S8x80, .f32⟩
  | .hbm, ⟨8, _⟩ => ⟨S8x80x1, .f32⟩
  | .hbm, ⟨9, _⟩ => ⟨S8x80x20000, .f32⟩
  | .hbm, ⟨10, _⟩ => ⟨S8x80x20000, .f32⟩
  | .hbm, ⟨11, _⟩ => ⟨S8x80x20000, .f32⟩
  | .hbm, ⟨12, _⟩ => ⟨S_, .f32⟩
  | .hbm, ⟨13, _⟩ => ⟨S8x80x20000, .f32⟩
  | .hbm, ⟨14, _⟩ => ⟨S8x80x20000, .f32⟩
  | .hbm, ⟨15, _⟩ => ⟨S_, .f32⟩
  | .hbm, ⟨16, _⟩ => ⟨S8x80x20000, .f32⟩
  | .hbm, ⟨17, _⟩ => ⟨S8x80x20000, .f32⟩
  | .hbm, ⟨18, _⟩ => ⟨S8x80x512, .f32⟩
  | .hbm, ⟨19, _⟩ => ⟨S512, .i32⟩
  | .hbm, ⟨20, _⟩ => ⟨S8x80x512, .i32⟩
  | .hbm, ⟨21, _⟩ => ⟨S8x1x40960, .i32⟩
  | .hbm, ⟨22, _⟩ => ⟨S_, .i32⟩
  | .hbm, ⟨23, _⟩ => ⟨S8x1x40960, .i32⟩
  | .hbm, ⟨24, _⟩ => ⟨S8x1x40960, .i1⟩
  | .hbm, ⟨25, _⟩ => ⟨S_, .i32⟩
  | .hbm, ⟨26, _⟩ => ⟨S8x1x40960, .i32⟩
  | .hbm, ⟨27, _⟩ => ⟨S8x1x40960, .i32⟩
  | .hbm, ⟨28, _⟩ => ⟨S8x1x40960, .i32⟩
  | .hbm, ⟨29, _⟩ => ⟨S8x40960x1, .i32⟩
  | .hbm, ⟨30, _⟩ => ⟨S1, .i32⟩
  | .hbm, ⟨31, _⟩ => ⟨S_, .i32⟩
  | .hbm, ⟨32, _⟩ => ⟨S8x40960x1, .i32⟩
  | .hbm, ⟨33, _⟩ => ⟨S8x40960x1, .i1⟩
  | .hbm, ⟨34, _⟩ => ⟨S1x1x1, .i32⟩
  | .hbm, ⟨35, _⟩ => ⟨S8x40960x1, .i32⟩
  | .hbm, ⟨36, _⟩ => ⟨S8x40960x1, .i1⟩
  | .hbm, ⟨37, _⟩ => ⟨S8x40960x1, .i1⟩
  | .hbm, ⟨38, _⟩ => ⟨S_, .i1⟩
  | .hbm, ⟨39, _⟩ => ⟨S8x40960, .i1⟩
  | .hbm, ⟨40, _⟩ => ⟨S8x4x40960, .f32⟩
  | .hbm, ⟨41, _⟩ => ⟨S8x4x40960, .i1⟩
  | .hbm, ⟨42, _⟩ => ⟨S_, .f32⟩
  | .hbm, ⟨43, _⟩ => ⟨S8x4x40960, .f32⟩
  | .hbm, ⟨44, _⟩ => ⟨S8x4x40960, .f32⟩
  | .hbm, ⟨45, _⟩ => ⟨S8x4x80x512, .f32⟩
  | .hbm, ⟨46, _⟩ => ⟨S8x4x512x80, .f32⟩
  | .hbm, ⟨47, _⟩ => ⟨S8x512x80, .f32⟩
  | .hbm, ⟨48, _⟩ => ⟨S8x1x512x80, .f32⟩
  | .hbm, ⟨49, _⟩ => ⟨S8x512x80, .f32⟩
  | .hbm, ⟨50, _⟩ => ⟨S8x1x512x80, .f32⟩
  | .hbm, ⟨51, _⟩ => ⟨S8x512x80, .f32⟩
  | .hbm, ⟨52, _⟩ => ⟨S8x1x512x80, .f32⟩
  | .hbm, ⟨53, _⟩ => ⟨S8x512x80, .f32⟩
  | .hbm, ⟨54, _⟩ => ⟨S8x1x512x80, .f32⟩
  | .hbm, ⟨55, _⟩ => ⟨S8x512x80, .f32⟩
  | .hbm, ⟨56, _⟩ => ⟨S8x512x80, .f32⟩
  | .hbm, ⟨57, _⟩ => ⟨S8x80x512, .f32⟩
  | .hbm, ⟨58, _⟩ => ⟨S8x40960, .f32⟩
  | .hbm, ⟨59, _⟩ => ⟨S8x1000, .f32⟩
  | .hbm, ⟨60, _⟩ => ⟨S1000, .i32⟩
  | .hbm, ⟨61, _⟩ => ⟨S8x1000, .i32⟩
  | .hbm, ⟨62, _⟩ => ⟨S_, .i32⟩
  | .hbm, ⟨63, _⟩ => ⟨S_, .i32⟩
  | .hbm, ⟨64, _⟩ => ⟨S8x1000, .i32⟩
  | .hbm, ⟨65, _⟩ => ⟨S8x1000, .i32⟩
  | .hbm, ⟨66, _⟩ => ⟨S8x1000, .i32⟩
  | .hbm, ⟨67, _⟩ => ⟨S_, .i32⟩
  | .hbm, ⟨68, _⟩ => ⟨S8x1000, .i32⟩
  | .hbm, ⟨69, _⟩ => ⟨S8x1000, .i1⟩
  | .hbm, ⟨70, _⟩ => ⟨S8x1000, .i32⟩
  | .hbm, ⟨71, _⟩ => ⟨S8x1000, .i32⟩
  | .hbm, ⟨72, _⟩ => ⟨S_, .i32⟩
  | .hbm, ⟨73, _⟩ => ⟨S8x1000, .i32⟩
  | .hbm, ⟨74, _⟩ => ⟨S8x1000, .i1⟩
  | .hbm, ⟨75, _⟩ => ⟨S8x1000, .i1⟩
  | .hbm, ⟨76, _⟩ => ⟨S_, .i32⟩
  | .hbm, ⟨77, _⟩ => ⟨S8x1000, .i32⟩
  | .hbm, ⟨78, _⟩ => ⟨S8x1000, .i32⟩
  | .hbm, ⟨79, _⟩ => ⟨S8x1000, .i32⟩
  | .hbm, ⟨80, _⟩ => ⟨S8x1000, .f32⟩
  | .hbm, ⟨81, _⟩ => ⟨S8x4x40960, .f32⟩
  | .hbm, ⟨82, _⟩ => ⟨S8x1x1000, .i32⟩
  | .hbm, ⟨83, _⟩ => ⟨S_, .i32⟩
  | .hbm, ⟨84, _⟩ => ⟨S8x1x1000, .i32⟩
  | .hbm, ⟨85, _⟩ => ⟨S8x1x1000, .i1⟩
  | .hbm, ⟨86, _⟩ => ⟨S_, .i32⟩
  | .hbm, ⟨87, _⟩ => ⟨S8x1x1000, .i32⟩
  | .hbm, ⟨88, _⟩ => ⟨S8x1x1000, .i32⟩
  | .hbm, ⟨89, _⟩ => ⟨S8x1x1000, .i32⟩
  | .hbm, ⟨90, _⟩ => ⟨S8x1000x1, .i32⟩
  | .hbm, ⟨91, _⟩ => ⟨S1, .i32⟩
  | .hbm, ⟨92, _⟩ => ⟨S_, .i32⟩
  | .hbm, ⟨93, _⟩ => ⟨S8x1000x1, .i32⟩
  | .hbm, ⟨94, _⟩ => ⟨S8x1000x1, .i1⟩
  | .hbm, ⟨95, _⟩ => ⟨S1x1x1, .i32⟩
  | .hbm, ⟨96, _⟩ => ⟨S8x1000x1, .i32⟩
  | .hbm, ⟨97, _⟩ => ⟨S8x1000x1, .i1⟩
  | .hbm, ⟨98, _⟩ => ⟨S8x1000x1, .i1⟩
  | .hbm, ⟨99, _⟩ => ⟨S_, .i1⟩
  | .hbm, ⟨100, _⟩ => ⟨S8x1000, .i1⟩
  | .hbm, ⟨101, _⟩ => ⟨S8x4x1000, .f32⟩
  | .hbm, ⟨102, _⟩ => ⟨S8x4x1000, .i1⟩
  | .hbm, ⟨103, _⟩ => ⟨S_, .f32⟩
  | .hbm, ⟨104, _⟩ => ⟨S8x4x1000, .f32⟩
  | .hbm, ⟨105, _⟩ => ⟨S8x4x1000, .f32⟩
  | .hbm, ⟨106, _⟩ => ⟨S_, .f32⟩
  | .hbm, ⟨107, _⟩ => ⟨S8x1000, .f32⟩
  | .hbm, ⟨108, _⟩ => ⟨S8x1000, .i1⟩
  | .hbm, ⟨109, _⟩ => ⟨S8x1000x1, .i1⟩
  | .hbm, ⟨110, _⟩ => ⟨S8x1000x4, .f32⟩
  | .hbm, ⟨111, _⟩ => ⟨S_, .f32⟩
  | .hbm, ⟨112, _⟩ => ⟨S_, .f32⟩
  | .hbm, ⟨113, _⟩ => ⟨S8x1000x4, .i1⟩
  | .hbm, ⟨114, _⟩ => ⟨S8x1000x4, .f32⟩
  | .hbm, ⟨115, _⟩ => ⟨S8x1000x4, .f32⟩
  | .hbm, ⟨116, _⟩ => ⟨S_, .f32⟩
  | .hbm, ⟨117, _⟩ => ⟨S_, .f32⟩
  | .hbm, ⟨118, _⟩ => ⟨S8x1000, .f32⟩
  | .hbm, ⟨119, _⟩ => ⟨S8x1000, .f32⟩
  | .hbm, ⟨120, _⟩ => ⟨S_, .f32⟩
  | .hbm, ⟨121, _⟩ => ⟨S_, .f32⟩
  | .hbm, ⟨122, _⟩ => ⟨S8x1000, .f32⟩
  | .hbm, ⟨123, _⟩ => ⟨S8x1000, .f32⟩
  | .hbm, ⟨124, _⟩ => ⟨S8x1000, .i32⟩
  | .hbm, ⟨125, _⟩ => ⟨S_, .i32⟩
  | .hbm, ⟨126, _⟩ => ⟨S8, .i32⟩
  | .local _ .vmem, ⟨0, _⟩ => ⟨S8x4x20000, .f32⟩
  | .local _ .vmem, ⟨1, _⟩ => ⟨S4x20000, .f32⟩
  | .local _ .vmem, ⟨2, _⟩ => ⟨S8x4x20000, .f32⟩
  | .local _ .vmem, ⟨3, _⟩ => ⟨S1x512x80, .f32⟩
  | .local _ .vmem, ⟨4, _⟩ => ⟨S1x512x80, .f32⟩
  | .local _ .vmem, ⟨5, _⟩ => ⟨S1x512x80, .f32⟩
  | .local _ .vmem, ⟨6, _⟩ => ⟨S1x512x80, .f32⟩
  | .local _ .vmem, ⟨7, _⟩ => ⟨S1x512x80, .f32⟩
  | .local _ .vmem, ⟨8, _⟩ => ⟨S1x512x80, .f32⟩
  | .local _ .vmem, ⟨9, _⟩ => ⟨S1x512x80, .f32⟩
  | .local _ .vmem, ⟨10, _⟩ => ⟨S1x512x80, .f32⟩
  | .local _ .vmem, ⟨11, _⟩ => ⟨S1x512x80, .f32⟩
  | .local _ .vmem, ⟨12, _⟩ => ⟨S1x512x80, .f32⟩
  | .local _ .vmem, ⟨13, _⟩ => ⟨S1x512x80, .f32⟩
  | .local _ .vmem, ⟨14, _⟩ => ⟨S1x512x80, .f32⟩
  | .local _ .vmem, ⟨15, _⟩ => ⟨S512x80, .f32⟩
  | .local _ .vmem, ⟨16, _⟩ => ⟨S512x80, .f32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v38 : Ref sig .tc := ⟨.hbm, 105, rfl⟩
abbrev main_cst_2 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_3 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v43 : Ref sig .tc := ⟨.hbm, 115, rfl⟩
abbrev main_cst_4 : Ref sig .tc := ⟨.hbm, 116, rfl⟩
abbrev main_call4_v0 : Ref sig .tc := ⟨.hbm, 117, rfl⟩
abbrev main_call4_v1 : Ref sig .tc := ⟨.hbm, 118, rfl⟩
abbrev main_v44 : Ref sig .tc := ⟨.hbm, 119, rfl⟩
abbrev main_cst_5 : Ref sig .tc := ⟨.hbm, 120, rfl⟩
abbrev main_call5_v0 : Ref sig .tc := ⟨.hbm, 121, rfl⟩
abbrev main_call5_v1 : Ref sig .tc := ⟨.hbm, 122, rfl⟩
abbrev main_v45 : Ref sig .tc := ⟨.hbm, 123, rfl⟩
abbrev main_v46 : Ref sig .tc := ⟨.hbm, 124, rfl⟩
abbrev main_c_6 : Ref sig .tc := ⟨.hbm, 125, rfl⟩
abbrev main_v47 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := .none

abbrev stage0_0 : Fin 1 → Memref sig .tc .vmem S8x4x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

@[reducible] def k1_t1_loop : Scf.Loop 32 :=
  let c0_i32 : BitVec 32 := 0#32
  let c500_i32_22 : BitVec 32 := 500#32
  let v32 : BitVec 32 := Scalar.addi c0_i32 c500_i32_22
  let c1_i32 : BitVec 32 := 1#32
  ⟨c0_i32, v32, c1_i32⟩
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let v41 : Index := Scalar.indexCast arg9
  let c0_31 : Index := 0#32
  ![v41.toNat, 0]
def k1_off2 (k1_t1 : Fin k1_t1_loop.trips) : Fin 3 → Nat :=
  let c0_32 : Index := 0#32
  let c0_i32 : BitVec 32 := 0#32
  let c1_i32 : BitVec 32 := 1#32
  let arg9 : BitVec 32 := Scf.iv c0_i32 c1_i32 k1_t1
  let v43 : Index := Scalar.indexCast arg9
  let c0_33 : Index := 0#32
  ![0, v43.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x80 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x80 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== WholeRefIdeal.lean ====
abbrev S8x20000x80 : Shape := ⟨3, ![8, 20000, 80]⟩
abbrev S8x20000x4 : Shape := ⟨3, ![8, 20000, 4]⟩
abbrev S20000x4 : Shape := ⟨2, ![20000, 4]⟩
abbrev S4 : Shape := ⟨1, ![4]⟩
abbrev S_ : Shape := ⟨0, ![]⟩
abbrev S1x1x4 : Shape := ⟨3, ![1, 1, 4]⟩
abbrev S1x20000x4 : Shape := ⟨3, ![1, 20000, 4]⟩
abbrev S8x20000x2 : Shape := ⟨3, ![8, 20000, 2]⟩
abbrev S1x20000x2 : Shape := ⟨3, ![1, 20000, 2]⟩
abbrev S8x80x20000 : Shape := ⟨3, ![8, 80, 20000]⟩
abbrev S8x80x500 : Shape := ⟨3, ![8, 80, 500]⟩
abbrev S8x80x500x1 : Shape := ⟨4, ![8, 80, 500, 1]⟩
abbrev S8x80x500x4 : Shape := ⟨4, ![8, 80, 500, 4]⟩
abbrev S8x80x1x500 : Shape := ⟨4, ![8, 80, 1, 500]⟩
abbrev S8x80x500x500 : Shape := ⟨4, ![8, 80, 500, 500]⟩
abbrev S500 : Shape := ⟨1, ![500]⟩
abbrev S8x80x1 : Shape := ⟨3, ![8, 80, 1]⟩
abbrev S1x1x500 : Shape := ⟨3, ![1, 1, 500]⟩
abbrev S80 : Shape := ⟨1, ![80]⟩
abbrev S80x1 : Shape := ⟨2, ![80, 1]⟩
abbrev S80x500 : Shape := ⟨2, ![80, 500]⟩
abbrev S8x40000 : Shape := ⟨2, ![8, 40000]⟩
abbrev S8x40000x4 : Shape := ⟨3, ![8, 40000, 4]⟩
abbrev S40000 : Shape := ⟨1, ![40000]⟩
abbrev S8x1000 : Shape := ⟨2, ![8, 1000]⟩
abbrev S8x1000x1 : Shape := ⟨3, ![8, 1000, 1]⟩
abbrev S8x1000x4 : Shape := ⟨3, ![8, 1000, 4]⟩
abbrev S8 : Shape := ⟨1, ![8]⟩

abbrev nBuf : Space → Nat
  | .hbm => 230
  | .vmem => 0
  | .smem => 0
  | _ => 0

abbrev hbmTy0_0 (i : Nat) : BufTy := match i % 128 with
  | 0 => ⟨S8x20000x80, .f32⟩
  | 1 => ⟨S8x20000x4, .f32⟩
  | 2 => ⟨S20000x4, .f32⟩
  | 3 => ⟨S4, .f32⟩
  | 4 => ⟨S8x20000x80, .f32⟩
  | 5 => ⟨S8x20000x80, .f32⟩
  | 6 => ⟨S_, .f32⟩
  | 7 => ⟨S8x20000x80, .f32⟩
  | 8 => ⟨S8x20000x80, .f32⟩
  | 9 => ⟨S_, .f32⟩
  | 10 => ⟨S8x20000x80, .f32⟩
  | 11 => ⟨S8x20000x80, .f32⟩
  | 12 => ⟨S1x1x4, .f32⟩
  | 13 => ⟨S8x20000x4, .f32⟩
  | 14 => ⟨S8x20000x4, .f32⟩
  | 15 => ⟨S1x20000x4, .f32⟩
  | 16 => ⟨S8x20000x2, .f32⟩
  | 17 => ⟨S1x20000x2, .f32⟩
  | 18 => ⟨S8x20000x2, .f32⟩
  | 19 => ⟨S8x20000x2, .f32⟩
  | 20 => ⟨S1x20000x2, .f32⟩
  | 21 => ⟨S8x20000x2, .f32⟩
  | 22 => ⟨S8x20000x2, .f32⟩
  | 23 => ⟨S8x20000x2, .f32⟩
  | 24 => ⟨S8x20000x2, .f32⟩
  | 25 => ⟨S1x20000x2, .f32⟩
  | 26 => ⟨S8x20000x2, .f32⟩
  | 27 => ⟨S8x20000x2, .f32⟩
  | 28 => ⟨S8x20000x4, .f32⟩
  | 29 => ⟨S8x20000x2, .f32⟩
  | 30 => ⟨S8x20000x2, .f32⟩
  | 31 => ⟨S_, .f32⟩
  | 32 => ⟨S8x20000x2, .f32⟩
  | 33 => ⟨S8x20000x2, .f32⟩
  | 34 => ⟨S8x20000x2, .f32⟩
  | 35 => ⟨S8x20000x2, .f32⟩
  | 36 => ⟨S8x20000x2, .f32⟩
  | 37 => ⟨S_, .f32⟩
  | 38 => ⟨S8x20000x2, .f32⟩
  | 39 => ⟨S8x20000x2, .f32⟩
  | 40 => ⟨S8x20000x2, .f32⟩
  | 41 => ⟨S8x20000x4, .f32⟩
  | 42 => ⟨S8x80x20000, .f32⟩
  | 43 => ⟨S8x80x500, .f32⟩
  | 44 => ⟨S8x80x500, .i32⟩
  | 45 => ⟨S_, .i32⟩
  | 46 => ⟨S8x80x500, .i32⟩
  | 47 => ⟨S8x80x500, .i1⟩
  | 48 => ⟨S_, .i32⟩
  | 49 => ⟨S8x80x500, .i32⟩
  | 50 => ⟨S8x80x500, .i32⟩
  | 51 => ⟨S8x80x500, .i32⟩
  | 52 => ⟨S8x80x500x1, .i32⟩
  | 53 => ⟨S8x80x500x4, .f32⟩
  | 54 => ⟨S8x80x500x1, .f32⟩
  | 55 => ⟨S8x80x500, .f32⟩
  | 56 => ⟨S8x80x500x1, .f32⟩
  | 57 => ⟨S8x80x500x1, .f32⟩
  | 58 => ⟨S8x80x500, .f32⟩
  | 59 => ⟨S8x80x1x500, .f32⟩
  | 60 => ⟨S8x80x500x500, .f32⟩
  | 61 => ⟨S8x80x500x500, .f32⟩
  | 62 => ⟨S8x80x500x500, .f32⟩
  | 63 => ⟨S8x80x500x1, .f32⟩
  | 64 => ⟨S8x80x500, .f32⟩
  | 65 => ⟨S8x80x500x1, .f32⟩
  | 66 => ⟨S8x80x500x1, .f32⟩
  | 67 => ⟨S8x80x500, .f32⟩
  | 68 => ⟨S8x80x1x500, .f32⟩
  | 69 => ⟨S8x80x500x500, .f32⟩
  | 70 => ⟨S8x80x500x500, .f32⟩
  | 71 => ⟨S8x80x500x500, .f32⟩
  | 72 => ⟨S8x80x500x1, .f32⟩
  | 73 => ⟨S8x80x500, .f32⟩
  | 74 => ⟨S8x80x500x1, .f32⟩
  | 75 => ⟨S8x80x500x1, .f32⟩
  | 76 => ⟨S8x80x500, .f32⟩
  | 77 => ⟨S8x80x1x500, .f32⟩
  | 78 => ⟨S8x80x500x500, .f32⟩
  | 79 => ⟨S8x80x500x500, .f32⟩
  | 80 => ⟨S8x80x500x500, .f32⟩
  | 81 => ⟨S8x80x500x1, .f32⟩
  | 82 => ⟨S8x80x500, .f32⟩
  | 83 => ⟨S8x80x500x1, .f32⟩
  | 84 => ⟨S8x80x500x1, .f32⟩
  | 85 => ⟨S8x80x500, .f32⟩
  | 86 => ⟨S8x80x1x500, .f32⟩
  | 87 => ⟨S8x80x500x500, .f32⟩
  | 88 => ⟨S8x80x500x500, .f32⟩
  | 89 => ⟨S8x80x500x500, .f32⟩
  | 90 => ⟨S8x80x500x500, .f32⟩
  | 91 => ⟨S_, .f32⟩
  | 92 => ⟨S_, .f32⟩
  | 93 => ⟨S8x80x500x500, .f32⟩
  | 94 => ⟨S8x80x500x500, .f32⟩
  | 95 => ⟨S8x80x500x500, .f32⟩
  | 96 => ⟨S_, .f32⟩
  | 97 => ⟨S_, .f32⟩
  | 98 => ⟨S8x80x500x500, .f32⟩
  | 99 => ⟨S8x80x500x500, .f32⟩
  | 100 => ⟨S8x80x500x500, .f32⟩
  | 101 => ⟨S8x80x500x1, .f32⟩
  | 102 => ⟨S8x80x500, .f32⟩
  | 103 => ⟨S8x80x500x1, .f32⟩
  | 104 => ⟨S8x80x500, .f32⟩
  | 105 => ⟨S8x80x500, .f32⟩
  | 106 => ⟨S_, .f32⟩
  | 107 => ⟨S_, .f32⟩
  | 108 => ⟨S8x80x500, .f32⟩
  | 109 => ⟨S8x80x500, .f32⟩
  | 110 => ⟨S8x80x500x1, .f32⟩
  | 111 => ⟨S8x80x500, .f32⟩
  | 112 => ⟨S8x80x500x1, .f32⟩
  | 113 => ⟨S8x80x500, .f32⟩
  | 114 => ⟨S8x80x500, .f32⟩
  | 115 => ⟨S_, .f32⟩
  | 116 => ⟨S_, .f32⟩
  | 117 => ⟨S8x80x500, .f32⟩
  | 118 => ⟨S8x80x500, .f32⟩
  | 119 => ⟨S8x80x500, .f32⟩
  | 120 => ⟨S8x80x500x1, .f32⟩
  | 121 => ⟨S8x80x1x500, .f32⟩
  | 122 => ⟨S8x80x500x500, .f32⟩
  | 123 => ⟨S8x80x500x500, .f32⟩
  | 124 => ⟨S8x80x500x500, .f32⟩
  | 125 => ⟨S8x80x500x500, .f32⟩
  | 126 => ⟨S_, .f32⟩
  | 127 => ⟨S8x80x500x500, .f32⟩
  | _ => ⟨S8x20000x80, .f32⟩

abbrev hbmTy0_1 (i : Nat) : BufTy := match i % 128 with
  | 0 => ⟨S8x80x500x500, .f32⟩
  | 1 => ⟨S8x80x500x500, .f32⟩
  | 2 => ⟨S_, .f32⟩
  | 3 => ⟨S8x80x500, .f32⟩
  | 4 => ⟨S8x80x500, .i1⟩
  | 5 => ⟨S500, .i32⟩
  | 6 => ⟨S_, .i32⟩
  | 7 => ⟨S_, .i32⟩
  | 8 => ⟨S8x80x500x500, .f32⟩
  | 9 => ⟨S500, .i32⟩
  | 10 => ⟨S_, .i32⟩
  | 11 => ⟨S_, .i32⟩
  | 12 => ⟨S8x80x500, .i1⟩
  | 13 => ⟨S_, .i32⟩
  | 14 => ⟨S_, .i1⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S8x80x1x500, .f32⟩
  | 27 => ⟨S8x80x500, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S8x80x1, .i1⟩
  | 37 => ⟨S_, .f32⟩
  | 38 => ⟨S8x80x500, .f32⟩
  | 39 => ⟨S8x80x500, .i1⟩
  | 40 => ⟨S8x80x500, .i1⟩
  | 41 => ⟨S8x80x500, .i1⟩
  | 42 => ⟨S_, .i32⟩
  | 43 => ⟨S500, .i32⟩
  | 44 => ⟨S500, .i1⟩
  | 45 => ⟨S1x1x500, .i1⟩
  | 46 => ⟨S8x80x500, .i1⟩
  | 47 => ⟨S8x80x500, .i1⟩
  | 48 => ⟨S8x80x500, .i1⟩
  | 49 => ⟨S8x80x500, .i1⟩
  | 50 => ⟨S_, .i32⟩
  | 51 => ⟨S_, .i32⟩
  | 52 => ⟨S_, .f32⟩
  | 53 => ⟨S_, .f32⟩
  | 54 => ⟨S8x80x500, .f32⟩
  | 55 => ⟨S8x80x500, .f32⟩
  | 56 => ⟨S80, .f32⟩
  | 57 => ⟨S80x1, .f32⟩
  | 58 => ⟨S80x500, .f32⟩
  | 59 => ⟨S8x40000, .f32⟩
  | 60 => ⟨S8x40000x4, .f32⟩
  | 61 => ⟨S40000, .f32⟩
  | 62 => ⟨S8x1000, .f32⟩
  | 63 => ⟨S8x1000, .i32⟩
  | 64 => ⟨S_, .f32⟩
  | 65 => ⟨S8x1000, .f32⟩
  | 66 => ⟨S8x1000, .i1⟩
  | 67 => ⟨S8x1000x1, .i1⟩
  | 68 => ⟨S_, .i32⟩
  | 69 => ⟨S8x1000, .i32⟩
  | 70 => ⟨S8x1000, .i1⟩
  | 71 => ⟨S_, .i32⟩
  | 72 => ⟨S8x1000, .i32⟩
  | 73 => ⟨S8x1000, .i32⟩
  | 74 => ⟨S8x1000, .i32⟩
  | 75 => ⟨S8x1000x1, .i32⟩
  | 76 => ⟨S8x1000x4, .f32⟩
  | 77 => ⟨S_, .f32⟩
  | 78 => ⟨S_, .f32⟩
  | 79 => ⟨S8x1000x4, .i1⟩
  | 80 => ⟨S8x1000x4, .f32⟩
  | 81 => ⟨S8x1000x4, .f32⟩
  | 82 => ⟨S_, .i32⟩
  | 83 => ⟨S8x1000, .i32⟩
  | 84 => ⟨S8x1000, .i1⟩
  | 85 => ⟨S_, .i32⟩
  | 86 => ⟨S8x1000, .i32⟩
  | 87 => ⟨S8x1000, .i32⟩
  | 88 => ⟨S8x1000, .i32⟩
  | 89 => ⟨S8x1000x1, .i32⟩
  | 90 => ⟨S8x1000, .f32⟩
  | 91 => ⟨S_, .f32⟩
  | 92 => ⟨S_, .f32⟩
  | 93 => ⟨S8x1000, .f32⟩
  | 94 => ⟨S8x1000, .f32⟩
  | 95 => ⟨S_, .f32⟩
  | 96 => ⟨S_, .f32⟩
  | 97 => ⟨S8x1000, .f32⟩
  | 98 => ⟨S8x1000, .f32⟩
  | 99 => ⟨S8x1000, .i32⟩
  | 100 => ⟨S_, .i32⟩
  | 101 => ⟨S8, .i32⟩
  | _ => ⟨S8x20000x80, .f32⟩

abbrev hbmTy (i : Nat) : BufTy := match i / 128 with
  | 0 => hbmTy0_0 i
  | 1 => hbmTy0_1 i
  | _ => ⟨S8x20000x80, .f32⟩

abbrev bufTy : (tb : Table) → Fin (tcTables nBuf tb) → BufTy
  | .hbm, ⟨i, _⟩ => hbmTy i
  | _, _ => ⟨S8x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_values : Ref sig .tc := ⟨.hbm, 43, rfl⟩
abbrev main_indices : Ref sig .tc := ⟨.hbm, 44, rfl⟩
abbrev main_c : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_5 : Ref sig .tc := ⟨.hbm, 91, rfl⟩
abbrev main_call0_v0 : Ref sig .tc := ⟨.hbm, 92, rfl⟩
abbrev main_call0_v1 : Ref sig .tc := ⟨.hbm, 93, rfl⟩
abbrev main_v79 : Ref sig .tc := ⟨.hbm, 94, rfl⟩
abbrev main_v80 : Ref sig .tc := ⟨.hbm, 95, rfl⟩
abbrev main_cst_6 : Ref sig .tc := ⟨.hbm, 96, rfl⟩
abbrev main_call1_v0 : Ref sig .tc := ⟨.hbm, 97, rfl⟩
abbrev main_call1_v1 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_7 : Ref sig .tc := ⟨.hbm, 106, rfl⟩
abbrev main_call2_v0 : Ref sig .tc := ⟨.hbm, 107, rfl⟩
abbrev main_call2_v1 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_8 : Ref sig .tc := ⟨.hbm, 115, rfl⟩
abbrev main_call3_v0 : Ref sig .tc := ⟨.hbm, 116, rfl⟩
abbrev main_call3_v1 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_9 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_10 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_c_11 : Ref sig .tc := ⟨.hbm, 134, rfl⟩
abbrev main_c_12 : Ref sig .tc := ⟨.hbm, 135, rfl⟩
abbrev main_v108_0 : Ref sig .tc := ⟨.hbm, 136, rfl⟩
abbrev main_v108_1 : Ref sig .tc := ⟨.hbm, 137, rfl⟩
abbrev main_v108_2 : Ref sig .tc := ⟨.hbm, 138, rfl⟩
abbrev main_v108_3 : Ref sig .tc := ⟨.hbm, 139, rfl⟩
abbrev main_v108_4 : Ref sig .tc := ⟨.hbm, 140, rfl⟩
abbrev main_while0c_c_29 : Ref sig .tc := ⟨.hbm, 141, rfl⟩
abbrev main_while0c_v138 : Ref sig .tc := ⟨.hbm, 142, rfl⟩
abbrev main_while0b_c_29 : Ref sig .tc := ⟨.hbm, 143, rfl⟩
abbrev main_while0b_v138 : Ref sig .tc := ⟨.hbm, 144, rfl⟩
abbrev main_while0b_call4_c : Ref sig .tc := ⟨.hbm, 145, rfl⟩
abbrev main_while0b_call4_v0 : Ref sig .tc := ⟨.hbm, 146, rfl⟩
abbrev main_while0b_call4_v1 : Ref sig .tc := ⟨.hbm, 147, rfl⟩
abbrev main_while0b_call4_c_0 : Ref sig .tc := ⟨.hbm, 148, rfl⟩
abbrev main_while0b_call4_v2 : Ref sig .tc := ⟨.hbm, 149, rfl⟩
abbrev main_while0b_call4_v3 : Ref sig .tc := ⟨.hbm, 150, rfl⟩
abbrev main_while0b_call4_c_1 : Ref sig .tc := ⟨.hbm, 151, rfl⟩
abbrev main_while0b_call4_c_2 : Ref sig .tc := ⟨.hbm, 152, rfl⟩
abbrev main_while0b_call4_c_3 : Ref sig .tc := ⟨.hbm, 153, rfl⟩
abbrev main_while0b_call4_v4 : Ref sig .tc := ⟨.hbm, 154, rfl⟩
abbrev main_while0b_v139 : Ref sig .tc := ⟨.hbm, 155, rfl⟩
abbrev main_while0b_call5_c : Ref sig .tc := ⟨.hbm, 156, rfl⟩
abbrev main_while0b_call5_v0 : Ref sig .tc := ⟨.hbm, 157, rfl⟩
abbrev main_while0b_call5_v1 : Ref sig .tc := ⟨.hbm, 158, rfl⟩
abbrev main_while0b_call5_c_0 : Ref sig .tc := ⟨.hbm, 159, rfl⟩
abbrev main_while0b_call5_v2 : Ref sig .tc := ⟨.hbm, 160, rfl⟩
abbrev main_while0b_call5_v3 : Ref sig .tc := ⟨.hbm, 161, rfl⟩
abbrev main_while0b_call5_c_1 : Ref sig .tc := ⟨.hbm, 162, rfl⟩
abbrev main_while0b_call5_c_2 : Ref sig .tc := ⟨.hbm, 163, rfl⟩
abbrev main_while0b_v140 : Ref sig .tc := ⟨.hbm, 164, rfl⟩
abbrev main_while0b_cst_30 : Ref sig .tc := ⟨.hbm, 165, rfl⟩
abbrev main_while0b_v141 : Ref sig .tc := ⟨.hbm, 166, rfl⟩
abbrev main_while0b_v142 : Ref sig .tc := ⟨.hbm, 167, rfl⟩
abbrev main_while0b_v143 : Ref sig .tc := ⟨.hbm, 168, rfl⟩
abbrev main_while0b_v144 : Ref sig .tc := ⟨.hbm, 169, rfl⟩
abbrev main_while0b_v145 : Ref sig .tc := ⟨.hbm, 170, rfl⟩
abbrev main_while0b_v146 : Ref sig .tc := ⟨.hbm, 171, rfl⟩
abbrev main_while0b_v147 : Ref sig .tc := ⟨.hbm, 172, rfl⟩
abbrev main_while0b_v148 : Ref sig .tc := ⟨.hbm, 173, rfl⟩
abbrev main_while0b_v149 : Ref sig .tc := ⟨.hbm, 174, rfl⟩
abbrev main_while0b_v150 : Ref sig .tc := ⟨.hbm, 175, rfl⟩
abbrev main_while0b_v151 : Ref sig .tc := ⟨.hbm, 176, rfl⟩
abbrev main_while0b_v152 : Ref sig .tc := ⟨.hbm, 177, rfl⟩
abbrev main_while0b_c_31 : Ref sig .tc := ⟨.hbm, 178, rfl⟩
abbrev main_while0b_v153 : Ref sig .tc := ⟨.hbm, 179, rfl⟩
abbrev main_cst_13 : Ref sig .tc := ⟨.hbm, 180, rfl⟩
abbrev main_call6_v0 : Ref sig .tc := ⟨.hbm, 181, rfl⟩
abbrev main_call6_v1 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_values_14 : Ref sig .tc := ⟨.hbm, 190, rfl⟩
abbrev main_indices_15 : Ref sig .tc := ⟨.hbm, 191, rfl⟩
abbrev main_cst_16 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_c_17 : Ref sig .tc := ⟨.hbm, 196, rfl⟩
abbrev main_v119 : Ref sig .tc := ⟨.hbm, 197, rfl⟩
abbrev main_v120 : Ref sig .tc := ⟨.hbm, 198, rfl⟩
abbrev main_c_18 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_cst_19 : Ref sig .tc := ⟨.hbm, 205, rfl⟩
abbrev main_call7_v0 : Ref sig .tc := ⟨.hbm, 206, rfl⟩
abbrev main_call7_v1 : Ref sig .tc := ⟨.hbm, 207, rfl⟩
abbrev main_call7_v2 : Ref sig .tc := ⟨.hbm, 208, rfl⟩
abbrev main_v126 : Ref sig .tc := ⟨.hbm, 209, rfl⟩
abbrev main_c_20 : Ref sig .tc := ⟨.hbm, 210, rfl⟩
abbrev main_v127 : Ref sig .tc := ⟨.hbm, 211, rfl⟩
abbrev main_v128 : Ref sig .tc := ⟨.hbm, 212, rfl⟩
abbrev main_c_21 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_cst_22 : Ref sig .tc := ⟨.hbm, 219, rfl⟩
abbrev main_call8_v0 : Ref sig .tc := ⟨.hbm, 220, rfl⟩
abbrev main_call8_v1 : Ref sig .tc := ⟨.hbm, 221, rfl⟩
abbrev main_v134 : Ref sig .tc := ⟨.hbm, 222, rfl⟩
abbrev main_cst_23 : Ref sig .tc := ⟨.hbm, 223, rfl⟩
abbrev main_call9_v0 : Ref sig .tc := ⟨.hbm, 224, rfl⟩
abbrev main_call9_v1 : Ref sig .tc := ⟨.hbm, 225, rfl⟩
abbrev main_v135 : Ref sig .tc := ⟨.hbm, 226, rfl⟩
abbrev main_v136 : Ref sig .tc := ⟨.hbm, 227, rfl⟩
abbrev main_c_24 : Ref sig .tc := ⟨.hbm, 228, rfl⟩
abbrev main_v137 : Ref sig .tc := ⟨.hbm, 229, rfl⟩

abbrev nD : Nat := 1
abbrev τ : Topo := Topo.v7x

variable {F : FTy → Type} [FloatOps F]

abbrev main_while0_count : Scf.Loop 32 := ⟨0#32, 500#32, 1#32⟩
-- ==== V00.lean ====
abbrev S8x20000x80 : Shape := ⟨3, ![8, 20000, 80]⟩
abbrev S8x20000x4 : Shape := ⟨3, ![8, 20000, 4]⟩
abbrev S20000x4 : Shape := ⟨2, ![20000, 4]⟩
abbrev S8x4x20000 : Shape := ⟨3, ![8, 4, 20000]⟩
abbrev S4x20000 : Shape := ⟨2, ![4, 20000]⟩
abbrev S1x20000 : Shape := ⟨2, ![1, 20000]⟩
abbrev S8x1x20000 : Shape := ⟨3, ![8, 1, 20000]⟩
abbrev S8x20000 : Shape := ⟨2, ![8, 20000]⟩
abbrev S8x80x20000 : Shape := ⟨3, ![8, 80, 20000]⟩
abbrev S_ : Shape := ⟨0, ![]⟩
abbrev S8x80x512 : Shape := ⟨3, ![8, 80, 512]⟩
abbrev S512 : Shape := ⟨1, ![512]⟩
abbrev S8x1x40960 : Shape := ⟨3, ![8, 1, 40960]⟩
abbrev S8x40960x1 : Shape := ⟨3, ![8, 40960, 1]⟩
abbrev S1 : Shape := ⟨1, ![1]⟩
abbrev S1x1x1 : Shape := ⟨3, ![1, 1, 1]⟩
abbrev S8x40960 : Shape := ⟨2, ![8, 40960]⟩
abbrev S8x4x40960 : Shape := ⟨3, ![8, 4, 40960]⟩
abbrev S8x4x80x512 : Shape := ⟨4, ![8, 4, 80, 512]⟩
abbrev S8x4x512x80 : Shape := ⟨4, ![8, 4, 512, 80]⟩
abbrev S8x512x80 : Shape := ⟨3, ![8, 512, 80]⟩
abbrev S8x1x512x80 : Shape := ⟨4, ![8, 1, 512, 80]⟩
abbrev S1x512x80 : Shape := ⟨3, ![1, 512, 80]⟩
abbrev S512x80 : Shape := ⟨2, ![512, 80]⟩
abbrev S1x80 : Shape := ⟨2, ![1, 80]⟩
abbrev S1x1x80 : Shape := ⟨3, ![1, 1, 80]⟩
abbrev S8x1000 : Shape := ⟨2, ![8, 1000]⟩
abbrev S1000 : Shape := ⟨1, ![1000]⟩
abbrev S8x1x1000 : Shape := ⟨3, ![8, 1, 1000]⟩
abbrev S8x1000x1 : Shape := ⟨3, ![8, 1000, 1]⟩
abbrev S8x4x1000 : Shape := ⟨3, ![8, 4, 1000]⟩
abbrev S8x1000x4 : Shape := ⟨3, ![8, 1000, 4]⟩
abbrev S8 : Shape := ⟨1, ![8]⟩

abbrev nBuf : Space → Nat
  | .hbm => 124
  | .vmem => 17
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S20000x4, .f32⟩
  | .hbm, ⟨3, _⟩ => ⟨S8x4x20000, .f32⟩
  | .hbm, ⟨4, _⟩ => ⟨S4x20000, .f32⟩
  | .hbm, ⟨5, _⟩ => ⟨S8x4x20000, .f32⟩
  | .hbm, ⟨6, _⟩ => ⟨S8x80x20000, .f32⟩
  | .hbm, ⟨7, _⟩ => ⟨S8x80x20000, .f32⟩
  | .hbm, ⟨8, _⟩ => ⟨S8x80x20000, .f32⟩
  | .hbm, ⟨9, _⟩ => ⟨S_, .f32⟩
  | .hbm, ⟨10, _⟩ => ⟨S8x80x20000, .f32⟩
  | .hbm, ⟨11, _⟩ => ⟨S8x80x20000, .f32⟩
  | .hbm, ⟨12, _⟩ => ⟨S_, .f32⟩
  | .hbm, ⟨13, _⟩ => ⟨S8x80x20000, .f32⟩
  | .hbm, ⟨14, _⟩ => ⟨S8x80x20000, .f32⟩
  | .hbm, ⟨15, _⟩ => ⟨S8x80x512, .f32⟩
  | .hbm, ⟨16, _⟩ => ⟨S512, .i32⟩
  | .hbm, ⟨17, _⟩ => ⟨S8x80x512, .i32⟩
  | .hbm, ⟨18, _⟩ => ⟨S8x1x40960, .i32⟩
  | .hbm, ⟨19, _⟩ => ⟨S_, .i32⟩
  | .hbm, ⟨20, _⟩ => ⟨S8x1x40960, .i32⟩
  | .hbm, ⟨21, _⟩ => ⟨S8x1x40960, .i1⟩
  | .hbm, ⟨22, _⟩ => ⟨S_, .i32⟩
  | .hbm, ⟨23, _⟩ => ⟨S8x1x40960, .i32⟩
  | .hbm, ⟨24, _⟩ => ⟨S8x1x40960, .i32⟩
  | .hbm, ⟨25, _⟩ => ⟨S8x1x40960, .i32⟩
  | .hbm, ⟨26, _⟩ => ⟨S8x40960x1, .i32⟩
  | .hbm, ⟨27, _⟩ => ⟨S1, .i32⟩
  | .hbm, ⟨28, _⟩ => ⟨S_, .i32⟩
  | .hbm, ⟨29, _⟩ => ⟨S8x40960x1, .i32⟩
  | .hbm, ⟨30, _⟩ => ⟨S8x40960x1, .i1⟩
  | .hbm, ⟨31, _⟩ => ⟨S1x1x1, .i32⟩
  | .hbm, ⟨32, _⟩ => ⟨S8x40960x1, .i32⟩
  | .hbm, ⟨33, _⟩ => ⟨S8x40960x1, .i1⟩
  | .hbm, ⟨34, _⟩ => ⟨S8x40960x1, .i1⟩
  | .hbm, ⟨35, _⟩ => ⟨S_, .i1⟩
  | .hbm, ⟨36, _⟩ => ⟨S8x40960, .i1⟩
  | .hbm, ⟨37, _⟩ => ⟨S8x4x40960, .f32⟩
  | .hbm, ⟨38, _⟩ => ⟨S8x4x40960, .i1⟩
  | .hbm, ⟨39, _⟩ => ⟨S_, .f32⟩
  | .hbm, ⟨40, _⟩ => ⟨S8x4x40960, .f32⟩
  | .hbm, ⟨41, _⟩ => ⟨S8x4x40960, .f32⟩
  | .hbm, ⟨42, _⟩ => ⟨S8x4x80x512, .f32⟩
  | .hbm, ⟨43, _⟩ => ⟨S8x4x512x80, .f32⟩
  | .hbm, ⟨44, _⟩ => ⟨S8x512x80, .f32⟩
  | .hbm, ⟨45, _⟩ => ⟨S8x1x512x80, .f32⟩
  | .hbm, ⟨46, _⟩ => ⟨S8x512x80, .f32⟩
  | .hbm, ⟨47, _⟩ => ⟨S8x1x512x80, .f32⟩
  | .hbm, ⟨48, _⟩ => ⟨S8x512x80, .f32⟩
  | .hbm, ⟨49, _⟩ => ⟨S8x1x512x80, .f32⟩
  | .hbm, ⟨50, _⟩ => ⟨S8x512x80, .f32⟩
  | .hbm, ⟨51, _⟩ => ⟨S8x1x512x80, .f32⟩
  | .hbm, ⟨52, _⟩ => ⟨S8x512x80, .f32⟩
  | .hbm, ⟨53, _⟩ => ⟨S8x512x80, .f32⟩
  | .hbm, ⟨54, _⟩ => ⟨S8x80x512, .f32⟩
  | .hbm, ⟨55, _⟩ => ⟨S8x40960, .f32⟩
  | .hbm, ⟨56, _⟩ => ⟨S8x1000, .f32⟩
  | .hbm, ⟨57, _⟩ => ⟨S1000, .i32⟩
  | .hbm, ⟨58, _⟩ => ⟨S8x1000, .i32⟩
  | .hbm, ⟨59, _⟩ => ⟨S_, .i32⟩
  | .hbm, ⟨60, _⟩ => ⟨S_, .i32⟩
  | .hbm, ⟨61, _⟩ => ⟨S8x1000, .i32⟩
  | .hbm, ⟨62, _⟩ => ⟨S8x1000, .i32⟩
  | .hbm, ⟨63, _⟩ => ⟨S8x1000, .i32⟩
  | .hbm, ⟨64, _⟩ => ⟨S_, .i32⟩
  | .hbm, ⟨65, _⟩ => ⟨S8x1000, .i32⟩
  | .hbm, ⟨66, _⟩ => ⟨S8x1000, .i1⟩
  | .hbm, ⟨67, _⟩ => ⟨S8x1000, .i32⟩
  | .hbm, ⟨68, _⟩ => ⟨S8x1000, .i32⟩
  | .hbm, ⟨69, _⟩ => ⟨S_, .i32⟩
  | .hbm, ⟨70, _⟩ => ⟨S8x1000, .i32⟩
  | .hbm, ⟨71, _⟩ => ⟨S8x1000, .i1⟩
  | .hbm, ⟨72, _⟩ => ⟨S8x1000, .i1⟩
  | .hbm, ⟨73, _⟩ => ⟨S_, .i32⟩
  | .hbm, ⟨74, _⟩ => ⟨S8x1000, .i32⟩
  | .hbm, ⟨75, _⟩ => ⟨S8x1000, .i32⟩
  | .hbm, ⟨76, _⟩ => ⟨S8x1000, .i32⟩
  | .hbm, ⟨77, _⟩ => ⟨S8x1000, .f32⟩
  | .hbm, ⟨78, _⟩ => ⟨S8x4x40960, .f32⟩
  | .hbm, ⟨79, _⟩ => ⟨S8x1x1000, .i32⟩
  | .hbm, ⟨80, _⟩ => ⟨S_, .i32⟩
  | .hbm, ⟨81, _⟩ => ⟨S8x1x1000, .i32⟩
  | .hbm, ⟨82, _⟩ => ⟨S8x1x1000, .i1⟩
  | .hbm, ⟨83, _⟩ => ⟨S_, .i32⟩
  | .hbm, ⟨84, _⟩ => ⟨S8x1x1000, .i32⟩
  | .hbm, ⟨85, _⟩ => ⟨S8x1x1000, .i32⟩
  | .hbm, ⟨86, _⟩ => ⟨S8x1x1000, .i32⟩
  | .hbm, ⟨87, _⟩ => ⟨S8x1000x1, .i32⟩
  | .hbm, ⟨88, _⟩ => ⟨S1, .i32⟩
  | .hbm, ⟨89, _⟩ => ⟨S_, .i32⟩
  | .hbm, ⟨90, _⟩ => ⟨S8x1000x1, .i32⟩
  | .hbm, ⟨91, _⟩ => ⟨S8x1000x1, .i1⟩
  | .hbm, ⟨92, _⟩ => ⟨S1x1x1, .i32⟩
  | .hbm, ⟨93, _⟩ => ⟨S8x1000x1, .i32⟩
  | .hbm, ⟨94, _⟩ => ⟨S8x1000x1, .i1⟩
  | .hbm, ⟨95, _⟩ => ⟨S8x1000x1, .i1⟩
  | .hbm, ⟨96, _⟩ => ⟨S_, .i1⟩
  | .hbm, ⟨97, _⟩ => ⟨S8x1000, .i1⟩
  | .hbm, ⟨98, _⟩ => ⟨S8x4x1000, .f32⟩
  | .hbm, ⟨99, _⟩ => ⟨S8x4x1000, .i1⟩
  | .hbm, ⟨100, _⟩ => ⟨S_, .f32⟩
  | .hbm, ⟨101, _⟩ => ⟨S8x4x1000, .f32⟩
  | .hbm, ⟨102, _⟩ => ⟨S8x4x1000, .f32⟩
  | .hbm, ⟨103, _⟩ => ⟨S_, .f32⟩
  | .hbm, ⟨104, _⟩ => ⟨S8x1000, .f32⟩
  | .hbm, ⟨105, _⟩ => ⟨S8x1000, .i1⟩
  | .hbm, ⟨106, _⟩ => ⟨S8x1000x1, .i1⟩
  | .hbm, ⟨107, _⟩ => ⟨S8x1000x4, .f32⟩
  | .hbm, ⟨108, _⟩ => ⟨S_, .f32⟩
  | .hbm, ⟨109, _⟩ => ⟨S_, .f32⟩
  | .hbm, ⟨110, _⟩ => ⟨S8x1000x4, .i1⟩
  | .hbm, ⟨111, _⟩ => ⟨S8x1000x4, .f32⟩
  | .hbm, ⟨112, _⟩ => ⟨S8x1000x4, .f32⟩
  | .hbm, ⟨113, _⟩ => ⟨S_, .f32⟩
  | .hbm, ⟨114, _⟩ => ⟨S_, .f32⟩
  | .hbm, ⟨115, _⟩ => ⟨S8x1000, .f32⟩
  | .hbm, ⟨116, _⟩ => ⟨S8x1000, .f32⟩
  | .hbm, ⟨117, _⟩ => ⟨S_, .f32⟩
  | .hbm, ⟨118, _⟩ => ⟨S_, .f32⟩
  | .hbm, ⟨119, _⟩ => ⟨S8x1000, .f32⟩
  | .hbm, ⟨120, _⟩ => ⟨S8x1000, .f32⟩
  | .hbm, ⟨121, _⟩ => ⟨S8x1000, .i32⟩
  | .hbm, ⟨122, _⟩ => ⟨S_, .i32⟩
  | .hbm, ⟨123, _⟩ => ⟨S8, .i32⟩
  | .local _ .vmem, ⟨0, _⟩ => ⟨S8x4x20000, .f32⟩
  | .local _ .vmem, ⟨1, _⟩ => ⟨S4x20000, .f32⟩
  | .local _ .vmem, ⟨2, _⟩ => ⟨S8x4x20000, .f32⟩
  | .local _ .vmem, ⟨3, _⟩ => ⟨S1x512x80, .f32⟩
  | .local _ .vmem, ⟨4, _⟩ => ⟨S1x512x80, .f32⟩
  | .local _ .vmem, ⟨5, _⟩ => ⟨S1x512x80, .f32⟩
  | .local _ .vmem, ⟨6, _⟩ => ⟨S1x512x80, .f32⟩
  | .local _ .vmem, ⟨7, _⟩ => ⟨S1x512x80, .f32⟩
  | .local _ .vmem, ⟨8, _⟩ => ⟨S1x512x80, .f32⟩
  | .local _ .vmem, ⟨9, _⟩ => ⟨S1x512x80, .f32⟩
  | .local _ .vmem, ⟨10, _⟩ => ⟨S1x512x80, .f32⟩
  | .local _ .vmem, ⟨11, _⟩ => ⟨S1x512x80, .f32⟩
  | .local _ .vmem, ⟨12, _⟩ => ⟨S1x512x80, .f32⟩
  | .local _ .vmem, ⟨13, _⟩ => ⟨S1x512x80, .f32⟩
  | .local _ .vmem, ⟨14, _⟩ => ⟨S1x512x80, .f32⟩
  | .local _ .vmem, ⟨15, _⟩ => ⟨S512x80, .f32⟩
  | .local _ .vmem, ⟨16, _⟩ => ⟨S512x80, .f32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_c : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_0 : Ref sig .tc := ⟨.hbm, 73, rfl⟩
abbrev main_call1_v12 : Ref sig .tc := ⟨.hbm, 74, rfl⟩
abbrev main_call1_v13 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v36 : Ref sig .tc := ⟨.hbm, 102, rfl⟩
abbrev main_cst_1 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_2 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v41 : Ref sig .tc := ⟨.hbm, 112, rfl⟩
abbrev main_cst_3 : Ref sig .tc := ⟨.hbm, 113, rfl⟩
abbrev main_call4_v0 : Ref sig .tc := ⟨.hbm, 114, rfl⟩
abbrev main_call4_v1 : Ref sig .tc := ⟨.hbm, 115, rfl⟩
abbrev main_v42 : Ref sig .tc := ⟨.hbm, 116, rfl⟩
abbrev main_cst_4 : Ref sig .tc := ⟨.hbm, 117, rfl⟩
abbrev main_call5_v0 : Ref sig .tc := ⟨.hbm, 118, rfl⟩
abbrev main_call5_v1 : Ref sig .tc := ⟨.hbm, 119, rfl⟩
abbrev main_v43 : Ref sig .tc := ⟨.hbm, 120, rfl⟩
abbrev main_v44 : Ref sig .tc := ⟨.hbm, 121, rfl⟩
abbrev main_c_5 : Ref sig .tc := ⟨.hbm, 122, rfl⟩
abbrev main_v45 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := .none

abbrev stage0_0 : Fin 1 → Memref sig .tc .vmem S8x4x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

@[reducible] def k1_t1_loop : Scf.Loop 32 :=
  let c0_i32 : BitVec 32 := 0#32
  let c500_i32_22 : BitVec 32 := 500#32
  let v32 : BitVec 32 := Scalar.addi c0_i32 c500_i32_22
  let c1_i32 : BitVec 32 := 1#32
  ⟨c0_i32, v32, c1_i32⟩
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let v41 : Index := Scalar.indexCast arg9
  let c0_31 : Index := 0#32
  ![v41.toNat, 0]
def k1_off2 (k1_t1 : Fin k1_t1_loop.trips) : Fin 3 → Nat :=
  let c0_32 : Index := 0#32
  let c0_i32 : BitVec 32 := 0#32
  let c1_i32 : BitVec 32 := 1#32
  let arg9 : BitVec 32 := Scf.iv c0_i32 c1_i32 k1_t1
  let v43 : Index := Scalar.indexCast arg9
  let c0_33 : Index := 0#32
  ![0, v43.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x80 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x80 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== V02.lean ====
abbrev S8x20000x80 : Shape := ⟨3, ![8, 20000, 80]⟩
abbrev S8x20000x4 : Shape := ⟨3, ![8, 20000, 4]⟩
abbrev S20000x4 : Shape := ⟨2, ![20000, 4]⟩
abbrev S_ : Shape := ⟨0, ![]⟩
abbrev S8x80 : Shape := ⟨2, ![8, 80]⟩
abbrev S8x4 : Shape := ⟨2, ![8, 4]⟩
abbrev S4 : Shape := ⟨1, ![4]⟩
abbrev S8x1000x4 : Shape := ⟨3, ![8, 1000, 4]⟩
abbrev S8x1000 : Shape := ⟨2, ![8, 1000]⟩
abbrev S8 : Shape := ⟨1, ![8]⟩

abbrev nBuf : Space → Nat
  | .hbm => 34
  | .vmem => 2
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S20000x4, .f32⟩
  | .hbm, ⟨3, _⟩ => ⟨S_, .f32⟩
  | .hbm, ⟨4, _⟩ => ⟨S8x80, .f32⟩
  | .hbm, ⟨5, _⟩ => ⟨S_, .f32⟩
  | .hbm, ⟨6, _⟩ => ⟨S8x4, .f32⟩
  | .hbm, ⟨7, _⟩ => ⟨S_, .f32⟩
  | .hbm, ⟨8, _⟩ => ⟨S4, .f32⟩
  | .hbm, ⟨9, _⟩ => ⟨S8x80, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x1000x4, .f32⟩
  | .hbm, ⟨22, _⟩ => ⟨S8x1000x4, .f32⟩
  | .hbm, ⟨23, _⟩ => ⟨S8x1000x4, .f32⟩
  | .hbm, ⟨24, _⟩ => ⟨S_, .f32⟩
  | .hbm, ⟨25, _⟩ => ⟨S8x1000, .f32⟩
  | .hbm, ⟨26, _⟩ => ⟨S8x1000, .f32⟩
  | .hbm, ⟨27, _⟩ => ⟨S8x1000, .f32⟩
  | .hbm, ⟨28, _⟩ => ⟨S_, .f32⟩
  | .hbm, ⟨29, _⟩ => ⟨S8x1000, .f32⟩
  | .hbm, ⟨30, _⟩ => ⟨S8x1000, .f32⟩
  | .hbm, ⟨31, _⟩ => ⟨S8x1000, .f32⟩
  | .hbm, ⟨32, _⟩ => ⟨S_, .i32⟩
  | .hbm, ⟨33, _⟩ => ⟨S8, .i32⟩
  | .local _ .vmem, ⟨0, _⟩ => ⟨S8x80, .f32⟩
  | .local _ .vmem, ⟨1, _⟩ => ⟨S8x80, .f32⟩
  | _, _ => ⟨S8x20000x80, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_cst_6 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_7 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== V03.lean ====
abbrev S8x20000x80 : Shape := ⟨3, ![8, 20000, 80]⟩
abbrev S8x20000x4 : Shape := ⟨3, ![8, 20000, 4]⟩
abbrev S20000x4 : Shape := ⟨2, ![20000, 4]⟩
abbrev S_ : Shape := ⟨0, ![]⟩
abbrev S8x80 : Shape := ⟨2, ![8, 80]⟩
abbrev S8x4 : Shape := ⟨2, ![8, 4]⟩
abbrev S4 : Shape := ⟨1, ![4]⟩
abbrev S8x4x20000 : Shape := ⟨3, ![8, 4, 20000]⟩
abbrev S4x20000 : Shape := ⟨2, ![4, 20000]⟩
abbrev S8x1000x4 : Shape := ⟨3, ![8, 1000, 4]⟩
abbrev S8x1000 : Shape := ⟨2, ![8, 1000]⟩
abbrev S8 : Shape := ⟨1, ![8]⟩

abbrev nBuf : Space → Nat
  | .hbm => 42
  | .vmem => 2
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S20000x4, .f32⟩
  | .hbm, ⟨3, _⟩ => ⟨S_, .f32⟩
  | .hbm, ⟨4, _⟩ => ⟨S8x80, .f32⟩
  | .hbm, ⟨5, _⟩ => ⟨S_, .f32⟩
  | .hbm, ⟨6, _⟩ => ⟨S8x4, .f32⟩
  | .hbm, ⟨7, _⟩ => ⟨S_, .f32⟩
  | .hbm, ⟨8, _⟩ => ⟨S4, .f32⟩
  | .hbm, ⟨9, _⟩ => ⟨S8x80, .f32⟩
  | .hbm, ⟨10, _⟩ => ⟨S8x4x20000, .f32⟩
  | .hbm, ⟨11, _⟩ => ⟨S4x20000, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x1000x4, .f32⟩
  | .hbm, ⟨30, _⟩ => ⟨S8x1000x4, .f32⟩
  | .hbm, ⟨31, _⟩ => ⟨S8x1000x4, .f32⟩
  | .hbm, ⟨32, _⟩ => ⟨S_, .f32⟩
  | .hbm, ⟨33, _⟩ => ⟨S8x1000, .f32⟩
  | .hbm, ⟨34, _⟩ => ⟨S8x1000, .f32⟩
  | .hbm, ⟨35, _⟩ => ⟨S8x1000, .f32⟩
  | .hbm, ⟨36, _⟩ => ⟨S_, .f32⟩
  | .hbm, ⟨37, _⟩ => ⟨S8x1000, .f32⟩
  | .hbm, ⟨38, _⟩ => ⟨S8x1000, .f32⟩
  | .hbm, ⟨39, _⟩ => ⟨S8x1000, .f32⟩
  | .hbm, ⟨40, _⟩ => ⟨S_, .i32⟩
  | .hbm, ⟨41, _⟩ => ⟨S8, .i32⟩
  | .local _ .vmem, ⟨0, _⟩ => ⟨S8x80, .f32⟩
  | .local _ .vmem, ⟨1, _⟩ => ⟨S8x80, .f32⟩
  | _, _ => ⟨S8x20000x80, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_9 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_10 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== V04.lean ====
abbrev S8x20000x80 : Shape := ⟨3, ![8, 20000, 80]⟩
abbrev S8x20000x4 : Shape := ⟨3, ![8, 20000, 4]⟩
abbrev S20000x4 : Shape := ⟨2, ![20000, 4]⟩
abbrev S_ : Shape := ⟨0, ![]⟩
abbrev S8x80 : Shape := ⟨2, ![8, 80]⟩
abbrev S8x4 : Shape := ⟨2, ![8, 4]⟩
abbrev S4 : Shape := ⟨1, ![4]⟩
abbrev S8x4x20000 : Shape := ⟨3, ![8, 4, 20000]⟩
abbrev S4x20000 : Shape := ⟨2, ![4, 20000]⟩
abbrev S1x20000 : Shape := ⟨2, ![1, 20000]⟩
abbrev S8x1x20000 : Shape := ⟨3, ![8, 1, 20000]⟩
abbrev S8x20000 : Shape := ⟨2, ![8, 20000]⟩
abbrev S40960 : Shape := ⟨1, ![40960]⟩
abbrev S8x1x40960 : Shape := ⟨3, ![8, 1, 40960]⟩
abbrev S8x40960x1 : Shape := ⟨3, ![8, 40960, 1]⟩
abbrev S1 : Shape := ⟨1, ![1]⟩
abbrev S1x1x1 : Shape := ⟨3, ![1, 1, 1]⟩
abbrev S8x40960 : Shape := ⟨2, ![8, 40960]⟩
abbrev S8x4x40960 : Shape := ⟨3, ![8, 4, 40960]⟩
abbrev S8x4x80x512 : Shape := ⟨4, ![8, 4, 80, 512]⟩
abbrev S8x4x512x80 : Shape := ⟨4, ![8, 4, 512, 80]⟩
abbrev S8x1000x4 : Shape := ⟨3, ![8, 1000, 4]⟩
abbrev S8x1000 : Shape := ⟨2, ![8, 1000]⟩
abbrev S8 : Shape := ⟨1, ![8]⟩

abbrev nBuf : Space → Nat
  | .hbm => 89
  | .vmem => 5
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S20000x4, .f32⟩
  | .hbm, ⟨3, _⟩ => ⟨S_, .f32⟩
  | .hbm, ⟨4, _⟩ => ⟨S8x80, .f32⟩
  | .hbm, ⟨5, _⟩ => ⟨S_, .f32⟩
  | .hbm, ⟨6, _⟩ => ⟨S8x4, .f32⟩
  | .hbm, ⟨7, _⟩ => ⟨S_, .f32⟩
  | .hbm, ⟨8, _⟩ => ⟨S4, .f32⟩
  | .hbm, ⟨9, _⟩ => ⟨S8x80, .f32⟩
  | .hbm, ⟨10, _⟩ => ⟨S8x4x20000, .f32⟩
  | .hbm, ⟨11, _⟩ => ⟨S4x20000, .f32⟩
  | .hbm, ⟨12, _⟩ => ⟨S8x4x20000, .f32⟩
  | .hbm, ⟨13, _⟩ => ⟨S40960, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S40960, .i32⟩
  | .hbm, ⟨21, _⟩ => ⟨S40960, .i32⟩
  | .hbm, ⟨22, _⟩ => ⟨S_, .i32⟩
  | .hbm, ⟨23, _⟩ => ⟨S40960, .i32⟩
  | .hbm, ⟨24, _⟩ => ⟨S40960, .i1⟩
  | .hbm, ⟨25, _⟩ => ⟨S_, .i32⟩
  | .hbm, ⟨26, _⟩ => ⟨S40960, .i32⟩
  | .hbm, ⟨27, _⟩ => ⟨S40960, .i1⟩
  | .hbm, ⟨28, _⟩ => ⟨S_, .i32⟩
  | .hbm, ⟨29, _⟩ => ⟨S_, .i1⟩
  | .hbm, ⟨30, _⟩ => ⟨S40960, .i1⟩
  | .hbm, ⟨31, _⟩ => ⟨S40960, .i1⟩
  | .hbm, ⟨32, _⟩ => ⟨S40960, .i1⟩
  | .hbm, ⟨33, _⟩ => ⟨S40960, .i32⟩
  | .hbm, ⟨34, _⟩ => ⟨S40960, .i32⟩
  | .hbm, ⟨35, _⟩ => ⟨S40960, .i32⟩
  | .hbm, ⟨36, _⟩ => ⟨S8x1x40960, .i32⟩
  | .hbm, ⟨37, _⟩ => ⟨S_, .i32⟩
  | .hbm, ⟨38, _⟩ => ⟨S8x1x40960, .i32⟩
  | .hbm, ⟨39, _⟩ => ⟨S8x1x40960, .i1⟩
  | .hbm, ⟨40, _⟩ => ⟨S_, .i32⟩
  | .hbm, ⟨41, _⟩ => ⟨S8x1x40960, .i32⟩
  | .hbm, ⟨42, _⟩ => ⟨S8x1x40960, .i32⟩
  | .hbm, ⟨43, _⟩ => ⟨S8x1x40960, .i32⟩
  | .hbm, ⟨44, _⟩ => ⟨S8x40960x1, .i32⟩
  | .hbm, ⟨45, _⟩ => ⟨S1, .i32⟩
  | .hbm, ⟨46, _⟩ => ⟨S_, .i32⟩
  | .hbm, ⟨47, _⟩ => ⟨S8x40960x1, .i32⟩
  | .hbm, ⟨48, _⟩ => ⟨S8x40960x1, .i1⟩
  | .hbm, ⟨49, _⟩ => ⟨S1x1x1, .i32⟩
  | .hbm, ⟨50, _⟩ => ⟨S8x40960x1, .i32⟩
  | .hbm, ⟨51, _⟩ => ⟨S8x40960x1, .i1⟩
  | .hbm, ⟨52, _⟩ => ⟨S8x40960x1, .i1⟩
  | .hbm, ⟨53, _⟩ => ⟨S_, .i1⟩
  | .hbm, ⟨54, _⟩ => ⟨S8x40960, .i1⟩
  | .hbm, ⟨55, _⟩ => ⟨S8x4x40960, .f32⟩
  | .hbm, ⟨56, _⟩ => ⟨S8x4x40960, .i1⟩
  | .hbm, ⟨57, _⟩ => ⟨S_, .f32⟩
  | .hbm, ⟨58, _⟩ => ⟨S8x4x40960, .f32⟩
  | .hbm, ⟨59, _⟩ => ⟨S8x4x40960, .f32⟩
  | .hbm, ⟨60, _⟩ => ⟨S8x4x80x512, .f32⟩
  | .hbm, ⟨61, _⟩ => ⟨S8x4x512x80, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x1000x4, .f32⟩
  | .hbm, ⟨77, _⟩ => ⟨S8x1000x4, .f32⟩
  | .hbm, ⟨78, _⟩ => ⟨S8x1000x4, .f32⟩
  | .hbm, ⟨79, _⟩ => ⟨S_, .f32⟩
  | .hbm, ⟨80, _⟩ => ⟨S8x1000, .f32⟩
  | .hbm, ⟨81, _⟩ => ⟨S8x1000, .f32⟩
  | .hbm, ⟨82, _⟩ => ⟨S8x1000, .f32⟩
  | .hbm, ⟨83, _⟩ => ⟨S_, .f32⟩
  | .hbm, ⟨84, _⟩ => ⟨S8x1000, .f32⟩
  | .hbm, ⟨85, _⟩ => ⟨S8x1000, .f32⟩
  | .hbm, ⟨86, _⟩ => ⟨S8x1000, .f32⟩
  | .hbm, ⟨87, _⟩ => ⟨S_, .i32⟩
  | .hbm, ⟨88, _⟩ => ⟨S8, .i32⟩
  | .local _ .vmem, ⟨0, _⟩ => ⟨S8x80, .f32⟩
  | .local _ .vmem, ⟨1, _⟩ => ⟨S8x80, .f32⟩
  | .local _ .vmem, ⟨2, _⟩ => ⟨S8x4x20000, .f32⟩
  | .local _ .vmem, ⟨3, _⟩ => ⟨S4x20000, .f32⟩
  | .local _ .vmem, ⟨4, _⟩ => ⟨S8x4x20000, .f32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v8 : Ref sig .tc := ⟨.hbm, 35, rfl⟩
abbrev main_v9 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_2 : Ref sig .tc := ⟨.hbm, 62, rfl⟩
abbrev main_v13 : Ref sig .tc := ⟨.hbm, 63, rfl⟩
abbrev main_cst_3 : Ref sig .tc := ⟨.hbm, 64, rfl⟩
abbrev main_v14 : Ref sig .tc := ⟨.hbm, 65, rfl⟩
abbrev main_v15 : Ref sig .tc := ⟨.hbm, 66, rfl⟩
abbrev main_cst_4 : Ref sig .tc := ⟨.hbm, 67, rfl⟩
abbrev main_v16 : Ref sig .tc := ⟨.hbm, 68, rfl⟩
abbrev main_v17 : Ref sig .tc := ⟨.hbm, 69, rfl⟩
abbrev main_cst_5 : Ref sig .tc := ⟨.hbm, 70, rfl⟩
abbrev main_v18 : Ref sig .tc := ⟨.hbm, 71, rfl⟩
abbrev main_v19 : Ref sig .tc := ⟨.hbm, 72, rfl⟩
abbrev main_cst_6 : Ref sig .tc := ⟨.hbm, 73, rfl⟩
abbrev main_v20 : Ref sig .tc := ⟨.hbm, 74, rfl⟩
abbrev main_cst_7 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_cst_8 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_cst_9 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_c_10 : Ref sig .tc := ⟨.hbm, 87, rfl⟩
abbrev main_v30 : Ref sig .tc := ⟨.hbm, 88, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4

abbrev nD : Nat := 1
abbrev τ : Topo := Topo.v7x

variable {F : FTy → Type} [FloatOps F]

abbrev grid0 : Pipeline.Grid := .none

abbrev stage0_0 : Fin 1 → Memref sig .tc .vmem S8x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S8x4x20000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x20000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x4x20000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== V05.lean ====
abbrev S8x20000x80 : Shape := ⟨3, ![8, 20000, 80]⟩
abbrev S8x20000x4 : Shape := ⟨3, ![8, 20000, 4]⟩
abbrev S20000x4 : Shape := ⟨2, ![20000, 4]⟩
abbrev S_ : Shape := ⟨0, ![]⟩
abbrev S8x80 : Shape := ⟨2, ![8, 80]⟩
abbrev S8x4 : Shape := ⟨2, ![8, 4]⟩
abbrev S4 : Shape := ⟨1, ![4]⟩
abbrev S8x4x20000 : Shape := ⟨3, ![8, 4, 20000]⟩
abbrev S4x20000 : Shape := ⟨2, ![4, 20000]⟩
abbrev S1x20000 : Shape := ⟨2, ![1, 20000]⟩
abbrev S8x1x20000 : Shape := ⟨3, ![8, 1, 20000]⟩
abbrev S8x20000 : Shape := ⟨2, ![8, 20000]⟩
abbrev S8x4x512 : Shape := ⟨3, ![8, 4, 512]⟩
abbrev S8x4x1x512 : Shape := ⟨4, ![8, 4, 1, 512]⟩
abbrev S8x4x80x512 : Shape := ⟨4, ![8, 4, 80, 512]⟩
abbrev S8x4x512x80 : Shape := ⟨4, ![8, 4, 512, 80]⟩
abbrev S8x1000x4 : Shape := ⟨3, ![8, 1000, 4]⟩
abbrev S8x1000 : Shape := ⟨2, ![8, 1000]⟩
abbrev S8 : Shape := ⟨1, ![8]⟩

abbrev nBuf : Space → Nat
  | .hbm => 44
  | .vmem => 5
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S20000x4, .f32⟩
  | .hbm, ⟨3, _⟩ => ⟨S_, .f32⟩
  | .hbm, ⟨4, _⟩ => ⟨S8x80, .f32⟩
  | .hbm, ⟨5, _⟩ => ⟨S_, .f32⟩
  | .hbm, ⟨6, _⟩ => ⟨S8x4, .f32⟩
  | .hbm, ⟨7, _⟩ => ⟨S_, .f32⟩
  | .hbm, ⟨8, _⟩ => ⟨S4, .f32⟩
  | .hbm, ⟨9, _⟩ => ⟨S8x80, .f32⟩
  | .hbm, ⟨10, _⟩ => ⟨S8x4x20000, .f32⟩
  | .hbm, ⟨11, _⟩ => ⟨S4x20000, .f32⟩
  | .hbm, ⟨12, _⟩ => ⟨S8x4x20000, .f32⟩
  | .hbm, ⟨13, _⟩ => ⟨S8x4x512, .f32⟩
  | .hbm, ⟨14, _⟩ => ⟨S8x4x1x512, .f32⟩
  | .hbm, ⟨15, _⟩ => ⟨S8x4x80x512, .f32⟩
  | .hbm, ⟨16, _⟩ => ⟨S8x4x512x80, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x1000x4, .f32⟩
  | .hbm, ⟨32, _⟩ => ⟨S8x1000x4, .f32⟩
  | .hbm, ⟨33, _⟩ => ⟨S8x1000x4, .f32⟩
  | .hbm, ⟨34, _⟩ => ⟨S_, .f32⟩
  | .hbm, ⟨35, _⟩ => ⟨S8x1000, .f32⟩
  | .hbm, ⟨36, _⟩ => ⟨S8x1000, .f32⟩
  | .hbm, ⟨37, _⟩ => ⟨S8x1000, .f32⟩
  | .hbm, ⟨38, _⟩ => ⟨S_, .f32⟩
  | .hbm, ⟨39, _⟩ => ⟨S8x1000, .f32⟩
  | .hbm, ⟨40, _⟩ => ⟨S8x1000, .f32⟩
  | .hbm, ⟨41, _⟩ => ⟨S8x1000, .f32⟩
  | .hbm, ⟨42, _⟩ => ⟨S_, .i32⟩
  | .hbm, ⟨43, _⟩ => ⟨S8, .i32⟩
  | .local _ .vmem, ⟨0, _⟩ => ⟨S8x80, .f32⟩
  | .local _ .vmem, ⟨1, _⟩ => ⟨S8x80, .f32⟩
  | .local _ .vmem, ⟨2, _⟩ => ⟨S8x4x20000, .f32⟩
  | .local _ .vmem, ⟨3, _⟩ => ⟨S4x20000, .f32⟩
  | .local _ .vmem, ⟨4, _⟩ => ⟨S8x4x20000, .f32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4

abbrev nD : Nat := 1
abbrev τ : Topo := Topo.v7x

variable {F : FTy → Type} [FloatOps F]

abbrev grid0 : Pipeline.Grid := .none

abbrev stage0_0 : Fin 1 → Memref sig .tc .vmem S8x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S8x4x20000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x20000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x4x20000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== Proof.KeepRun.lean ====
/-
  What one grid point of the suppression kernel leaves in its output block, as a function of its five input blocks: the
  scratch array `keep` starts at the indicator of the scores above the threshold among the first 500 ranks, each trip of
  the loop rewrites it from itself and from row `k` of the blocks, and the output block is read off the last one.
-/
module

public import proofs.«01_k».proof.Proof.Gen.NmsIdeal.Value
public import Idealize.ShloMosaic.Lib.Pipeline.ValueKit
public import Idealize.ShloMosaic.Lib.VecWindow

@[expose] public section

set_option maxRecDepth 16384

noncomputable section

namespace Cert.NmsIdeal.KeepRun

open Cert.NmsIdeal Cert.NmsIdeal.Gen Idealize.ShloMosaic Idealize.ShloMosaic.TcCoe Idealize.SL.Sem

variable {F : FTy → Type} [FloatOps F]

/-- The array `keep` after trip `k`, from the corner blocks, the areas and the array before the trip: an entry is zeroed
    where row `k`, itself kept, overlaps it by more than the threshold and stands before it. -/
def keepNext (x1 x2 x3 x4 : Vec F S1x512x80 .f32) (area : Vec F S512x80 .f32) (k : Fin k0_t1_loop.trips)
    (keep : Vec F S512x80 .f32) : Vec F S512x80 .f32 :=
  k0_pay1 (iota .tc S512x80 32 [0] iota_S512x80_d0_w32)
    (k0_pay3 (k0_pay7 x1) (k0_pay8 x2) (k0_pay9 x3) (k0_pay10 x4) area
      (View.ld keep (Rect.unit (k0_off1 k) S1x80.size (k0_off1_inb k)))
      (View.ld x1 (Rect.unit (k0_off2 k) S1x1x80.size (k0_off2_inb k)))
      (View.ld x2 (Rect.unit (k0_off2 k) S1x1x80.size (k0_off2_inb k)))
      (View.ld x3 (Rect.unit (k0_off2 k) S1x1x80.size (k0_off2_inb k)))
      (View.ld x4 (Rect.unit (k0_off2 k) S1x1x80.size (k0_off2_inb k)))
      (View.ld area (Rect.unit (k0_off1 k) S1x80.size (k0_off1_inb k))))
    (k0_pay4 0#32 1#32 k) keep

/-- The array `keep` before trip `n`. -/
def keepAt (x0 x1 x2 x3 x4 : Vec F S1x512x80 .f32) : ℕ → Vec F S512x80 .f32
  | 0 => k0_pay6 x0
  | n + 1 => if h : n < k0_t1_loop.trips then
      keepNext x1 x2 x3 x4 (k0_pay11 x1 x2 x3 x4) ⟨n, h⟩ (keepAt x0 x1 x2 x3 x4 n)
    else keepAt x0 x1 x2 x3 x4 n

theorem keepAt_succ (x0 x1 x2 x3 x4 : Vec F S1x512x80 .f32) {n : ℕ} (h : n < k0_t1_loop.trips) :
    keepAt x0 x1 x2 x3 x4 (n + 1) = keepNext x1 x2 x3 x4 (k0_pay11 x1 x2 x3 x4) ⟨n, h⟩ (keepAt x0 x1 x2 x3 x4 n) := by
  rw [keepAt]
  exact dif_pos h

theorem zeros2 : (![0, 0] : Fin 2 → Nat) = fun _ => 0 := funext fun a => by fin_cases a <;> rfl
theorem zeros3 : (![0, 0, 0] : Fin 3 → Nat) = fun _ => 0 := funext fun a => by fin_cases a <;> rfl

/-- A load of a whole three-axis block through its memref reads what the memref holds. -/
theorem load3 {m : Memref sig .tc .vmem S1x512x80 .f32} (h : m.IsWhole) (x : Vec F S1x512x80 .f32) :
    View.readAt (Elt F) m.view (Rect.unit ![0, 0, 0] S1x512x80.size inb_S1x512x80_S1x512x80_0_0_0).toLoadRect (h.unread x) = x := by
  rw [View.readAt_eq_ld, h.read_unread, View.ld_unit_zero (S := S1x512x80) zeros3]

/-- One trip writes one piece into `keep`, the whole of it, and that piece is `keepNext` of what it found there. -/
theorem trip_read (𝒱 : Variants) (bd : Option 𝒱.V) (c : Dev nD) (i : grid0.Coords) (arg1 : Memref sig .tc .vmem S1x512x80 .f32) (harg1 : arg1.IsWhole) (arg2 : Memref sig .tc .vmem S1x512x80 .f32) (harg2 : arg2.IsWhole) (arg3 : Memref sig .tc .vmem S1x512x80 .f32) (harg3 : arg3.IsWhole) (arg4 : Memref sig .tc .vmem S1x512x80 .f32) (harg4 : arg4.IsWhole) (arg5 : Memref sig .tc .vmem S1x512x80 .f32) (harg5 : arg5.IsWhole) (arg6 : Memref sig .tc .vmem S1x512x80 .f32) (harg6 : arg6.IsWhole) (arg7 : Memref sig .tc .vmem S512x80 .f32) (harg7 : arg7.IsWhole) (arg8 : Memref sig .tc .vmem S512x80 .f32) (harg8 : arg8.IsWhole)
    (x1 x2 x3 x4 : Vec F S1x512x80 .f32) (area keep : Vec F S512x80 .f32) (g : BufTy.Contents (Elt F) arg8.view.ty)
    (hg : arg8.view.read (Elt F) g = area) (k : Fin k0_t1_loop.trips) (f f' : BufTy.Contents (Elt F) arg7.view.ty)
    (hf : arg7.view.read (Elt F) f = keep) :
    arg7.view.read (Elt F) (arg7.view.writes (Elt F) f' (tripL_k0_t1 (F := F) 𝒱 c bd i arg1 harg1 arg2 harg2 arg3 harg3 arg4 harg4 arg5 harg5 arg6 harg6 arg7 harg7 arg8 harg8
        (iota .tc S512x80 32 [0] iota_S512x80_d0_w32) (k0_pay7 x1) (k0_pay8 x2) (k0_pay9 x3) (k0_pay10 x4) area
        (harg2.unread x1) (harg3.unread x2) (harg4.unread x3) (harg5.unread x4) g k f))
      = keepNext x1 x2 x3 x4 area k keep := by
  unfold tripL_k0_t1 trip_k0_t1
  dsimp only
  sl_unfold_words
  refine (View.read_writes_full (s := S512x80) arg7.view f' _ _ _).trans ?_
  unfold keepNext
  subst hg hf
  have h2 := harg2.read_unread x1
  have h3 := harg3.read_unread x2
  have h4 := harg4.read_unread x3
  have h5 := harg5.read_unread x4
  generalize harg2.unread x1 = X2 at h2 ⊢
  generalize harg3.unread x2 = X3 at h3 ⊢
  generalize harg4.unread x3 = X4 at h4 ⊢
  generalize harg5.unread x4 = X5 at h5 ⊢
  subst h2 h3 h4 h5
  have e5 : View.readAt (Elt F) arg7.view (Rect.unit ![0, 0] S512x80.size inb_S512x80_S512x80_0_0).toLoadRect f = arg7.view.read (Elt F) f := by
    rw [View.readAt_eq_ld, View.ld_unit_zero (S := S512x80) zeros2]
  exact congrArg (k0_pay1 _ _ _) e5

/-- Before trip `n` the scratch `keep` reads `keepAt … n`: by induction on the trips, each from what the earlier ones left. -/
theorem pieces_read (𝒱 : Variants) (bd : Option 𝒱.V) (c : Dev nD) (i : grid0.Coords) (arg1 : Memref sig .tc .vmem S1x512x80 .f32) (harg1 : arg1.IsWhole) (arg2 : Memref sig .tc .vmem S1x512x80 .f32) (harg2 : arg2.IsWhole) (arg3 : Memref sig .tc .vmem S1x512x80 .f32) (harg3 : arg3.IsWhole) (arg4 : Memref sig .tc .vmem S1x512x80 .f32) (harg4 : arg4.IsWhole) (arg5 : Memref sig .tc .vmem S1x512x80 .f32) (harg5 : arg5.IsWhole) (arg6 : Memref sig .tc .vmem S1x512x80 .f32) (harg6 : arg6.IsWhole) (arg7 : Memref sig .tc .vmem S512x80 .f32) (harg7 : arg7.IsWhole) (arg8 : Memref sig .tc .vmem S512x80 .f32) (harg8 : arg8.IsWhole)
    (x0 x1 x2 x3 x4 : Vec F S1x512x80 .f32) (g : BufTy.Contents (Elt F) arg8.view.ty)
    (hg : arg8.view.read (Elt F) g = k0_pay11 x1 x2 x3 x4) (f : BufTy.Contents (Elt F) arg7.view.ty)
    (hf : arg7.view.read (Elt F) f = k0_pay6 x0) : ∀ n : ℕ, n ≤ k0_t1_loop.trips →
    arg7.view.read (Elt F) (arg7.view.writes (Elt F) f (pb_k0_t1 (F := F) 𝒱 c bd i arg1 harg1 arg2 harg2 arg3 harg3 arg4 harg4 arg5 harg5 arg6 harg6 arg7 harg7 arg8 harg8
        (iota .tc S512x80 32 [0] iota_S512x80_d0_w32) (k0_pay7 x1) (k0_pay8 x2) (k0_pay9 x3) (k0_pay10 x4) (k0_pay11 x1 x2 x3 x4)
        (harg2.unread x1) (harg3.unread x2) (harg4.unread x3) (harg5.unread x4) g f n))
      = keepAt x0 x1 x2 x3 x4 n
  | 0, _ => hf
  | n + 1, h => by
    have ih := pieces_read 𝒱 bd c i arg1 harg1 arg2 harg2 arg3 harg3 arg4 harg4 arg5 harg5 arg6 harg6 arg7 harg7 arg8 harg8
      x0 x1 x2 x3 x4 g hg f hf n (Nat.le_of_succ_le h)
    have hn : n < k0_t1_loop.trips := h
    rw [pb_k0_t1_succ 𝒱 c bd i arg1 harg1 arg2 harg2 arg3 harg3 arg4 harg4 arg5 harg5 arg6 harg6 arg7 harg7 arg8 harg8
      _ _ _ _ _ _ _ _ _ _ _ _ ⟨n, hn⟩, View.writes_append]
    rw [trip_read 𝒱 bd c i arg1 harg1 arg2 harg2 arg3 harg3 arg4 harg4 arg5 harg5 arg6 harg6 arg7 harg7 arg8 harg8
      x1 x2 x3 x4 _ _ g hg ⟨n, hn⟩ _ _ ih]
    rw [keepAt_succ _ _ _ _ _ hn]

/-- What a grid point leaves in its output block: the scores where the last `keep` is positive, zero elsewhere. -/
theorem out_eq (c : Dev nD) (i : grid0.Coords) (arg1 : Memref sig .tc .vmem S1x512x80 .f32) (harg1 : arg1.IsWhole) (arg2 : Memref sig .tc .vmem S1x512x80 .f32) (harg2 : arg2.IsWhole) (arg3 : Memref sig .tc .vmem S1x512x80 .f32) (harg3 : arg3.IsWhole) (arg4 : Memref sig .tc .vmem S1x512x80 .f32) (harg4 : arg4.IsWhole) (arg5 : Memref sig .tc .vmem S1x512x80 .f32) (harg5 : arg5.IsWhole) (arg6 : Memref sig .tc .vmem S1x512x80 .f32) (harg6 : arg6.IsWhole) (arg7 : Memref sig .tc .vmem S512x80 .f32) (harg7 : arg7.IsWhole) (arg8 : Memref sig .tc .vmem S512x80 .f32) (harg8 : arg8.IsWhole)
    (x0 x1 x2 x3 x4 : Vec F S1x512x80 .f32) :
    out0_A_5 c i arg1 harg1 arg2 harg2 arg3 harg3 arg4 harg4 arg5 harg5 arg6 harg6 arg7 harg7 arg8 harg8 x0 x1 x2 x3 x4
      = k0_pay2 (k0_pay5 x0) (keepAt x0 x1 x2 x3 x4 k0_t1_loop.trips) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  have hG : arg8.view.read (Elt F) (arg8.view.writes (Elt F) arg8.view.junk
      [⟨Rect.unit ![0, 0] S512x80.size inb_S512x80_S512x80_0_0, k0_pay11 x1 x2 x3 x4⟩]) = k0_pay11 x1 x2 x3 x4 :=
    View.read_writes_full (s := S512x80) arg8.view _ _ _ _
  have hF : arg7.view.read (Elt F) (arg7.view.writes (Elt F) arg7.view.junk
      [⟨Rect.unit ![0, 0] S512x80.size inb_S512x80_S512x80_0_0, k0_pay6 x0⟩]) = k0_pay6 x0 :=
    View.read_writes_full (s := S512x80) arg7.view _ _ _ _
  have hP := pieces_read Variants.none none c i arg1 harg1 arg2 harg2 arg3 harg3 arg4 harg4 arg5 harg5 arg6 harg6 arg7 harg7 arg8 harg8
    x0 x1 x2 x3 x4 _ hG _ hF k0_t1_loop.trips le_rfl
  rw [← View.writes_append] at hP
  have hA := View.readCov_unit_zero (Val := Elt F) (S := S512x80) arg8.view zeros2 inb_S512x80_S512x80_0_0 (k0_pay11 x1 x2 x3 x4)
  refine (View.canon_cons_unit_zero (S := S1x512x80) zeros3 _ _ _).trans ?_
  rw [load3 harg1 x0, load3 harg2 x1, load3 harg3 x2, load3 harg4 x3, load3 harg5 x4]
  refine congrArg (k0_pay2 (k0_pay5 x0)) ?_
  rw [← hP]
  refine (View.readAt_eq_ld _ _ _).trans ((View.ld_unit_zero (S := S512x80) zeros2 _ _).trans ?_)
  refine congrArg (fun L => arg7.view.read (Elt F) (arg7.view.writes (Elt F) arg7.view.junk L)) ?_
  rw [hA]

end Cert.NmsIdeal.KeepRun

end
-- ==== Proof.Greedy.lean ====
/-
  Greedy suppression in one column of candidates, in the extended reals: the overlap of two boxes given by their corners,
  and which candidates are still kept once the first `n` of them have been visited in order.
-/
module

public import Idealize.ShloMosaic.Lib.Pointwise

@[expose] public section

noncomputable section

namespace Cert.Greedy

open Idealize.ShloMosaic

/-- The score a candidate has to exceed, the constant `0.05` of the format. -/
def scoreMin : EReal := Ideal.ofBits .f32 0x3D4CCCCD#32
/-- The overlap above which a box suppresses another, `0.5`. -/
def overlapMax : EReal := Ideal.ofBits .f32 0x3F000000#32
/-- What the union of two boxes is at least taken to be, `1e-8`. -/
def unionMin : EReal := Ideal.ofBits .f32 0x322BCC77#32

/-- The area of a box of corners `(a 0, a 1)`, `(a 2, a 3)`. -/
def area (a : Fin 4 → EReal) : EReal := max 0 (a 2 - a 0) * max 0 (a 3 - a 1)

/-- The area two boxes share. -/
def inter (a b : Fin 4 → EReal) : EReal :=
  max 0 (min (a 2) (b 2) - max (a 0) (b 0)) * max 0 (min (a 3) (b 3) - max (a 1) (b 1))

/-- The shared area over the area of the union. -/
def iou (a b : Fin 4 → EReal) : EReal := Ideal.div (inter a b) (max (area a + area b - inter a b) unionMin)

/-- Candidate `r` is kept after the first `n` visits: it scores enough, and no candidate before it that was kept when its turn
    came, among those first `n`, overlaps it by more than the limit. -/
def kept (s : Fin 512 → EReal) (g : Fin 512 → Fin 4 → EReal) : ℕ → Fin 512 → Prop
  | 0, r => scoreMin < s r
  | n + 1, r => kept s g n r ∧
      ¬((overlapMax < iou (g (Fin.ofNat 512 n)) (g r) ∧ kept s g n (Fin.ofNat 512 n)) ∧ n < r.val)

instance (s : Fin 512 → EReal) (g : Fin 512 → Fin 4 → EReal) (n : ℕ) (r : Fin 512) : Decidable (kept s g n r) :=
  Classical.propDecidable _

theorem kept_succ (s : Fin 512 → EReal) (g : Fin 512 → Fin 4 → EReal) (n : ℕ) (q r : Fin 512) (hq : q.val = n) :
    kept s g (n + 1) r ↔ kept s g n r ∧ ¬((overlapMax < iou (g q) (g r) ∧ kept s g n q) ∧ n < r.val) := by
  have h : Fin.ofNat 512 n = q := Fin.ext ((Nat.mod_eq_of_lt (hq ▸ q.isLt)).trans hq.symm)
  simp only [kept, h]

/-- What is left of candidate `r`'s score: the score itself if it is one of the first 500 and kept after all of them were
    visited, else zero. -/
def survivor (s : Fin 512 → EReal) (g : Fin 512 → Fin 4 → EReal) (r : Fin 512) : EReal :=
  if kept s g 500 r ∧ r.val < 500 then s r else 0

/-- Every class's scores suppressed by themselves: of `scores` [image, class, candidate] and `boxes` [image, corner, class,
    candidate], the array [image, candidate, class]. -/
def result (scores : FVec Ideal ⟨3, ![8, 80, 512]⟩ .f32) (boxes : FVec Ideal ⟨4, ![8, 4, 80, 512]⟩ .f32) :
    FVec Ideal ⟨3, ![8, 512, 80]⟩ .f32 := fun i =>
  survivor (fun q => scores (ix3 (i 0) (i 2) q)) (fun q k => boxes (ix4 (i 0) k (i 2) q)) (i 1)

/-! Bits that decide a proposition. -/

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp only [hp, hq] <;> rfl

theorem select_ofBool {α : Type} (p : Prop) [Decidable p] (a b : α) :
    Scalar.select (BitVec.ofBool (decide p)) a b = if p then a else b := by
  by_cases hp : p <;> simp only [hp] <;> rfl

theorem toInt_ofNat {a : ℕ} (ha : a < 2 ^ 31) : (BitVec.ofNat 32 a).toInt = a := by
  have hm : (BitVec.ofNat 32 a).toNat = a := by rw [BitVec.toNat_ofNat]; exact Nat.mod_eq_of_lt (by omega)
  rw [BitVec.toInt_eq_toNat_of_lt (by omega), hm]

theorem cmpi_sgt_ofNat {a b : ℕ} (ha : a < 2 ^ 31) (hb : b < 2 ^ 31) :
    IntOp.cmpi .sgt (BitVec.ofNat 32 a) (BitVec.ofNat 32 b) = BitVec.ofBool (decide (b < a)) := by
  simp only [IntOp.cmpi, BitVec.slt, toInt_ofNat ha, toInt_ofNat hb, Nat.cast_lt]

theorem cmpi_slt_ofNat {a b : ℕ} (ha : a < 2 ^ 31) (hb : b < 2 ^ 31) :
    IntOp.cmpi .slt (BitVec.ofNat 32 a) (BitVec.ofNat 32 b) = BitVec.ofBool (decide (a < b)) := by
  simp only [IntOp.cmpi, BitVec.slt, toInt_ofNat ha, toInt_ofNat hb, Nat.cast_lt]

/-- A decided bit widened to 32 bits and read as a number is 1 or 0. -/
theorem sitofp_ofBool (p : Prop) [Decidable p] :
    (FloatOps.sitofp .f32 (BitVec.setWidth 32 (BitVec.ofBool (decide p))) : Ideal .f32) = if p then (1 : EReal) else 0 := by
  by_cases hp : p
  · rw [if_pos hp, decide_eq_true hp]
    show (((BitVec.setWidth 32 1#1).toInt : ℝ) : EReal) = 1
    norm_num
  · rw [if_neg hp, decide_eq_false hp]
    show (((BitVec.setWidth 32 0#1).toInt : ℝ) : EReal) = 0
    norm_num

end Cert.Greedy

end
-- ==== Proof.KeepValue.lean ====
/-
  The suppression kernel's scratch array and output block at an index, in the extended reals: the array holds 1 at the
  candidates among the first 500 still kept, 0 elsewhere, and the block the scores of those kept at the end.
-/
module

public import proofs.«01_k».proof.Proof.KeepRun
public import proofs.«01_k».proof.Proof.Greedy

@[expose] public section

set_option maxRecDepth 16384

noncomputable section

namespace Cert.NmsIdeal.KeepValue

open Cert.NmsIdeal Cert.NmsIdeal.Gen Idealize.ShloMosaic Idealize.ShloMosaic.TcCoe Idealize.SL.Sem
open Cert.NmsIdeal.KeepRun Cert.Greedy

/-- The loop makes 500 trips. -/
theorem trips_eq : k0_t1_loop.trips = 500 := by decide

/-- Trip `k` as a candidate. -/
abbrev cand (k : Fin k0_t1_loop.trips) : Fin 512 := ⟨k.val, k.isLt.trans (by rw [trips_eq]; decide)⟩

/-- The corners of candidate `r` of column `c`. -/
def corners (x1 x2 x3 x4 : Vec Ideal S1x512x80 .f32) (c : Fin 80) (r : Fin 512) : Fin 4 → EReal :=
  ![x1 (ix3 0 r c), x2 (ix3 0 r c), x3 (ix3 0 r c), x4 (ix3 0 r c)]

/-- Row `k` of an array of 512 rows. -/
theorem ld_row (x : Vec Ideal S512x80 .f32) (k : Fin k0_t1_loop.trips) :
    View.ld x (Rect.unit (k0_off1 k) S1x80.size (k0_off1_inb k)) = fun j => x (ix2 (cand k) (j 1)) := by
  funext j
  refine View.ld_unit_apply_of x _ _ _ j _ fun a => ?_
  have h0 : ((j 0).val : ℕ) = 0 := Nat.lt_one_iff.mp (j 0).isLt
  refine Eq.trans ?_ (congrFun (congrArg (fun o : Fin 2 → ℕ => fun b : Fin 2 => o b + (j b).val) (k0_off1_eq k)) a).symm
  fin_cases a
  · show k.val = k.val + (j 0).val; omega
  · show ((j 1).val : ℕ) = 0 + (j 1).val; omega

/-- Row `k` of a block of 512 rows. -/
theorem ld_row3 (x : Vec Ideal S1x512x80 .f32) (k : Fin k0_t1_loop.trips) :
    View.ld x (Rect.unit (k0_off2 k) S1x1x80.size (k0_off2_inb k)) = fun j => x (ix3 0 (cand k) (j 2)) := by
  funext j
  refine View.ld_unit_apply_of x _ _ _ j _ fun a => ?_
  have h0 : ((j 0).val : ℕ) = 0 := Nat.lt_one_iff.mp (j 0).isLt
  have h1 : ((j 1).val : ℕ) = 0 := Nat.lt_one_iff.mp (j 1).isLt
  refine Eq.trans ?_ (congrFun (congrArg (fun o : Fin 3 → ℕ => fun b : Fin 3 => o b + (j b).val) (k0_off2_eq k)) a).symm
  fin_cases a
  · show 0 = 0 + (j 0).val; omega
  · show k.val = k.val + (j 1).val; omega
  · show ((j 2).val : ℕ) = 0 + (j 2).val; omega

theorem iv_eq (k : Fin k0_t1_loop.trips) : Scf.iv 0#32 1#32 k.val = BitVec.ofNat 32 k.val := by
  simp [Scf.iv]

/-- One trip at an index: the entry is zeroed where candidate `k` is kept, overlaps it too much and stands before it. -/
theorem keepNext_apply (x1 x2 x3 x4 : Vec Ideal S1x512x80 .f32) (k : Fin k0_t1_loop.trips) (keep : Vec Ideal S512x80 .f32)
    (r : Fin 512) (c : Fin 80) :
    keepNext (F := Ideal) x1 x2 x3 x4 (k0_pay11 x1 x2 x3 x4) k keep (ix2 r c)
      = if (overlapMax < iou (corners x1 x2 x3 x4 c (cand k)) (corners x1 x2 x3 x4 c r)
          ∧ 0 < keep (ix2 (cand k) c)) ∧ k.val < r.val then 0 else keep (ix2 r c) := by
  unfold keepNext
  rw [ld_row, ld_row, ld_row3, ld_row3, ld_row3, ld_row3]
  pointwise [k0_pay1, k0_pay3, k0_pay4, k0_pay7, k0_pay8, k0_pay9, k0_pay10, k0_pay11]
  rw [iv_eq, cmpi_sgt_ofNat (by omega) ((cand k).isLt.trans (by decide)), andi_ofBool, andi_ofBool, select_ofBool]
  rfl

/-- The first `keep` at an index. -/
theorem keep0_apply (x : Vec Ideal S1x512x80 .f32) (r : Fin 512) (c : Fin 80) :
    k0_pay6 (F := Ideal) x (ix2 r c) = if scoreMin < x (ix3 0 r c) ∧ r.val < 500 then (1 : EReal) else 0 := by
  pointwise [k0_pay6, k0_pay5]
  rw [cmpi_slt_ofNat (by omega) (by omega), andi_ofBool, sitofp_ofBool]
  rfl

/-- `keep` before trip `n` marks the candidates kept after `n` visits. -/
theorem keepAt_apply (x0 x1 x2 x3 x4 : Vec Ideal S1x512x80 .f32) (c : Fin 80) : ∀ n : ℕ, n ≤ 500 → ∀ r : Fin 512,
    keepAt x0 x1 x2 x3 x4 n (ix2 r c)
      = if kept (fun q => x0 (ix3 0 q c)) (corners x1 x2 x3 x4 c) n r ∧ r.val < 500 then (1 : EReal) else 0
  | 0, _, r => (keep0_apply x0 r c).trans (by congr 1)
  | n + 1, hn, r => by
    have ih := keepAt_apply x0 x1 x2 x3 x4 c n (Nat.le_of_succ_le hn)
    have ht : n < k0_t1_loop.trips := by rw [trips_eq]; omega
    rw [keepAt_succ _ _ _ _ _ ht, keepNext_apply, ih, ih]
    have h1 : ((0 : EReal) < if kept (fun q => x0 (ix3 0 q c)) (corners x1 x2 x3 x4 c) n (cand ⟨n, ht⟩) ∧ (cand ⟨n, ht⟩).val < 500 then (1 : EReal) else 0)
        ↔ kept (fun q => x0 (ix3 0 q c)) (corners x1 x2 x3 x4 c) n (cand ⟨n, ht⟩) := by
      have hlt : (cand ⟨n, ht⟩).val < 500 := hn
      by_cases h : kept (fun q => x0 (ix3 0 q c)) (corners x1 x2 x3 x4 c) n (cand ⟨n, ht⟩) <;> simp [h, hlt]
    have h2 := kept_succ (fun q => x0 (ix3 0 q c)) (corners x1 x2 x3 x4 c) n (cand ⟨n, ht⟩) r rfl
    simp only [h1]
    split_ifs with hA hB hC hD <;> tauto

/-- The output block at an index: the score of a candidate kept after the 500 visits, zero elsewhere. -/
theorem out_apply (x0 x1 x2 x3 x4 : Vec Ideal S1x512x80 .f32) (r : Fin 512) (c : Fin 80) :
    k0_pay2 (F := Ideal) (k0_pay5 x0) (keepAt x0 x1 x2 x3 x4 k0_t1_loop.trips) (ix3 0 r c)
      = survivor (fun q => x0 (ix3 0 q c)) (corners x1 x2 x3 x4 c) r := by
  rw [trips_eq, survivor]
  pointwise [k0_pay2, k0_pay5]
  rw [keepAt_apply _ _ _ _ _ _ 500 le_rfl]
  by_cases h : kept (fun q => x0 (ix3 0 q c)) (corners x1 x2 x3 x4 c) 500 r ∧ r.val < 500 <;> simp [h]

end Cert.NmsIdeal.KeepValue

end
-- ==== Proof.NmsRun.lean ====
/-
  The suppression kernel's run, read: its result array holds, for every image, candidate and class, the score of a candidate
  kept by greedy suppression among the first 500, zero elsewhere.
-/
module

public import proofs.«01_k».proof.Proof.KeepValue

@[expose] public section

set_option maxRecDepth 16384

noncomputable section

namespace Cert.NmsIdeal.Run

open Cert.NmsIdeal Cert.NmsIdeal.Gen Idealize.ShloMosaic Idealize.ShloMosaic.TcCoe Idealize.SL.Sem Idealize.ShloMosaic.StableHlo
open Cert.NmsIdeal.KeepRun Cert.NmsIdeal.KeepValue Cert.Greedy
open Idealize.ShloMosaic.Pipeline (Dat)

section
variable {F : FTy → Type} [FloatOps F]
variable (m : (ℓ : Loc nD τ sig) → Buf (Elt F) ℓ)

/-- The scores as the call finds them: transposed to [image, candidate, class]. -/
theorem V_scores (c : Dev nD) (i : S8x512x80.Idx) :
    V m c main_v1 i = (m ((c : Thread nD τ).loc main_arg0) : Vec F S8x80x512 .f32) (ix3 (i 0) (i 2) (i 1)) := by
  have h : V m c main_v1 = transpose S8x512x80 [0, 2, 1] (m ((c : Thread nD τ).loc main_arg0)) transposes_S8x80x512_S8x512x80_0_2_1 := by
    unfold V hostOps0
    after_results
  rw [h]
  pointwise

/-- Corner coordinate `k` of the boxes as the call finds it. -/
theorem V_corner0 (c : Dev nD) (i : S8x512x80.Idx) :
    V m c main_v3 i = (m ((c : Thread nD τ).loc main_arg1) : Vec F S8x4x80x512 .f32) (ix4 (i 0) 0 (i 2) (i 1)) := by
  have h : V m c main_v3 = shapeCast S8x512x80 (extractStridedSlice S8x1x512x80 ![0, 0, 0, 0] (transpose S8x4x512x80 [0, 1, 3, 2] (m ((c : Thread nD τ).loc main_arg1)) transposes_S8x4x80x512_S8x4x512x80_0_1_3_2) slices_S8x4x512x80_S8x1x512x80_0_0_0_0) shapeCasts_S8x1x512x80_S8x512x80 := by
    unfold V hostOps0
    after_results
    rfl
  rw [h]
  pointwise
theorem V_corner1 (c : Dev nD) (i : S8x512x80.Idx) :
    V m c main_v5 i = (m ((c : Thread nD τ).loc main_arg1) : Vec F S8x4x80x512 .f32) (ix4 (i 0) 1 (i 2) (i 1)) := by
  have h : V m c main_v5 = shapeCast S8x512x80 (extractStridedSlice S8x1x512x80 ![0, 1, 0, 0] (transpose S8x4x512x80 [0, 1, 3, 2] (m ((c : Thread nD τ).loc main_arg1)) transposes_S8x4x80x512_S8x4x512x80_0_1_3_2) slices_S8x4x512x80_S8x1x512x80_0_1_0_0) shapeCasts_S8x1x512x80_S8x512x80 := by
    unfold V hostOps0
    after_results
    rfl
  rw [h]
  pointwise
theorem V_corner2 (c : Dev nD) (i : S8x512x80.Idx) :
    V m c main_v7 i = (m ((c : Thread nD τ).loc main_arg1) : Vec F S8x4x80x512 .f32) (ix4 (i 0) 2 (i 2) (i 1)) := by
  have h : V m c main_v7 = shapeCast S8x512x80 (extractStridedSlice S8x1x512x80 ![0, 2, 0, 0] (transpose S8x4x512x80 [0, 1, 3, 2] (m ((c : Thread nD τ).loc main_arg1)) transposes_S8x4x80x512_S8x4x512x80_0_1_3_2) slices_S8x4x512x80_S8x1x512x80_0_2_0_0) shapeCasts_S8x1x512x80_S8x512x80 := by
    unfold V hostOps0
    after_results
    rfl
  rw [h]
  pointwise
theorem V_corner3 (c : Dev nD) (i : S8x512x80.Idx) :
    V m c main_v9 i = (m ((c : Thread nD τ).loc main_arg1) : Vec F S8x4x80x512 .f32) (ix4 (i 0) 3 (i 2) (i 1)) := by
  have h : V m c main_v9 = shapeCast S8x512x80 (extractStridedSlice S8x1x512x80 ![0, 3, 0, 0] (transpose S8x4x512x80 [0, 1, 3, 2] (m ((c : Thread nD τ).loc main_arg1)) transposes_S8x4x80x512_S8x4x512x80_0_1_3_2) slices_S8x4x512x80_S8x1x512x80_0_3_0_0) shapeCasts_S8x1x512x80_S8x512x80 := by
    unfold V hostOps0
    after_results
    rfl
  rw [h]
  pointwise

/-- The image a grid point works on. -/
abbrev image (t : Fin cfg0.N) : Fin 8 := ⟨t.val, by have := t.isLt; have : cfg0.N = 8 := N_0; omega⟩

end

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)

section
variable {F : FTy → Type} [FloatOps F]
variable (m : (ℓ : Loc nD τ sig) → Buf (Elt F) ℓ)

/-- The blocks of a grid point, read at an index, are the arrays at that image. -/
theorem iblk0 (c : Dev nD) (t : Fin cfg0.N) (r : Fin 512) (l : Fin 80) :
    (iblk m c 0 t : Vec F S1x512x80 .f32) (ix3 0 r l) = V m c main_v1 (ix3 (image t) r l) := by
  blk_ext [iblk, idx0]
theorem iblk1 (c : Dev nD) (t : Fin cfg0.N) (r : Fin 512) (l : Fin 80) :
    (iblk m c 1 t : Vec F S1x512x80 .f32) (ix3 0 r l) = V m c main_v3 (ix3 (image t) r l) := by
  blk_ext [iblk, idx1]
theorem iblk2 (c : Dev nD) (t : Fin cfg0.N) (r : Fin 512) (l : Fin 80) :
    (iblk m c 2 t : Vec F S1x512x80 .f32) (ix3 0 r l) = V m c main_v5 (ix3 (image t) r l) := by
  blk_ext [iblk, idx2]
theorem iblk3 (c : Dev nD) (t : Fin cfg0.N) (r : Fin 512) (l : Fin 80) :
    (iblk m c 3 t : Vec F S1x512x80 .f32) (ix3 0 r l) = V m c main_v7 (ix3 (image t) r l) := by
  blk_ext [iblk, idx3]
theorem iblk4 (c : Dev nD) (t : Fin cfg0.N) (r : Fin 512) (l : Fin 80) :
    (iblk m c 4 t : Vec F S1x512x80 .f32) (ix3 0 r l) = V m c main_v9 (ix3 (image t) r l) := by
  blk_ext [iblk, idx4]
end

variable (m : (ℓ : Loc nD τ sig) → Buf (Elt Ideal) ℓ) (ρ : Dev nD → PrngReg)

/-- The arguments' result, as contents of the result array. -/
abbrev want (c : Dev nD) : Buf (Elt Ideal) ((c : Thread nD τ).loc main_v10) :=
  result (m ((c : Thread nD τ).loc main_arg0)) (m ((c : Thread nD τ).loc main_arg1))

/-- The result array ends holding it: every grid point writes back its image. -/
theorem final (c : Dev nD) : (dats m 0 c).arrAt 5 cfg0.N = want m c := by
  refine (dats m 0 c).arrAt_eq_of_covers 5 (want m c) (by decide +kernel) fun t hf y => ?_
  blk_simp
  rw [after0_5]
  unfold outsAt0
  rw [out_eq]
  idx_vars y
  obtain rfl : y0 = 0 := Subsingleton.elim _ _
  rw [out_apply]
  have e : ((View.whole main_v10).slice (win0_5.rect t)).emb (ix3 0 y1 y2) = ix3 (image t) y1 y2 := by blk_ext [idx5]
  refine Eq.trans ?_ (congrArg (want m c) e).symm
  have hs : (fun q => (iblk m c 0 t : Vec Ideal S1x512x80 .f32) (ix3 0 q y2))
      = fun q => (m ((c : Thread nD τ).loc main_arg0) : Vec Ideal S8x80x512 .f32) (ix3 (image t) y2 q) :=
    funext fun q => (iblk0 m c t q y2).trans (V_scores m c _)
  have hg : corners (iblk m c 1 t) (iblk m c 2 t) (iblk m c 3 t) (iblk m c 4 t) y2
      = fun q k => (m ((c : Thread nD τ).loc main_arg1) : Vec Ideal S8x4x80x512 .f32) (ix4 (image t) k y2 q) := by
    funext q k
    fin_cases k
    · exact (iblk1 m c t q y2).trans (V_corner0 m c _)
    · exact (iblk2 m c t q y2).trans (V_corner1 m c _)
    · exact (iblk3 m c t q y2).trans (V_corner2 m c _)
    · exact (iblk4 m c t q y2).trans (V_corner3 m c _)
  exact congrArg₂ (fun s g => survivor s g y1) hs hg

/-- The run: the result array as said, the arguments unchanged. -/
theorem run : θ_run defs (onTc (τ := τ) (main (F := Ideal))) ⟨m, fun _ => 0, ρ⟩ fun r => ∀ c : Dev nD,
      r.2.mem ((c : Thread nD τ).loc main_v10) = want m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run_blocks m ρ)

end Cert.NmsIdeal.Run

end
-- ==== Proof.NmsRef.lean ====
/-
  The reference's run, read: its result array is the same function of the arguments, `Cert.Greedy.result`.
-/
module

public import proofs.«01_k».proof.Proof.Greedy
public import proofs.«01_k».proof.Proof.Gen.NmsRefIdeal.StepRun
public import Idealize.ShloMosaic.Lib.DynamicIndex

@[expose] public section

set_option maxRecDepth 16384

noncomputable section

namespace Cert.NmsRefIdeal.Keep

open Cert.NmsRefIdeal Cert.NmsRefIdeal.Gen Cert.NmsRefIdeal.Step Idealize.ShloMosaic Idealize.ShloMosaic.TcCoe Idealize.SL.Sem
open Cert.Greedy

/-- A candidate of the first 500. -/
abbrev cand (r : Fin 500) : Fin 512 := ⟨r.val, r.isLt.trans (by decide)⟩

variable (x : Vec Ideal S8x80x512 .f32) (g : Vec Ideal S8x4x80x512 .f32)

/-- The scores and the corners of one image and class. -/
abbrev scoresOf (b : Fin 8) (c : Fin 80) : Fin 512 → EReal := fun q => x (ix3 b c q)
abbrev cornersOf (b : Fin 8) (c : Fin 80) : Fin 512 → Fin 4 → EReal := fun q k => g (ix4 b k c q)

theorem coord (k : Fin 4) (b : Fin 8) (c : Fin 80) (r : Fin 500) :
    A_main_v1 (F := Ideal) x g (ix4 b c r k) = cornersOf g b c (cand r) k := by
  pointwise [A_main_v1, A_main_v0]

theorem area_apply (b : Fin 8) (c : Fin 80) (r : Fin 500) :
    A_main_v56 (F := Ideal) x g (ix3 b c r) = area (cornersOf g b c (cand r)) := by
  pointwise [A_main_v56, A_main_v49, A_main_v55, A_main_v48, A_main_v54, A_main_v45, A_main_v47, A_main_v51, A_main_v53, A_main_v44, A_main_v46,
    A_main_v50, A_main_v52, coord, K_main_call2_v1, K_main_call3_v1, K_main_call2_v0, K_main_call3_v0, K_main_cst_1, K_main_cst_2, id_eq]
  rfl

theorem inter_apply (b : Fin 8) (c : Fin 80) (i j : Fin 500) :
    A_main_v43 (F := Ideal) x g (ix4 b c i j) = inter (cornersOf g b c (cand i)) (cornersOf g b c (cand j)) := by
  pointwise [A_main_v43, A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3,
    coord, K_main_call0_v1, K_main_call1_v1, K_main_call0_v0, K_main_call1_v0, K_main_cst, K_main_cst_0, id_eq]
  rfl

theorem iou_apply (b : Fin 8) (c : Fin 80) (i j : Fin 500) :
    A_main_v65 (F := Ideal) x g (ix4 b c i j) = iou (cornersOf g b c (cand i)) (cornersOf g b c (cand j)) := by
  pointwise [A_main_v65, A_main_v64, A_main_v62, A_main_v61, A_main_v60, A_main_v59, A_main_v58, A_main_v57, K_main_v63, K_main_cst_3, inter_apply, area_apply]
  rfl

theorem keep0_apply (b : Fin 8) (c : Fin 80) (r : Fin 500) :
    A_main_v67 (F := Ideal) x g (ix3 b c r) = BitVec.ofBool (decide (kept (scoresOf x b c) (cornersOf g b c) 0 (cand r))) := by
  pointwise [A_main_v67, A_main_v2, K_main_v66, K_main_cst_4]
  exact congrArg BitVec.ofBool (decide_eq_decide.mpr Iff.rfl)

/-- Trip `n` reads entry `n` of the marks, -/
theorem mark_apply (n : ℕ) (hn : n < 500) (s : State Ideal) (b : Fin 8) (c : Fin 80) (u : Fin 1) :
    b21 n s (ix3 b c u) = s.main_v69_4 (ix3 b c ⟨n, hn⟩) := by
  have hoff : S8x80x500.Slices ![0, 0, n] S8x80x1 := ⟨rfl, fun a => by
    fin_cases a
    · exact (by decide : 0 + 8 ≤ 8)
    · exact (by decide : 0 + 80 ≤ 80)
    · exact (by omega : n + 1 ≤ 500)⟩
  unfold b21
  rw [Host.dynamicSlice_eq_extractStridedSlice S8x80x1 _ _ ![0, 0, n] _ hoff fun a => by
    fin_cases a
    · rfl
    · rfl
    · exact toInt_wrap_ofNat n (by omega)]
  pointwise

/-- and row `n` of the overlaps. -/
theorem row_apply (n : ℕ) (hn : n < 500) (s : State Ideal) (b : Fin 8) (c : Fin 80) (u : Fin 1) (r : Fin 500) :
    b11 n s (ix4 b c u r) = s.main_v69_0 (ix4 b c ⟨n, hn⟩ r) := by
  have hoff : S8x80x500x500.Slices ![0, 0, n, 0] S8x80x1x500 := ⟨rfl, fun a => by
    fin_cases a
    · exact (by decide : 0 + 8 ≤ 8)
    · exact (by decide : 0 + 80 ≤ 80)
    · exact (by omega : n + 1 ≤ 500)
    · exact (by decide : 0 + 500 ≤ 500)⟩
  unfold b11
  rw [Host.dynamicSlice_eq_extractStridedSlice S8x80x1x500 _ _ ![0, 0, n, 0] _ hoff fun a => by
    fin_cases a
    · rfl
    · rfl
    · exact toInt_wrap_ofNat n (by omega)
    · rfl]
  pointwise

theorem noti_ofBool (p : Prop) [Decidable p] : ~~~(BitVec.ofBool (decide p)) = BitVec.ofBool (decide (¬p)) := by
  by_cases hp : p <;> simp only [hp] <;> rfl

/-- What a trip leaves of a mark, where the marks before it say who is kept. -/
theorem step_apply (n : ℕ) (hn : n < 500) (s : State Ideal) (b : Fin 8) (c : Fin 80)
    (hm : ∀ r : Fin 500, s.main_v69_4 (ix3 b c r) = BitVec.ofBool (decide (kept (scoresOf x b c) (cornersOf g b c) n (cand r))))
    (hi : ∀ i j : Fin 500, s.main_v69_0 (ix4 b c i j) = iou (cornersOf g b c (cand i)) (cornersOf g b c (cand j))) (r : Fin 500) :
    b34 n s (ix3 b c r) = BitVec.ofBool (decide (kept (scoresOf x b c) (cornersOf g b c) (n + 1) (cand r))) := by
  pointwise [b34, b33, b32, b31, b30, b29, b28, b27, b26, b25, b24, b23, b22, b12, K_main_v68, id_eq, mark_apply n hn, row_apply n hn, hm, hi]
  rw [cmpi_sgt_ofNat (by omega) (by omega), andi_ofBool, andi_ofBool, noti_ofBool, andi_ofBool]
  exact congrArg BitVec.ofBool (decide_eq_decide.mpr (kept_succ (scoresOf x b c) (cornersOf g b c) n (cand ⟨n, hn⟩) (cand r) rfl).symm)

/-- The state before trip `n`. -/
def it : ℕ → State Ideal
  | 0 => init x g
  | n + 1 => step n (it n)

/-- The overlaps stay what they were, and the marks before trip `n` say who is kept after `n` visits. -/
theorem it_apply (b : Fin 8) (c : Fin 80) : ∀ n : ℕ, n ≤ 500 →
    (∀ r : Fin 500, (it x g n).main_v69_4 (ix3 b c r) = BitVec.ofBool (decide (kept (scoresOf x b c) (cornersOf g b c) n (cand r))))
    ∧ ∀ i j : Fin 500, (it x g n).main_v69_0 (ix4 b c i j) = iou (cornersOf g b c (cand i)) (cornersOf g b c (cand j))
  | 0, _ => ⟨keep0_apply x g b c, iou_apply x g b c⟩
  | n + 1, h => by
    have ih := it_apply b c n (Nat.le_of_succ_le h)
    exact ⟨step_apply x g n h (it x g n) b c ih.1 ih.2, ih.2⟩

/-- The result the operations after the loop make of the last state. -/
theorem result_apply : R_main_v74 (it x g 500) x = result x g := by
  funext i
  idx_vars i
  have h := fun b c => (it_apply x g b c 500 le_rfl).1
  pointwise [R_main_v74, h, id_eq]
  show _ = if kept (scoresOf x i0 i2) (cornersOf g i0 i2) 500 i1 ∧ i1.val < 500 then x (ix3 i0 i2 i1) else 0
  by_cases h5 : i1.val < 500
  · simp only [h5, dif_pos, and_true]
  · simp only [h5, and_false, if_false, dif_neg, not_false_eq_true]

variable (m : (ℓ : Loc nD τ sig) → Buf (Elt Ideal) ℓ) (ρ : Dev nD → PrngReg)

/-- The run: the result array is that function of the arguments, which are unchanged. -/
theorem run : θ_run (defs (F := Ideal)) (onTc (τ := τ) (main (F := Ideal))) ⟨m, fun _ => 0, ρ⟩ fun r => ∀ c : Dev nD,
      r.2.mem ((c.tc : Thread nD τ).loc main_v74)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1).trans (result_apply _ _), (h c).2⟩)
    (StepRun.run_iter m ρ (fun c => it (m ((c.tc : Thread nD τ).loc main_arg0)) (m ((c.tc : Thread nD τ).loc main_arg1)))
      (fun _ => rfl) fun _ _ => rfl)

end Cert.NmsRefIdeal.Keep

end
-- ==== Proof.Boxes.lean ====
/-
  The decoded boxes: what the second call computes, as plain arithmetic on the extended reals, for one anchor of one image.
-/
module

public import Idealize.ShloMosaic.Lib.Pointwise

@[expose] public section

noncomputable section

namespace Cert.Boxes

open Idealize.ShloMosaic

/-- The two box variances, one tenth for the centres and one fifth for the sizes, and the two a size is halved by. -/
def centreVar : EReal := Ideal.ofBits .f32 0x3DCCCCCD#32
def sizeVar : EReal := Ideal.ofBits .f32 0x3E4CCCCD#32
def two : EReal := Ideal.ofBits .f32 0x40000000#32

/-- The centre along an axis: the regressed shift `t`, scaled by its variance and the anchor's size `s`, from the anchor's
    centre `p`. -/
def centre (t p s : EReal) : EReal := t * centreVar * s + p

/-- The size along an axis: the anchor's size `s` times the exponential of the regressed scale `t` under its variance. -/
def size (t s : EReal) : EReal := Ideal.exp (t * sizeVar) * s

/-- Corner coordinate `k` (x1, y1, x2, y2) of the box regressed by `t` from the anchor `a` (centre x, centre y, width,
    height): the centre less, or plus, half the size. -/
def corner (t a : Fin 4 → EReal) : Fin 4 → EReal
  | 0 => centre (t 0) (a 0) (a 2) - Ideal.div (size (t 2) (a 2)) two
  | 1 => centre (t 1) (a 1) (a 3) - Ideal.div (size (t 3) (a 3)) two
  | 2 => centre (t 0) (a 0) (a 2) + Ideal.div (size (t 2) (a 2)) two
  | 3 => centre (t 1) (a 1) (a 3) + Ideal.div (size (t 3) (a 3)) two

/-- Corner coordinate `k` of anchor `n` in image `b`. -/
def box (h : FVec Ideal ⟨3, ![8, 20000, 4]⟩ .f32) (a : FVec Ideal ⟨2, ![20000, 4]⟩ .f32) (b : Fin 8) (k : Fin 4) (n : Fin 20000) : EReal :=
  corner (fun j => h (ix3 b n j)) (fun j => a (ix2 n j)) k

/-- All boxes, laid out [image, corner coordinate, anchor]. -/
def decoded (h : FVec Ideal ⟨3, ![8, 20000, 4]⟩ .f32) (a : FVec Ideal ⟨2, ![20000, 4]⟩ .f32) : FVec Ideal ⟨3, ![8, 4, 20000]⟩ .f32 :=
  fun i => box h a (i 0) (i 1) (i 2)

end Cert.Boxes

end
-- ==== Proof.DecodeRun.lean ====
/-
  The decoding kernel's run, read: its result array holds the corners of the regressed boxes.
-/
module

public import proofs.«01_k».proof.Proof.Boxes
public import proofs.«01_k».proof.Proof.Gen.DecodeIdeal
public import proofs.«01_k».proof.Proof.Gen.DecodeIdeal.Frame
public import proofs.«01_k».proof.Proof.Gen.DecodeIdeal.Value
public import Idealize.ShloMosaic.Lib.Pipeline.ValueKit

@[expose] public section

set_option maxRecDepth 16384

noncomputable section

namespace Cert.DecodeIdeal.Run

open Cert.DecodeIdeal Cert.DecodeIdeal.Gen Idealize.ShloMosaic Idealize.ShloMosaic.TcCoe Idealize.SL.Sem Idealize.ShloMosaic.StableHlo
open Cert.Boxes
open Idealize.ShloMosaic.Pipeline (Dat)

section
variable {F : FTy → Type} [FloatOps F]
variable (m : (ℓ : Loc nD τ sig) → Buf (Elt F) ℓ)

/-- The regression as the call finds it: transposed to [image, coordinate, anchor]. -/
theorem V_head (c : Dev nD) (i : S8x4x20000.Idx) :
    V m c main_v0 i = (m ((c : Thread nD τ).loc main_arg0) : Vec F S8x20000x4 .f32) (ix3 (i 0) (i 2) (i 1)) := by
  have h : V m c main_v0 = transpose S8x4x20000 [0, 2, 1] (m ((c : Thread nD τ).loc main_arg0)) transposes_S8x20000x4_S8x4x20000_0_2_1 := by
    unfold V hostOps0
    after_results
  rw [h]
  pointwise

/-- The anchors as the call finds them: transposed to [coordinate, anchor]. -/
theorem V_anchors (c : Dev nD) (i : S4x20000.Idx) :
    V m c main_v1 i = (m ((c : Thread nD τ).loc main_arg1) : Vec F S20000x4 .f32) (ix2 (i 1) (i 0)) := by
  have h : V m c main_v1 = transpose S4x20000 [1, 0] (m ((c : Thread nD τ).loc main_arg1)) transposes_S20000x4_S4x20000_1_0 := by
    unfold V hostOps0
    after_results
  rw [h]
  pointwise
end

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)

section
variable {F : FTy → Type} [FloatOps F]
variable (m : (ℓ : Loc nD τ sig) → Buf (Elt F) ℓ)

/-- The one grid point's blocks are the whole arrays. -/
theorem iblk0 (c : Dev nD) (t : Fin cfg0.N) (b : Fin 8) (k : Fin 4) (n : Fin 20000) :
    (iblk m c 0 t : Vec F S8x4x20000 .f32) (ix3 b k n) = V m c main_v0 (ix3 b k n) := by
  blk_ext [iblk, idx0]
theorem iblk1 (c : Dev nD) (t : Fin cfg0.N) (k : Fin 4) (n : Fin 20000) :
    (iblk m c 1 t : Vec F S4x20000 .f32) (ix2 k n) = V m c main_v1 (ix2 k n) := by
  blk_ext [iblk, idx1]
end

/-! ## What the body stores -/

variable (x0 : Vec Ideal S8x4x20000 .f32) (x1 : Vec Ideal S4x20000 .f32)

/-- The centres and the sizes the body computes from the loaded rows. -/
theorem centre_x (b : Fin 8) (n : Fin 20000) :
    k0_pay13 x0 x1 (ix2 b n) = centre (x0 (ix3 b 0 n)) (x1 (ix2 0 n)) (x1 (ix2 2 n)) := by
  pointwise [k0_pay13, k0_pay8, k0_pay6]
  rfl
theorem centre_y (b : Fin 8) (n : Fin 20000) :
    k0_pay14 x0 x1 (ix2 b n) = centre (x0 (ix3 b 1 n)) (x1 (ix2 1 n)) (x1 (ix2 3 n)) := by
  pointwise [k0_pay14, k0_pay9, k0_pay7]
  rfl
theorem size_x (b : Fin 8) (n : Fin 20000) :
    k0_pay15 x0 x1 (ix2 b n) = size (x0 (ix3 b 2 n)) (x1 (ix2 2 n)) := by
  pointwise [k0_pay15, k0_pay10, k0_pay6]
  rfl
theorem size_y (b : Fin 8) (n : Fin 20000) :
    k0_pay1 (k0_pay12 x0 x1) (k0_pay16 x0 x1) (ix2 b n) = size (x0 (ix3 b 3 n)) (x1 (ix2 3 n)) := by
  pointwise [k0_pay1, k0_pay12, k0_pay16, k0_pay11, k0_pay7]
  rfl

/-- The four stores leave the corners. -/
theorem out_apply (b : Fin 8) (k : Fin 4) (n : Fin 20000) :
    out0_2 x0 x1 (ix3 b k n) = corner (fun j => x0 (ix3 b j n)) (fun j => x1 (ix2 j n)) k := by
  unfold out0_2
  canon_tiles y h
  all_goals
    idx_vars y
    obtain rfl : y1 = 0 := Subsingleton.elim _ _
    obtain rfl : y0 = b := Fin.ext h0.symm
    obtain rfl : y2 = n := Fin.ext h2.symm
  · obtain rfl : k = 3 := Fin.ext h1
    pointwise [k0_pay5, centre_y, size_y]
    rfl
  · obtain rfl : k = 2 := Fin.ext h1
    pointwise [k0_pay4, centre_x, size_x]
    rfl
  · obtain rfl : k = 1 := Fin.ext h1
    pointwise [k0_pay3, centre_y, size_y]
    rfl
  · obtain rfl : k = 0 := Fin.ext h1
    pointwise [k0_pay2, centre_x, size_x]
    rfl

variable (m : (ℓ : Loc nD τ sig) → Buf (Elt Ideal) ℓ) (ρ : Dev nD → PrngReg)

/-- The arguments' boxes, as contents of the result array. -/
abbrev want (c : Dev nD) : Buf (Elt Ideal) ((c : Thread nD τ).loc main_v2) :=
  decoded (m ((c : Thread nD τ).loc main_arg0)) (m ((c : Thread nD τ).loc main_arg1))

/-- The result array ends holding them. -/
theorem final (c : Dev nD) : (dats m 0 c).arrAt 2 cfg0.N = want m c := by
  refine (dats m 0 c).arrAt_eq_of_covers 2 (want m c) (by decide +kernel) fun t hf y => ?_
  blk_simp
  rw [after0_2]
  idx_vars y
  rw [out_apply]
  have e : ((View.whole main_v2).slice (win0_2.rect t)).emb (ix3 y0 y1 y2) = ix3 y0 y1 y2 := by blk_ext [idx2]
  refine Eq.trans ?_ (congrArg (want m c) e).symm
  exact congrArg₂ (fun h a => corner h a y1)
    (funext fun j => (iblk0 m c t y0 j y2).trans (V_head m c _))
    (funext fun j => (iblk1 m c t j y2).trans (V_anchors m c _))

/-- The run: the result array as said, the arguments unchanged. -/
theorem run : θ_run defs (onTc (τ := τ) (main (F := Ideal))) ⟨m, fun _ => 0, ρ⟩ fun r => ∀ c : Dev nD,
      r.2.mem ((c : Thread nD τ).loc main_v2) = want m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run_blocks m ρ)

end Cert.DecodeIdeal.Run

end
-- ==== Proof.DecodeRef.lean ====
/-
  The decoding reference's run, read: its result array is the same function of the arguments, `Cert.Boxes.decoded`.
-/
module

public import proofs.«01_k».proof.Proof.Boxes
public import proofs.«01_k».proof.Proof.Gen.DecodeRefIdeal.Run

@[expose] public section

set_option maxRecDepth 16384

noncomputable section

namespace Cert.DecodeRefIdeal.Corners

open Cert.DecodeRefIdeal Cert.DecodeRefIdeal.Value Idealize.ShloMosaic Idealize.ShloMosaic.TcCoe Idealize.SL.Sem
open Cert.Boxes

variable (m : (ℓ : Loc nD τ sig) → Buf (Elt Ideal) ℓ) (ρ : Dev nD → PrngReg)

/-- The reference's composed result, read at an index, is the box's corner. -/
theorem result_eq (c : Dev nD) :
    res_main_v28 m c = decoded (m ((c.tc : Thread nD τ).loc main_arg0)) (m ((c.tc : Thread nD τ).loc main_arg1)) := by
  funext i
  idx_vars i
  fin_cases i1
  all_goals pointwise [res_main_v28]
  all_goals rfl

/-- The run: the result array is that function of the arguments, which are unchanged. -/
theorem run : θ_run (defs (F := Ideal)) (onTc (τ := τ) (main (F := Ideal))) ⟨m, fun _ => 0, ρ⟩ fun r => ∀ c : Dev nD,
      r.2.mem ((c.tc : Thread nD τ).loc main_v28)
        = decoded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1).trans (result_eq m c), (h c).2⟩) (Value.run m ρ)

end Cert.DecodeRefIdeal.Corners

end
-- ==== Proof.Sigmoid.lean ====
module

public import Idealize.ShloMosaic.Lib.Pipeline.ValueKit
public import Idealize.ShloMosaic.PureOps.Reduce
public import Idealize.ShloMosaic.Lib.SortFacts

/-!
# The logistic function against the score threshold, and the largest entry of a list

What both whole programs need of their scores: where the logistic function lies below and above the threshold
both programs compare with, the largest of values that all lie below a bound, and the first entry of the largest
ones of a list.
-/

@[expose] public section

set_option maxRecDepth 16384

noncomputable section

namespace Cert.Sigmoid

open Idealize.ShloMosaic

/-- The score threshold, 0.05 rounded to a single-precision number. -/
def thr : EReal := Ideal.ofBits .f32 0x3D4CCCCD#32

/-- The threshold as a real number. -/
theorem thr_eq : thr = ((13421773 / 268435456 : ℝ) : EReal) := by
  unfold thr
  simp [Ideal.ofBits, Ideal.ieee]
  rw [← EReal.coe_mul]
  norm_num

/-- Minus twenty. -/
theorem neg20_eq : Ideal.ofBits .f32 0xC1A00000#32 = ((-20 : ℝ) : EReal) := by
  simp [Ideal.ofBits, Ideal.ieee]
  rw [← EReal.coe_mul]
  norm_num

/-- At most minus twenty, the logistic function does not exceed the threshold. -/
theorem logistic_le_thr {x : EReal} (hx : x ≤ Ideal.ofBits .f32 0xC1A00000#32) : ¬ thr < Ideal.logistic x := by
  rw [thr_eq, not_lt]
  rw [neg20_eq] at hx
  induction x with
  | bot => rw [Ideal.logistic_bot]; exact_mod_cast (by norm_num : (0 : ℝ) ≤ 13421773 / 268435456)
  | top => exact absurd hx (by simp)
  | coe r =>
    rw [Ideal.logistic_coe, EReal.coe_le_coe_iff]
    have hr : r ≤ -20 := by exact_mod_cast hx
    have he : -r + 1 ≤ Real.exp (-r) := Real.add_one_le_exp _
    have h22 : (22 : ℝ) ≤ 1 + Real.exp (-r) := by linarith
    calc (1 + Real.exp (-r))⁻¹ ≤ (22 : ℝ)⁻¹ := inv_anti₀ (by norm_num) h22
      _ ≤ 13421773 / 268435456 := by norm_num

/-- At zero or more, the logistic function exceeds the threshold. -/
theorem thr_lt_logistic {x : EReal} (hx : 0 ≤ x) : thr < Ideal.logistic x := by
  rw [thr_eq]
  induction x with
  | bot => exact absurd hx (by simp)
  | top => rw [Ideal.logistic_top]; exact_mod_cast (by norm_num : (13421773 / 268435456 : ℝ) < 1)
  | coe r =>
    rw [Ideal.logistic_coe, EReal.coe_lt_coe_iff]
    have hr : 0 ≤ r := by exact_mod_cast hx
    have he : Real.exp (-r) ≤ 1 := Real.exp_le_one_iff.mpr (by linarith)
    have hp : 0 < Real.exp (-r) := Real.exp_pos _
    calc (13421773 / 268435456 : ℝ) < (2 : ℝ)⁻¹ := by norm_num
      _ ≤ (1 + Real.exp (-r))⁻¹ := inv_anti₀ (by linarith) (by linarith)

/-- What exceeds the threshold is positive. -/
theorem pos_of_thr_lt {x : EReal} (hx : thr < x) : 0 < x := by
  refine lt_trans ?_ hx
  rw [thr_eq]
  exact_mod_cast (by norm_num : (0 : ℝ) < 13421773 / 268435456)

/-- The largest of a start and the entries of a list is at most a bound the start and every entry keep. -/
theorem foldl_max_le {β : Type*} (f : β → EReal) (B : EReal) (l : List β) (a : EReal) (ha : a ≤ B)
    (hl : ∀ i ∈ l, f i ≤ B) : l.foldl (fun s i => max s (f i)) a ≤ B := by
  induction l generalizing a with
  | nil => exact ha
  | cons b l ih =>
    exact ih _ (max_le ha (hl b (by simp))) fun i hi => hl i (by simp [hi])

end Cert.Sigmoid
-- ==== Proof.WholeRun.lean ====
/-
  The whole kernel, run under the precondition: every box, score, class and count it returns is zero.
-/
module

public import proofs.«01_k».proof.Proof.Sigmoid
public import proofs.«01_k».proof.Proof.Gen.WholeIdeal.Frame

@[expose] public section

set_option maxRecDepth 16384

noncomputable section

namespace Cert.WholeIdeal.Low

open Cert.WholeIdeal Cert.WholeIdeal.Gen Idealize.ShloMosaic Idealize.ShloMosaic.TcCoe Idealize.SL.Sem Idealize.ShloMosaic.StableHlo

/-! ## The arrays the scores pass through, read from the buffers' contents -/

abbrev rdHead (V : Valuation τ sig (Elt Ideal)) : Vec Ideal S8x20000x80 .f32 := V (Proc.devRef .tc main_arg0)
abbrev rd12 (V : Valuation τ sig (Elt Ideal)) : Vec Ideal S8x80x512 .f32 := V (Proc.devRef .tc main_v12)
abbrev rd19 (V : Valuation τ sig (Elt Ideal)) : Vec Ideal S8x512x80 .f32 := V (Proc.devRef .tc main_v19)
abbrev rd31 (V : Valuation τ sig (Elt Ideal)) : Vec Ideal S8x1000 .f32 := V (Proc.devRef .tc main_v31)
abbrev rd40 (V : Valuation τ sig (Elt Ideal)) : IVec S8x1000 1 := V (Proc.devRef .tc main_v40)
abbrev rdZero (V : Valuation τ sig (Elt Ideal)) : Vec Ideal S_ .f32 := V (Proc.devRef .tc main_cst_5)
abbrev rd45 (V : Valuation τ sig (Elt Ideal)) : Vec Ideal S8x1000 .f32 := V (Proc.devRef .tc main_v45)

abbrev rd41 (V : Valuation τ sig (Elt Ideal)) : IVec S8x1000x1 1 := V (Proc.devRef .tc main_v41)
abbrev rd42 (V : Valuation τ sig (Elt Ideal)) : Vec Ideal S8x1000x4 .f32 := V (Proc.devRef .tc main_v42)
abbrev rdZero3 (V : Valuation τ sig (Elt Ideal)) : Vec Ideal S_ .f32 := V (Proc.devRef .tc main_cst_3)
abbrev rd43 (V : Valuation τ sig (Elt Ideal)) : Vec Ideal S8x1000x4 .f32 := V (Proc.devRef .tc main_v43)
abbrev rd35 (V : Valuation τ sig (Elt Ideal)) : Vec Ideal S8x1000 .f32 := V (Proc.devRef .tc main_v35)
abbrev rdZero4 (V : Valuation τ sig (Elt Ideal)) : Vec Ideal S_ .f32 := V (Proc.devRef .tc main_cst_4)
abbrev rd44 (V : Valuation τ sig (Elt Ideal)) : Vec Ideal S8x1000 .f32 := V (Proc.devRef .tc main_v44)
abbrev rd47 (V : Valuation τ sig (Elt Ideal)) : IVec S8 32 := V (Proc.devRef .tc main_v47)

/-- The largest score of each image and class. -/
def best (x : Vec Ideal S8x20000x80 .f32) : Vec Ideal S8x80 .f32 :=
  Host.reduce (FloatOps.maximumf (F := Ideal) (φ := .f32)) x (constant (F := Ideal) S_ .f32 0xFF800000#32) reducesTo_S8x20000x80_S8x80_d1 h_S_

/-- The array the kernel makes of the class maxima. -/
def spread (t : Vec Ideal S8x80 .f32) : Vec Ideal S8x80x512 .f32 :=
  extractStridedSlice S8x80x512 ![0, 0, 0] (Host.divf (F := Ideal) (φ := .f32)
      (broadcastInDim S8x80x20000 ![] bcast_S_S8x80x20000 (constant (F := Ideal) S_ .f32 0x3F800000#32))
      (addf (broadcastInDim S8x80x20000 ![] bcast_S_S8x80x20000 (constant (F := Ideal) S_ .f32 0x3F800000#32))
        (Host.exp (Host.negf (broadcastInDim S8x80x20000 ![0, 1, 2] bcast_S8x80x1_S8x80x20000_0_1_2
          (broadcastInDim S8x80x1 ![0, 1] bcast_S8x80_S8x80x1_0_1 t))))))
    slices_S8x80x20000_S8x80x512_0_0_0

/-- Each of its entries is the logistic function of its class's maximum. -/
theorem spread_apply (t : Vec Ideal S8x80 .f32) (b : Fin 8) (k : Fin 80) (q : Fin 512) :
    spread t (ix3 b k q) = Ideal.logistic (t (ix2 b k)) := by
  unfold spread Ideal.logistic
  pointwise

theorem rd12_eq (V : Valuation τ sig (Elt Ideal)) : rd12 (after hostOps1 V) = spread (best (rdHead V)) := by
  unfold rd12 best spread
  after_results
  all_goals rfl

theorem rd19_eq (V : Valuation τ sig (Elt Ideal)) : rd19 (after hostOps1_2 V)
    = transpose S8x512x80 [0, 2, 1] (rd12 V) transposes_S8x80x512_S8x512x80_0_2_1 := by
  unfold rd19
  after_results
  all_goals rfl

theorem rd31_eq (V : Valuation τ sig (Elt Ideal)) : rd31 (after hostOps2 V)
    = extractStridedSlice S8x1000 ![0, 0] (shapeCast S8x40960 (transpose S8x80x512 [0, 2, 1] (rd19 V)
        transposes_S8x512x80_S8x80x512_0_2_1) shapeCasts_S8x80x512_S8x40960) slices_S8x40960_S8x1000_0_0 := by
  unfold rd31
  after_results
  all_goals rfl

theorem rd40_eq (V : Valuation τ sig (Elt Ideal)) : rd40 (after hostOps2_4 V)
    = cmpf .ogt (rd31 V) (broadcastInDim S8x1000 ![] bcast_S_S8x1000 (constant (F := Ideal) S_ .f32 0x3D4CCCCD#32)) := by
  unfold rd40
  after_results
  all_goals rfl

theorem rdZero_eq (V : Valuation τ sig (Elt Ideal)) : rdZero (after hostOps2_8 V) = constant (F := Ideal) S_ .f32 0x00000000#32 := by
  unfold rdZero
  after_results
  all_goals rfl

theorem rd45_eq (V : Valuation τ sig (Elt Ideal)) : rd45 (after hostOps2_9 V)
    = select (rd40 V) (rd31 V) (broadcastInDim S8x1000 ![] bcast_S_S8x1000 (rdZero V)) := by
  unfold rd45
  after_results
  all_goals rfl

theorem rd41_eq (V : Valuation τ sig (Elt Ideal)) : rd41 (after hostOps2_4 V)
    = broadcastInDim S8x1000x1 ![0, 1] bcast_S8x1000_S8x1000x1_0_1 (rd40 (after hostOps2_4 V)) := by
  unfold rd41 rd40
  after_results
  all_goals rfl

theorem rdZero3_eq (V : Valuation τ sig (Elt Ideal)) : rdZero3 (after hostOps2_4 V) = constant (F := Ideal) S_ .f32 0x00000000#32 := by
  unfold rdZero3
  after_results
  all_goals rfl

theorem rd43_eq (V : Valuation τ sig (Elt Ideal)) : rd43 (after hostOps2_5 V)
    = select (broadcastInDim S8x1000x4 ![0, 1, 2] bcast_S8x1000x1_S8x1000x4_0_1_2 (rd41 V)) (rd42 V)
      (broadcastInDim S8x1000x4 ![] bcast_S_S8x1000x4 (rdZero3 V)) := by
  unfold rd43
  after_results
  all_goals rfl

theorem rdZero4_eq (V : Valuation τ sig (Elt Ideal)) : rdZero4 (after hostOps2_6 V) = constant (F := Ideal) S_ .f32 0x00000000#32 := by
  unfold rdZero4
  after_results
  all_goals rfl

theorem rd44_eq (V : Valuation τ sig (Elt Ideal)) : rd44 (after hostOps2_7 V)
    = select (rd40 V) (rd35 V) (broadcastInDim S8x1000 ![] bcast_S_S8x1000 (rdZero4 V)) := by
  unfold rd44
  after_results
  all_goals rfl

theorem rd47_eq (V : Valuation τ sig (Elt Ideal)) : rd47 (after hostOps2_10 V)
    = Host.reduce IntOp.addi (extui 32 (rd40 V) natLt_1_32) (constantI S_ 32 0#32) reducesTo_S8x1000_S8_d1 h_S_ := by
  unfold rd47
  after_results
  all_goals rfl

/-- Where no entry is marked, the counts are zero, -/
theorem count_zero (k : IVec S8x1000 1) (h : ∀ (b : Fin 8) (n : Fin 1000), k (ix2 b n) = 0#1) (b : Fin 8) :
    Host.reduce IntOp.addi (extui 32 k natLt_1_32) (constantI S_ 32 0#32) reducesTo_S8x1000_S8_d1 h_S_ (ix1 b) = 0#32 := by
  rw [Host.reduce_eq_foldl]
  refine List.foldlRecOn _ _ (motive := fun v : BitVec 32 => v = 0#32) rfl fun v hv i _ => ?_
  rw [hv]
  idx_vars i
  show 0#32 + (k (ix2 i0 i1)).setWidth 32 = 0#32
  rw [h i0 i1]
  rfl

/-- and so are the classes, -/
theorem class_zero (k : IVec S8x1000 1) (x : Vec Ideal S8x1000 .f32) (h : ∀ (b : Fin 8) (n : Fin 1000), k (ix2 b n) = 0#1) (b : Fin 8) (n : Fin 1000) :
    select k x (broadcastInDim S8x1000 ![] bcast_S_S8x1000 (constant (F := Ideal) S_ .f32 0x00000000#32)) (ix2 b n) = 0 := by
  pointwise
  rw [h b n]
  rfl

/-- and the boxes. -/
theorem box_zero (k : IVec S8x1000 1) (x : Vec Ideal S8x1000x4 .f32) (h : ∀ (b : Fin 8) (n : Fin 1000), k (ix2 b n) = 0#1) (b : Fin 8) (n : Fin 1000) (j : Fin 4) :
    select (broadcastInDim S8x1000x4 ![0, 1, 2] bcast_S8x1000x1_S8x1000x4_0_1_2 (broadcastInDim S8x1000x1 ![0, 1] bcast_S8x1000_S8x1000x1_0_1 k)) x
      (broadcastInDim S8x1000x4 ![] bcast_S_S8x1000x4 (constant (F := Ideal) S_ .f32 0x00000000#32)) (ix3 b n j) = 0 := by
  pointwise
  rw [h b n]
  rfl

variable (m : (ℓ : Loc nD τ sig) → Buf (Elt Ideal) ℓ) (ρ : Dev nD → PrngReg)

/-- The head's scores, before the logistic function. -/
abbrev head (c : Dev nD) : Vec Ideal S8x20000x80 .f32 := m ((c.tc : Thread nD τ).loc main_arg0)

/-- Each entry of the array of class maxima is the logistic function of its class's largest score. -/
theorem v12_apply (c : Dev nD) (b : Fin 8) (k : Fin 80) (q : Fin 512) :
    rd12 (W3 m ρ c) (ix3 b k q) = Ideal.logistic (best (head m c) (ix2 b k)) := by
  have h0 : rdHead (W2 m ρ c) = head m c := W2_args m ρ c main_arg0 (by decide)
  have hv : rd12 (W3 m ρ c) = spread (best (rdHead (W2 m ρ c))) := rd12_eq (W2 m ρ c)
  rw [hv, h0, spread_apply]

/-- The scores before the threshold: class `n / 512`'s entry of that array. -/
theorem v31_apply (c : Dev nD) (b : Fin 8) (n : Fin 1000) :
    rd31 (W10 m ρ c) (ix2 b n) = Ideal.logistic (best (head m c) (ix2 b ⟨n.val / 512, by omega⟩)) := by
  have h1 : rd31 (W10 m ρ c) = rd31 (W7 m ρ c) :=
    (W10_of m ρ c main_v31 (by decide)).trans ((W9_of m ρ c main_v31 (by decide)).trans (W8_of m ρ c main_v31 (by decide)))
  have h2 := rd31_eq (W6 m ρ c)
  have h3 : rd19 (W6 m ρ c) = rd19 (W5 m ρ c) := W6_of m ρ c main_v19 (by decide)
  have h4 := rd19_eq (W4 m ρ c)
  have h5 : rd12 (W4 m ρ c) = rd12 (W3 m ρ c) := W4_of m ρ c main_v12 (by decide)
  rw [h3, h4, h5] at h2
  rw [h1, h2, ← v12_apply m ρ c b ⟨n.val / 512, by omega⟩ ⟨n.val % 512, by omega⟩]
  pointwise

/-- The scores returned: those above the threshold, and zero in the others' place. -/
theorem v45_apply (c : Dev nD) (b : Fin 8) (n : Fin 1000) : rd45 (W17 m ρ c) (ix2 b n)
      = if Cert.Sigmoid.thr < rd31 (W10 m ρ c) (ix2 b n) then rd31 (W10 m ρ c) (ix2 b n) else 0 := by
  have h1 : rd45 (W17 m ρ c) = rd45 (W16 m ρ c) := W17_of m ρ c main_v45 (by decide)
  have h2 := rd45_eq (W15 m ρ c)
  have h3 := rdZero_eq (W14 m ρ c)
  have h4 : rd40 (W15 m ρ c) = rd40 (W11 m ρ c) :=
    (W15_of m ρ c main_v40 (by decide)).trans ((W14_of m ρ c main_v40 (by decide)).trans ((W13_of m ρ c main_v40 (by decide)).trans
      (W12_of m ρ c main_v40 (by decide))))
  have h5 : rd31 (W15 m ρ c) = rd31 (W10 m ρ c) :=
    (W15_of m ρ c main_v31 (by decide)).trans ((W14_of m ρ c main_v31 (by decide)).trans ((W13_of m ρ c main_v31 (by decide)).trans
      ((W12_of m ρ c main_v31 (by decide)).trans (W11_of m ρ c main_v31 (by decide)))))
  have h6 := rd40_eq (W10 m ρ c)
  rw [h3, h4, h5, h6] at h2
  rw [h1, h2]
  generalize rd31 (W10 m ρ c) = v
  pointwise
  rfl

/-- Where every score of a class is at most minus twenty, so is the largest. -/
theorem best_le (x : Vec Ideal S8x20000x80 .f32) (b : Fin 8) (k : Fin 80)
    (h : ∀ a : Fin 20000, x (ix3 b a k) ≤ Ideal.ofBits .f32 0xC1A00000#32) :
    best x (ix2 b k) ≤ Ideal.ofBits .f32 0xC1A00000#32 := by
  unfold best
  rw [Host.reduce_eq_foldl]
  refine Cert.Sigmoid.foldl_max_le x _ _ _ ?_ fun i hi => ?_
  · show Ideal.ofBits .f32 0xFF800000#32 ≤ _
    simp [Ideal.ofBits, Ideal.ieee]
  · have hd : reducesTo_S8x20000x80_S8x80_d1.drop i = ix2 b k := by simpa using (List.mem_filter.mp hi).2
    idx_vars i
    have e0 : i0 = b := congrFun hd 0
    have e2 : i2 = k := congrFun hd 1
    rw [e0, e2]
    exact h i1

/-- Where the first two classes' scores are at most minus twenty, every score returned is zero. -/
theorem v45_zero (c : Dev nD)
    (h : ∀ (b : Fin 8) (a : Fin 20000) (k : Fin 80), k.val < 2 → head m c (ix3 b a k) ≤ Ideal.ofBits .f32 0xC1A00000#32)
    (b : Fin 8) (n : Fin 1000) : rd45 (W17 m ρ c) (ix2 b n) = 0 := by
  rw [v45_apply, v31_apply]
  exact if_neg (Cert.Sigmoid.logistic_le_thr (best_le _ b ⟨n.val / 512, by omega⟩ fun a => h b a _ (by show n.val / 512 < 2; omega)))

/-- and no entry is marked as above the threshold, -/
theorem v40_zero (c : Dev nD)
    (h : ∀ (b : Fin 8) (a : Fin 20000) (k : Fin 80), k.val < 2 → head m c (ix3 b a k) ≤ Ideal.ofBits .f32 0xC1A00000#32)
    (b : Fin 8) (n : Fin 1000) : rd40 (W11 m ρ c) (ix2 b n) = 0#1 := by
  have h1 := v31_apply m ρ c b n
  have h2 : ¬Cert.Sigmoid.thr < rd31 (W10 m ρ c) (ix2 b n) := by
    rw [h1]
    exact Cert.Sigmoid.logistic_le_thr (best_le _ b ⟨n.val / 512, by omega⟩ fun a => h b a _ (by show n.val / 512 < 2; omega))
  have h3 := rd40_eq (W10 m ρ c)
  rw [h3]
  generalize rd31 (W10 m ρ c) = v at h2
  pointwise
  exact congrArg BitVec.ofBool (decide_eq_false h2)

/-- so every box returned is zero, -/
theorem v43_zero (c : Dev nD)
    (h : ∀ (b : Fin 8) (a : Fin 20000) (k : Fin 80), k.val < 2 → head m c (ix3 b a k) ≤ Ideal.ofBits .f32 0xC1A00000#32)
    (b : Fin 8) (n : Fin 1000) (j : Fin 4) : rd43 (W17 m ρ c) (ix3 b n j) = 0 := by
  have h1 : rd43 (W17 m ρ c) = rd43 (W12 m ρ c) :=
    (W17_of m ρ c main_v43 (by decide)).trans ((W16_of m ρ c main_v43 (by decide)).trans ((W15_of m ρ c main_v43 (by decide)).trans
      ((W14_of m ρ c main_v43 (by decide)).trans (W13_of m ρ c main_v43 (by decide)))))
  have h2 := rd43_eq (W11 m ρ c)
  have h3 := rd41_eq (W10 m ρ c)
  have h4 := rdZero3_eq (W10 m ρ c)
  rw [h3, h4] at h2
  rw [h1, h2]
  exact box_zero _ _ (v40_zero m ρ c h) b n j

/-- and every class, -/
theorem v44_zero (c : Dev nD)
    (h : ∀ (b : Fin 8) (a : Fin 20000) (k : Fin 80), k.val < 2 → head m c (ix3 b a k) ≤ Ideal.ofBits .f32 0xC1A00000#32)
    (b : Fin 8) (n : Fin 1000) : rd44 (W17 m ρ c) (ix2 b n) = 0 := by
  have h1 : rd44 (W17 m ρ c) = rd44 (W14 m ρ c) :=
    (W17_of m ρ c main_v44 (by decide)).trans ((W16_of m ρ c main_v44 (by decide)).trans (W15_of m ρ c main_v44 (by decide)))
  have h2 := rd44_eq (W13 m ρ c)
  have h3 := rdZero4_eq (W12 m ρ c)
  have h4 : rd40 (W13 m ρ c) = rd40 (W11 m ρ c) := (W13_of m ρ c main_v40 (by decide)).trans (W12_of m ρ c main_v40 (by decide))
  rw [h3, h4] at h2
  rw [h1, h2]
  exact class_zero _ _ (v40_zero m ρ c h) b n

/-- and every count. -/
theorem v47_zero (c : Dev nD)
    (h : ∀ (b : Fin 8) (a : Fin 20000) (k : Fin 80), k.val < 2 → head m c (ix3 b a k) ≤ Ideal.ofBits .f32 0xC1A00000#32)
    (b : Fin 8) : rd47 (W17 m ρ c) (ix1 b) = 0#32 := by
  have h2 := rd47_eq (W16 m ρ c)
  have h4 : rd40 (W16 m ρ c) = rd40 (W11 m ρ c) :=
    (W16_of m ρ c main_v40 (by decide)).trans ((W15_of m ρ c main_v40 (by decide)).trans ((W14_of m ρ c main_v40 (by decide)).trans
      ((W13_of m ρ c main_v40 (by decide)).trans (W12_of m ρ c main_v40 (by decide)))))
  rw [h4] at h2
  rw [h2]
  exact count_zero _ (v40_zero m ρ c h) b

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

set_option backward.isDefEq.respectTransparency.types false in
/-- The run: the results are what the last contents say, and the arguments are unchanged. -/
theorem run : θ_run (defs (F := Ideal)) (onTc (τ := τ) (main (F := Ideal))) ⟨m, fun _ => 0, ρ⟩ (fun r => ∀ c : Dev nD,
      (r.2.mem ((c.tc : Thread nD τ).loc main_v43) = W17 m ρ c (Proc.devRef .tc main_v43)
      ∧ r.2.mem ((c.tc : Thread nD τ).loc main_v45) = W17 m ρ c (Proc.devRef .tc main_v45)
      ∧ r.2.mem ((c.tc : Thread nD τ).loc main_v44) = W17 m ρ c (Proc.devRef .tc main_v44)
      ∧ r.2.mem ((c.tc : Thread nD τ).loc main_v47) = W17 m ρ c (Proc.devRef .tc main_v47))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ c =>
      ⟨⟨h c _ (mem_uc main_v43 (by decide)), h c _ (mem_uc main_v45 (by decide)), h c _ (mem_uc main_v44 (by decide)),
        h c _ (mem_uc main_v47 (by decide))⟩,
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c)⟩)

end Cert.WholeIdeal.Low

end
-- ==== Proof.Largest.lean ====
module

public import Idealize.ShloMosaic.Lib.Pipeline.ValueKit
public import Idealize.ShloMosaic.Lib.SortFacts

/-!
# The first of a descending sort

What the reference's two selections of largest entries need: each entry of a descending sort along an axis is an
entry of the array in that line, carrying its place with it, and the first of a line is the largest of it.
-/

@[expose] public section

set_option maxRecDepth 16384

noncomputable section

namespace Cert.Largest

open Idealize.ShloMosaic

/-- Sorted in descending order along axis `d`, carrying a second array: every entry is one of its line's entries, and the
    line's first is at least every entry of the line. -/
theorem sort_fst (s : Shape) (d : ℕ) (hd : d < s.rank) (x : s.Idx → EReal) (y : IVec s 32) (j : s.Idx) :
    ∃ k : Fin (s.size ⟨d, hd⟩),
      (Host.sort2 s d (fun l r : EReal × BitVec 32 => FloatOps.cmpfTotal (F := Ideal) (φ := .f32) .gt l.1 r.1) x y).1 j = x (j.along ⟨d, hd⟩ k)
      ∧ ((j ⟨d, hd⟩).val = 0 → ∀ k' : Fin (s.size ⟨d, hd⟩), x (j.along ⟨d, hd⟩ k') ≤ x (j.along ⟨d, hd⟩ k)) := by
  have hgt : ∀ a b : EReal, (FloatOps.cmpfTotal (F := Ideal) (φ := .f32) .gt a b == 1#1) = decide (b < a) := by
    intro a b
    show (BitVec.ofBool (decide (b < a)) == 1#1) = decide (b < a)
    by_cases h : b < a <;> simp [h]
  let R : Fin (s.size ⟨d, hd⟩) → Fin (s.size ⟨d, hd⟩) → Bool :=
    fun k k' => decide (x (j.along ⟨d, hd⟩ k') < x (j.along ⟨d, hd⟩ k))
  refine ⟨sortedFrom R (j ⟨d, hd⟩), ?_, fun hj k' => ?_⟩
  · simp only [Host.sort2, hd, dif_pos, hgt]
    rfl
  · obtain ⟨i, rfl⟩ := sortedFrom_surjective R k'
    rcases Nat.lt_or_ge (j ⟨d, hd⟩).val i.val with hi | hi
    · have h := sortedFrom_noInversion R R
        (fun a b hab => decide_eq_false (not_lt.mpr (of_decide_eq_true hab).le))
        (fun _ _ h => h)
        (fun a b c hab hbc => decide_eq_false (not_lt.mpr
          ((not_lt.mp (of_decide_eq_false hab)).trans (not_lt.mp (of_decide_eq_false hbc)))))
        (j ⟨d, hd⟩) i hi
      exact not_lt.mp (of_decide_eq_false h)
    · have : i = j ⟨d, hd⟩ := Fin.ext (by omega)
      rw [this]

/-- Each entry of the sorted array stands with the second array's entry from the same place of its line. -/
theorem sort_both (s : Shape) (d : ℕ) (hd : d < s.rank) (x : s.Idx → EReal) (y : IVec s 32) (j : s.Idx) :
    ∃ k : Fin (s.size ⟨d, hd⟩),
      (Host.sort2 s d (fun l r : EReal × BitVec 32 => FloatOps.cmpfTotal (F := Ideal) (φ := .f32) .gt l.1 r.1) x y).1 j = x (j.along ⟨d, hd⟩ k)
      ∧ (Host.sort2 s d (fun l r : EReal × BitVec 32 => FloatOps.cmpfTotal (F := Ideal) (φ := .f32) .gt l.1 r.1) x y).2 j = y (j.along ⟨d, hd⟩ k) := by
  simp only [Host.sort2, hd, dif_pos]
  exact ⟨_, rfl, rfl⟩

end Cert.Largest

end
-- ==== Proof.WholeRef.lean ====
/-
  The whole reference, run under the precondition: its first score is positive in every image.
-/
module

public import proofs.«01_k».proof.Proof.Sigmoid
public import proofs.«01_k».proof.Proof.Largest
public import proofs.«01_k».proof.Proof.Greedy
public import proofs.«01_k».proof.Proof.Gen.WholeRefIdeal.Run

@[expose] public section

set_option maxRecDepth 16384

noncomputable section

namespace Cert.WholeRefIdeal.High

open Cert.WholeRefIdeal Cert.WholeRefIdeal.Gen Cert.WholeRefIdeal.Value Idealize.ShloMosaic Idealize.ShloMosaic.TcCoe Idealize.SL.Sem
open Idealize.ShloMosaic.StableHlo

/-! ## The arrays the scores pass through, read from the buffers' contents -/

abbrev rdHead (V : Valuation τ sig (Elt Ideal)) : Vec Ideal S8x20000x80 .f32 := V (Proc.devRef .tc main_arg0)
abbrev rdVals (V : Valuation τ sig (Elt Ideal)) : Vec Ideal S8x80x500 .f32 := V (Proc.devRef .tc main_values)
abbrev rdKeep (V : Valuation τ sig (Elt Ideal)) : IVec S8x80x500 1 := V (Proc.devRef .tc main_v108_4)
abbrev rdIota (V : Valuation τ sig (Elt Ideal)) : IVec S500 32 := V (Proc.devRef .tc main_v108_1)
abbrev rdTrip (V : Valuation τ sig (Elt Ideal)) : IVec S_ 32 := V (Proc.devRef .tc main_v108_3)
abbrev rdZero (V : Valuation τ sig (Elt Ideal)) : Vec Ideal S_ .f32 := V (Proc.devRef .tc main_cst_13)
abbrev rd109 (V : Valuation τ sig (Elt Ideal)) : Vec Ideal S8x80x500 .f32 := V (Proc.devRef .tc main_v109)
abbrev rd14 (V : Valuation τ sig (Elt Ideal)) : Vec Ideal S8x1000 .f32 := V (Proc.devRef .tc main_values_14)
abbrev rd117 (V : Valuation τ sig (Elt Ideal)) : IVec S8x1000 1 := V (Proc.devRef .tc main_v117)
abbrev rdZero2 (V : Valuation τ sig (Elt Ideal)) : Vec Ideal S_ .f32 := V (Proc.devRef .tc main_cst_23)
abbrev rd135 (V : Valuation τ sig (Elt Ideal)) : Vec Ideal S8x1000 .f32 := V (Proc.devRef .tc main_v135)

/-- The scores of every class, put through the logistic function. -/
def scores (x : Vec Ideal S8x20000x80 .f32) : Vec Ideal S8x80x20000 .f32 :=
  transpose S8x80x20000 [0, 2, 1] (Host.divf (F := Ideal) (φ := .f32)
      (broadcastInDim S8x20000x80 ![] bcast_S_S8x20000x80 (constant (F := Ideal) S_ .f32 0x3F800000#32))
      (addf (broadcastInDim S8x20000x80 ![] bcast_S_S8x20000x80 (constant (F := Ideal) S_ .f32 0x3F800000#32)) (Host.exp (Host.negf x))))
    transposes_S8x20000x80_S8x80x20000_0_2_1

theorem scores_apply (x : Vec Ideal S8x20000x80 .f32) (b : Fin 8) (k : Fin 80) (a : Fin 20000) :
    scores x (ix3 b k a) = Ideal.logistic (x (ix3 b a k)) := by
  unfold scores Ideal.logistic
  pointwise

/-- The 500 largest scores of every class, -/
def best (s : Vec Ideal S8x80x20000 .f32) : Vec Ideal S8x80x500 .f32 :=
  (Host.topK S8x80x500 2 (FloatOps.cmpfTotal (F := Ideal) (φ := .f32) .gt) s sliceFits_S8x80x20000_S8x80x500).1

/-- each of which is a score of that class. -/
theorem best_apply (s : Vec Ideal S8x80x20000 .f32) (b : Fin 8) (k : Fin 80) (r : Fin 500) :
    ∃ a : Fin 20000, best s (ix3 b k r) = s (ix3 b k a) := by
  obtain ⟨a, h, -⟩ := Cert.Largest.sort_fst S8x80x20000 2 (by decide) s
    (fun i => if hd : 2 < S8x80x20000.rank then iotaInDim S8x80x20000 32 ⟨2, hd⟩ i else 0#32) (ix3 b k ⟨r.val, by omega⟩)
  refine ⟨a, (Eq.trans ?_ h).trans (congrArg s ?_)⟩
  · unfold best Host.topK
    pointwise
  · funext d
    fin_cases d <;> rfl

/-- The 1000 largest of the kept scores over all classes, -/
def first (s : Vec Ideal S8x40000 .f32) : Vec Ideal S8x1000 .f32 :=
  (Host.topK S8x1000 1 (FloatOps.cmpfTotal (F := Ideal) (φ := .f32) .gt) s sliceFits_S8x40000_S8x1000).1

/-- the first of which is at least every one. -/
theorem first_ge (s : Vec Ideal S8x40000 .f32) (b : Fin 8) (n : Fin 40000) : s (ix2 b n) ≤ first s (ix2 b 0) := by
  obtain ⟨a, h, h'⟩ := Cert.Largest.sort_fst S8x40000 1 (by decide) s
    (fun i => if hd : 1 < S8x40000.rank then iotaInDim S8x40000 32 ⟨1, hd⟩ i else 0#32) (ix2 b 0)
  have e : first s (ix2 b 0) = s ((ix2 b 0 : S8x40000.Idx).along ⟨1, by decide⟩ a) := Eq.trans (by
    unfold first Host.topK
    pointwise) h
  rw [e]
  refine Eq.trans_le (congrArg s ?_) (h' rfl n)
  funext d
  fin_cases d <;> rfl

/-! ## What the stretches of operations write -/

theorem vals_eq (V : Valuation τ sig (Elt Ideal)) : rdVals (after hostOps0 V) = best (scores (rdHead V)) := by
  unfold rdVals best scores
  after_results
  all_goals rfl

theorem keep_eq (V : Valuation τ sig (Elt Ideal)) : rdKeep (after hostOps0_8 V)
    = cmpf .ogt (rdVals V) (broadcastInDim S8x80x500 ![] bcast_S_S8x80x500 (constant (F := Ideal) S_ .f32 0x3D4CCCCD#32)) := by
  unfold rdKeep
  after_results
  all_goals rfl

theorem iota_eq (V : Valuation τ sig (Elt Ideal)) : rdIota (after hostOps0_8 V) = iotaInDim S500 32 0 := by
  unfold rdIota
  after_results
  all_goals rfl

theorem trip_eq (V : Valuation τ sig (Elt Ideal)) : rdTrip (after hostOps0_8 V) = constantI S_ 32 0#32 := by
  unfold rdTrip
  after_results
  all_goals rfl

theorem rd109_eq (V : Valuation τ sig (Elt Ideal)) : rd109 (after hostOps0_10 V)
    = select (rdKeep V) (rdVals V) (broadcastInDim S8x80x500 ![] bcast_S_S8x80x500 (rdZero V)) := by
  unfold rd109
  after_results
  all_goals rfl

theorem rd14_eq (V : Valuation τ sig (Elt Ideal)) : rd14 (after hostOps0_11 V)
    = first (shapeCast S8x40000 (rd109 V) shapeCasts_S8x80x500_S8x40000) := by
  unfold rd14 first
  after_results
  all_goals rfl

theorem rd117_eq (V : Valuation τ sig (Elt Ideal)) : rd117 (after hostOps0_11 V)
    = cmpf .ogt (rd14 (after hostOps0_11 V)) (broadcastInDim S8x1000 ![] bcast_S_S8x1000 (constant (F := Ideal) S_ .f32 0x3D4CCCCD#32)) := by
  unfold rd117 rd14
  after_results
  all_goals rfl

theorem rd135_eq (V : Valuation τ sig (Elt Ideal)) : rd135 (after hostOps0_16 V)
    = select (rd117 V) (rd14 V) (broadcastInDim S8x1000 ![] bcast_S_S8x1000 (rdZero2 V)) := by
  unfold rd135
  after_results
  all_goals rfl

/-! ## What they leave alone -/

/-- A buffer none of a trip's operations writes is the same after the trip. -/
theorem body_keep (V : Valuation τ sig (Elt Ideal)) (r : Ref sig .tc) (hc : r ∉ condOps_W) (h0 : r ∉ while0Ops0_W)
    (h1 : r ∉ while0Ops0_1_W) (h2 : r ∉ while0Ops0_2_W) (h3 : r ∉ while0Ops0_3_W) :
    afterL bodyI (after condOps V) (Proc.devRef .tc r) = V (Proc.devRef .tc r) := by
  simp only [bodyI, afterL_cons, afterL_nil]
  rw [after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- Nor after the stretches between the first and the last before the loop. -/
theorem mid_keep (V : Valuation τ sig (Elt Ideal)) (r : Ref sig .tc) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W) :
    after hostOps0_7 (after hostOps0_6 (after hostOps0_5 (after hostOps0_4 (after hostOps0_3 (after hostOps0_2
      (after hostOps0_1 V)))))) (Proc.devRef .tc r) = V (Proc.devRef .tc r) := by
  rw [after_of_writes_sub hostOps0_7 _ hostOps0_7_writes h7, after_of_writes_sub hostOps0_6 _ hostOps0_6_writes h6,
    after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1]

/-- The stretches after the loop leave the arguments alone, -/
theorem post_arg0 (V : Valuation τ sig (Elt Ideal)) : afterL postI V (Proc.devRef .tc main_arg0) = V (Proc.devRef .tc main_arg0) := by
  simp only [postI, afterL_cons, afterL_nil]
  after_results

theorem post_arg1 (V : Valuation τ sig (Elt Ideal)) : afterL postI V (Proc.devRef .tc main_arg1) = V (Proc.devRef .tc main_arg1) := by
  simp only [postI, afterL_cons, afterL_nil]
  after_results

theorem post_arg2 (V : Valuation τ sig (Elt Ideal)) : afterL postI V (Proc.devRef .tc main_arg2) = V (Proc.devRef .tc main_arg2) := by
  simp only [postI, afterL_cons, afterL_nil]
  after_results

/-- and those between the selection and the scores' threshold leave the selection and its marks alone. -/
theorem late_14 (V : Valuation τ sig (Elt Ideal)) :
    rd14 (after hostOps0_15 (after hostOps0_14 (after hostOps0_13 (after hostOps0_12 V)))) = rd14 V := by
  unfold rd14
  after_results

theorem late_117 (V : Valuation τ sig (Elt Ideal)) :
    rd117 (after hostOps0_15 (after hostOps0_14 (after hostOps0_13 (after hostOps0_12 V)))) = rd117 V := by
  unfold rd117
  after_results

theorem last_135 (V : Valuation τ sig (Elt Ideal)) : rd135 (after hostOps0_17 V) = rd135 V := by
  unfold rd135
  after_results

theorem nine_keep (V : Valuation τ sig (Elt Ideal)) : rdKeep (after hostOps0_9 V) = rdKeep V := by
  unfold rdKeep
  after_results

theorem nine_vals (V : Valuation τ sig (Elt Ideal)) : rdVals (after hostOps0_9 V) = rdVals V := by
  unfold rdVals
  after_results

/-! ## The loop: the first candidate of a class is never suppressed -/

/-- A trip leaves the first candidate's mark as it was: only a later candidate can be suppressed. -/
theorem mark_step (keep A B : IVec S8x80x500 1) (io : IVec S500 32) (i : IVec S_ 32) (n : ℕ) (hn : n < 500)
    (hio : io = iotaInDim S500 32 0) (hi : i = fun _ => BitVec.ofNat 32 n) (b : Fin 8) (k : Fin 80) :
    andi keep (noti (andi (andi A B) (broadcastInDim S8x80x500 ![0, 1, 2] bcast_S1x1x500_S8x80x500_0_1_2
      (broadcastInDim S1x1x500 ![2] bcast_S500_S1x1x500_2 (cmpi .sgt io
        (broadcastInDim S500 ![] bcast_S_S500 (id i))))))) (ix3 b k 0) = keep (ix3 b k 0) := by
  subst hio hi
  pointwise [id_eq]
  have h0 : IntOp.cmpi .sgt (BitVec.ofNat 32 0) (BitVec.ofNat 32 n) = 0#1 := by
    rw [Cert.Greedy.cmpi_sgt_ofNat (by omega) (by omega)]
    rfl
  rw [h0]
  exact (by decide : ∀ u v w : BitVec 1, IntOp.andi u (~~~IntOp.andi (IntOp.andi v w) 0#1) = u) _ _ _

/-- One trip: the positions stay, the counter goes up, and the first candidate's mark stays. -/
theorem trip_apply (V : Valuation τ sig (Elt Ideal)) (n : ℕ) (hn : n < 500) (hi : rdIota V = iotaInDim S500 32 0)
    (ht : rdTrip V = fun _ => BitVec.ofNat 32 n) :
    rdIota (afterL bodyI (after condOps V)) = iotaInDim S500 32 0
    ∧ rdTrip (afterL bodyI (after condOps V)) = (fun _ => BitVec.ofNat 32 (n + 1))
    ∧ ∀ (b : Fin 8) (k : Fin 80), rdKeep (afterL bodyI (after condOps V)) (ix3 b k 0) = rdKeep V (ix3 b k 0) := by
  have ag := cond_keeps (F := Ideal) V
  have hi' : rdIota (after condOps V) = iotaInDim S500 32 0 := (ag main_v108_1 (by decide)).trans hi
  have ht' : rdTrip (after condOps V) = fun _ => BitVec.ofNat 32 n := (ag main_v108_3 (by decide)).trans ht
  have hk' : rdKeep (after condOps V) = rdKeep V := ag main_v108_4 (by decide)
  refine ⟨(trip_main_v108_1 (after condOps V)).trans hi', (trip_main_v108_3 (after condOps V)).trans ?_, fun b k => ?_⟩
  · show addi (rdTrip (after condOps V)) (constantI S_ 32 1#32) = _
    rw [ht']
    funext i
    show BitVec.ofNat 32 n + 1#32 = BitVec.ofNat 32 (n + 1)
    rw [← BitVec.ofNat_add]
  · have h := congrFun (trip_main_v108_4 (after condOps V)) (ix3 b k 0)
    refine h.trans ?_
    rw [← hk']
    exact mark_step (rdKeep (after condOps V)) _ _ _ _ n hn hi' ht' b k

variable (m : (ℓ : Loc nD τ sig) → Buf (Elt Ideal) ℓ) (ρ : Dev nD → PrngReg)

/-- The head's scores, before the logistic function. -/
abbrev head (c : Dev nD) : Vec Ideal S8x20000x80 .f32 := m ((c.tc : Thread nD τ).loc main_arg0)

/-- The contents before the last stretch before the loop. -/
abbrev before8 (c : Dev nD) : Valuation τ sig (Elt Ideal) :=
  after hostOps0_7 (after hostOps0_6 (after hostOps0_5 (after hostOps0_4 (after hostOps0_3 (after hostOps0_2
      (after hostOps0_1 (after hostOps0 (launchContents m c))))))))

theorem entry_eq (c : Dev nD) : entryContents preI m c = after hostOps0_8 (before8 m c) := rfl

/-- The selected scores: the largest of the head's, put through the logistic function. -/
theorem vals_before8 (c : Dev nD) : rdVals (before8 m c) = best (scores (head m c)) :=
  (mid_keep (after hostOps0 (launchContents m c)) main_values (by decide +kernel) (by decide +kernel) (by decide +kernel)
    (by decide +kernel) (by decide +kernel) (by decide +kernel) (by decide +kernel)).trans (vals_eq (launchContents m c))

/-- The selected scores do not change in the loop. -/
theorem vals_atK (c : Dev nD) : ∀ n, rdVals (atK m n c) = best (scores (head m c))
  | 0 => (after_of_writes_sub hostOps0_8 (before8 m c) hostOps0_8_writes (r := main_values) (by decide +kernel)).trans (vals_before8 m c)
  | n + 1 => (body_keep (atK m n c) main_values (by decide +kernel) (by decide +kernel) (by decide +kernel) (by decide +kernel)
      (by decide +kernel)).trans (vals_atK c n)

/-- Before trip `n` the positions and the counter are what they are named, and every class's first mark is as at the start. -/
theorem atK_apply (c : Dev nD) : ∀ n : ℕ, n ≤ 500 →
    rdIota (atK m n c) = iotaInDim S500 32 0 ∧ rdTrip (atK m n c) = (fun _ => BitVec.ofNat 32 n)
    ∧ ∀ (b : Fin 8) (k : Fin 80), rdKeep (atK m n c) (ix3 b k 0) = rdKeep (atK m 0 c) (ix3 b k 0)
  | 0, _ => ⟨iota_eq (before8 m c), trip_eq (before8 m c), fun _ _ => rfl⟩
  | n + 1, h => by
    have ih := atK_apply c n (Nat.le_of_succ_le h)
    have st := trip_apply (atK m n c) n h ih.1 ih.2.1
    exact ⟨st.1, st.2.1, fun b k => (st.2.2 b k).trans (ih.2.2 b k)⟩

/-- Where a class's scores are all at least zero, its first candidate is kept, above the threshold. -/
theorem kept (c : Dev nD) (b : Fin 8) (k : Fin 80) (h : ∀ a : Fin 20000, 0 ≤ head m c (ix3 b a k)) :
    rdKeep (atK m 500 c) (ix3 b k 0) = 1#1 ∧ Cert.Sigmoid.thr < rdVals (atK m 500 c) (ix3 b k 0) := by
  have hv : ∀ n, Cert.Sigmoid.thr < rdVals (atK m n c) (ix3 b k 0) := by
    intro n
    rw [vals_atK m c n]
    obtain ⟨a, ha⟩ := best_apply (scores (head m c)) b k 0
    rw [ha, scores_apply]
    exact Cert.Sigmoid.thr_lt_logistic (h a)
  refine ⟨((atK_apply m c 500 le_rfl).2.2 b k).trans ?_, hv 500⟩
  have hk : rdKeep (atK m 0 c) = _ := keep_eq (before8 m c)
  have h0 : rdVals (before8 m c) = rdVals (atK m 0 c) := (vals_before8 m c).trans (vals_atK m c 0).symm
  rw [hk, h0]
  have := hv 0
  generalize rdVals (atK m 0 c) = v at this
  pointwise
  exact congrArg BitVec.ofBool (decide_eq_true this)

/-- Where a class's first candidate is kept, above the threshold, so is the first of the scores selected over all classes, -/
theorem select_pos (V : Valuation τ sig (Elt Ideal)) (b : Fin 8) (k : Fin 80) (hk : rdKeep V (ix3 b k 0) = 1#1)
    (hv : Cert.Sigmoid.thr < rdVals V (ix3 b k 0)) :
    Cert.Sigmoid.thr < rd14 (after hostOps0_11 (after hostOps0_10 V)) (ix2 b 0) := by
  have h109 : rd109 (after hostOps0_10 V) (ix3 b k 0) = rdVals V (ix3 b k 0) := by
    rw [rd109_eq]
    show (if rdKeep V (ix3 b k 0) = 1#1 then _ else _) = _
    rw [if_pos hk]
  rw [rd14_eq]
  refine lt_of_lt_of_le ?_ (first_ge _ b ⟨k.val * 500 + (0 : Fin 500).val, by have := k.isLt; show k.val * 500 + 0 < 40000; omega⟩)
  rw [← h109] at hv
  generalize rd109 (after hostOps0_10 V) = v at hv ⊢
  have hs : shapeCast S8x40000 v shapeCasts_S8x80x500_S8x40000
      (ix2 b ⟨k.val * 500 + (0 : Fin 500).val, by have := k.isLt; show k.val * 500 + 0 < 40000; omega⟩) = v (ix3 b k 0) := by
    pointwise
    refine congrArg v ?_
    have h1 : (k.val * 500 + (0 : Fin 500).val) % 500 = 0 := by show (k.val * 500 + 0) % 500 = 0; omega
    have h2 : (k.val * 500 + (0 : Fin 500).val) / 500 = k.val := by show (k.val * 500 + 0) / 500 = k.val; omega
    first | exact congrArg (ix3 b k) (Fin.ext h1) | (simp only [h1, h2]; rfl)
  rw [hs]
  exact hv

/-- and it is returned as it is. -/
theorem late_pos (U : Valuation τ sig (Elt Ideal)) (b : Fin 8) (h117 : rd117 U (ix2 b 0) = 1#1) (h14 : Cert.Sigmoid.thr < rd14 U (ix2 b 0)) :
    0 < rd135 (after hostOps0_17 (after hostOps0_16 (after hostOps0_15 (after hostOps0_14 (after hostOps0_13 (after hostOps0_12 U)))))) (ix2 b 0) := by
  rw [last_135, rd135_eq, late_14, late_117]
  show 0 < (if rd117 U (ix2 b 0) = 1#1 then rd14 U (ix2 b 0) else _)
  rw [if_pos h117]
  exact Cert.Sigmoid.pos_of_thr_lt h14

/-- So where a class's first candidate is kept after the loop, above the threshold, the first score returned is positive. -/
theorem post_pos (X : Valuation τ sig (Elt Ideal)) (b : Fin 8) (k : Fin 80) (hk : rdKeep X (ix3 b k 0) = 1#1)
    (hv : Cert.Sigmoid.thr < rdVals X (ix3 b k 0)) : 0 < rd135 (afterL postI X) (ix2 b 0) := by
  rw [← nine_keep] at hk
  rw [← nine_vals] at hv
  have h14 := select_pos (after hostOps0_9 X) b k hk hv
  refine late_pos _ b ?_ h14
  rw [rd117_eq]
  generalize rd14 (after hostOps0_11 (after hostOps0_10 (after hostOps0_9 X))) = v at h14
  pointwise
  exact congrArg BitVec.ofBool (decide_eq_true h14)

/-- The contents at the end. -/
abbrev final (c : Dev nD) : Valuation τ sig (Elt Ideal) := finalContents condOps preI bodyI postI 500 m c

/-- Where a class's scores are all at least zero, the first score returned is positive. -/
theorem v135_pos (c : Dev nD) (b : Fin 8) (k : Fin 80) (h : ∀ a : Fin 20000, 0 ≤ head m c (ix3 b a k)) :
    0 < rd135 (final m c) (ix2 b 0) := by
  obtain ⟨hk, hv⟩ := kept m c b k h
  refine post_pos _ b k ?_ ?_
  · rw [show rdKeep (after condOps (atK m 500 c)) = rdKeep (atK m 500 c) from cond_keeps (F := Ideal) (atK m 500 c) main_v108_4 (by decide)]
    exact hk
  · rw [show rdVals (after condOps (atK m 500 c)) = rdVals (atK m 500 c) from
      after_of_writes_sub condOps (atK m 500 c) condOps_writes (r := main_values) (by decide +kernel)]
    exact hv

/-- An argument is as launched at the end of the loop. -/
theorem arg_atK (c : Dev nD) (r : Ref sig .tc) (hr : r ∈ [main_arg0, main_arg1, main_arg2]) : ∀ n,
    atK m n c (Proc.devRef .tc r) = m ((c.tc : Thread nD τ).loc r)
  | 0 => (after_of_writes_sub hostOps0_8 (before8 m c) hostOps0_8_writes (by revert r; decide +kernel)).trans
      ((mid_keep (after hostOps0 (launchContents m c)) r (by revert r; decide +kernel) (by revert r; decide +kernel) (by revert r; decide +kernel)
        (by revert r; decide +kernel) (by revert r; decide +kernel) (by revert r; decide +kernel) (by revert r; decide +kernel)).trans
      (after_of_writes_sub hostOps0 (launchContents m c) hostOps0_writes (by revert r; decide +kernel)))
  | n + 1 => (body_keep (atK m n c) r (by clear arg_atK; revert r; decide +kernel) (by clear arg_atK; revert r; decide +kernel) (by clear arg_atK; revert r; decide +kernel)
      (by clear arg_atK; revert r; decide +kernel) (by clear arg_atK; revert r; decide +kernel)).trans (arg_atK c r hr n)

theorem arg_cond (c : Dev nD) (r : Ref sig .tc) (hr : r ∈ [main_arg0, main_arg1, main_arg2]) :
    after condOps (atK m 500 c) (Proc.devRef .tc r) = m ((c.tc : Thread nD τ).loc r) :=
  (after_of_writes_sub condOps _ condOps_writes (by revert r; decide +kernel)).trans (arg_atK m c r hr 500)

end Cert.WholeRefIdeal.High

end
-- ==== Proof.WholeRest.lean ====
/-
  The whole reference's other results: the first class, the count and the first box, under the preconditions.
-/
module

public import proofs.«01_k».proof.Proof.Boxes
public import proofs.«01_k».proof.Proof.WholeRef

@[expose] public section

set_option maxRecDepth 16384

noncomputable section

namespace Cert.WholeRefIdeal.High

open Cert.WholeRefIdeal Cert.WholeRefIdeal.Gen Cert.WholeRefIdeal.Value Idealize.ShloMosaic Idealize.ShloMosaic.TcCoe Idealize.SL.Sem
open Idealize.ShloMosaic.StableHlo

abbrev rd126 (V : Valuation τ sig (Elt Ideal)) : Vec Ideal S8x1000x4 .f32 := V (Proc.devRef .tc main_v126)
abbrev rd134 (V : Valuation τ sig (Elt Ideal)) : Vec Ideal S8x1000 .f32 := V (Proc.devRef .tc main_v134)
abbrev rd137 (V : Valuation τ sig (Elt Ideal)) : IVec S8 32 := V (Proc.devRef .tc main_v137)
abbrev rdAt (V : Valuation τ sig (Elt Ideal)) : IVec S8x1000 32 := V (Proc.devRef .tc main_indices_15)
abbrev rd115 (V : Valuation τ sig (Elt Ideal)) : Vec Ideal S40000 .f32 := V (Proc.devRef .tc main_v115)
abbrev rd133 (V : Valuation τ sig (Elt Ideal)) : Vec Ideal S8x1000 .f32 := V (Proc.devRef .tc main_v133)
abbrev rd22 (V : Valuation τ sig (Elt Ideal)) : Vec Ideal S_ .f32 := V (Proc.devRef .tc main_cst_22)
abbrev rd19 (V : Valuation τ sig (Elt Ideal)) : Vec Ideal S_ .f32 := V (Proc.devRef .tc main_cst_19)
abbrev rd118 (V : Valuation τ sig (Elt Ideal)) : IVec S8x1000x1 1 := V (Proc.devRef .tc main_v118)
abbrev rd124 (V : Valuation τ sig (Elt Ideal)) : IVec S8x1000x1 32 := V (Proc.devRef .tc main_v124)
abbrev rd125 (V : Valuation τ sig (Elt Ideal)) : Vec Ideal S8x1000x4 .f32 := V (Proc.devRef .tc main_v125)
abbrev rd33 (V : Valuation τ sig (Elt Ideal)) : Vec Ideal S8x20000x4 .f32 := V (Proc.devRef .tc main_v33)
abbrev rd40 (V : Valuation τ sig (Elt Ideal)) : IVec S8x80x500x1 32 := V (Proc.devRef .tc main_v40)
abbrev rd41 (V : Valuation τ sig (Elt Ideal)) : Vec Ideal S8x80x500x4 .f32 := V (Proc.devRef .tc main_v41)
abbrev rdReg (V : Valuation τ sig (Elt Ideal)) : Vec Ideal S8x20000x4 .f32 := V (Proc.devRef .tc main_arg1)
abbrev rdAnc (V : Valuation τ sig (Elt Ideal)) : Vec Ideal S20000x4 .f32 := V (Proc.devRef .tc main_arg2)

/-! ## The count -/

/-- Adding up words that are each zero or one adds up the numbers they are. -/
theorem foldl_words {β : Type*} (f : β → BitVec 1) (l : List β) (a : ℕ) :
    l.foldl (fun r i => IntOp.addi r (BitVec.setWidth 32 (f i))) (BitVec.ofNat 32 a)
      = BitVec.ofNat 32 (a + (l.map fun i => (f i).toNat).sum) := by
  induction l generalizing a with
  | nil => rfl
  | cons b l ih =>
    rw [List.foldl_cons, List.map_cons, List.sum_cons, ← Nat.add_assoc, ← ih]
    refine congrArg (fun w => l.foldl (fun r i => IntOp.addi r (BitVec.setWidth 32 (f i))) w) ?_
    show BitVec.ofNat 32 a + BitVec.setWidth 32 (f b) = BitVec.ofNat 32 (a + (f b).toNat)
    rw [BitVec.ofNat_add, BitVec.ofNat_toNat]

/-- So where one of them is one, and there are not too many, the sum is a positive word. -/
theorem foldl_pos {β : Type*} (f : β → BitVec 1) (l : List β) (i : β) (hi : i ∈ l) (hf : f i = 1#1) (hl : l.length ≤ 8000) :
    IntOp.cmpi .sgt (l.foldl (fun r i => IntOp.addi r (BitVec.setWidth 32 (f i))) 0#32) 0#32 = 1#1 := by
  have hs := foldl_words f l 0
  rw [Nat.zero_add] at hs
  have hle : (l.map fun i => (f i).toNat).sum ≤ l.length := by
    have := List.sum_le_card_nsmul (l.map fun i => (f i).toNat) 1 (by
      intro n hn
      obtain ⟨j, -, rfl⟩ := List.mem_map.mp hn
      have := (f j).isLt
      omega)
    simpa using this
  have hge : 1 ≤ (l.map fun i => (f i).toNat).sum := by
    have := List.le_sum_of_mem (List.mem_map.mpr ⟨i, hi, rfl⟩ : (f i).toNat ∈ l.map fun i => (f i).toNat)
    rw [hf] at this
    exact this
  refine (congrArg (fun w => IntOp.cmpi .sgt w 0#32) hs).trans ?_
  refine (Cert.Greedy.cmpi_sgt_ofNat (b := 0) (by omega) (by omega)).trans ?_
  rw [decide_eq_true (by omega)]
  rfl

/-- The number of marks in a row is positive where the row's first is set. -/
theorem count_pos (v : IVec S8x1000 1) (b : Fin 8) (h : v (ix2 b 0) = 1#1) :
    IntOp.cmpi .sgt (Host.reduce IntOp.addi (extui 32 v natLt_1_32) (constantI S_ 32 0#32) reducesTo_S8x1000_S8_d1 h_S_ (ix1 b)) 0#32 = 1#1 := by
  rw [Host.reduce_eq_foldl]
  refine foldl_pos v _ (ix2 b 0) (List.mem_filter.mpr ⟨List.mem_map.mpr ⟨S8x1000.rowMajor (ix2 b 0), List.mem_finRange _, by simp⟩, ?_⟩) h ?_
  · refine decide_eq_true ?_
    funext d
    fin_cases d
    rfl
  · refine (List.length_filter_le _ _).trans ?_
    rw [List.length_map, List.length_finRange]
    decide

theorem rd137_eq (V : Valuation τ sig (Elt Ideal)) : rd137 (after hostOps0_17 V)
    = Host.reduce IntOp.addi (extui 32 (rd117 V) natLt_1_32) (constantI S_ 32 0#32) reducesTo_S8x1000_S8_d1 h_S_ := by
  unfold rd137
  after_results
  all_goals rfl

theorem last_117 (V : Valuation τ sig (Elt Ideal)) : rd117 (after hostOps0_16 V) = rd117 V := by
  unfold rd117
  after_results

theorem late_count (U : Valuation τ sig (Elt Ideal)) (b : Fin 8) (h117 : rd117 U (ix2 b 0) = 1#1) :
    IntOp.cmpi .sgt (rd137 (after hostOps0_17 (after hostOps0_16 (after hostOps0_15 (after hostOps0_14 (after hostOps0_13 (after hostOps0_12 U))))))
      (ix1 b)) 0#32 = 1#1 := by
  rw [rd137_eq, last_117, late_117]
  exact count_pos _ b h117

/-! ## The class -/

/-- Where the 1000 largest scores stand, -/
def firstAt (s : Vec Ideal S8x40000 .f32) : IVec S8x1000 32 :=
  (Host.topK S8x1000 1 (FloatOps.cmpfTotal (F := Ideal) (φ := .f32) .gt) s sliceFits_S8x40000_S8x1000).2

/-- the first of them at a place with that score. -/
theorem first_at (s : Vec Ideal S8x40000 .f32) (b : Fin 8) :
    ∃ n : Fin 40000, first s (ix2 b 0) = s (ix2 b n) ∧ firstAt s (ix2 b 0) = BitVec.ofNat 32 n.val := by
  obtain ⟨a, h, h'⟩ := Cert.Largest.sort_both S8x40000 1 (by decide) s
    (fun i => if hd : 1 < S8x40000.rank then iotaInDim S8x40000 32 ⟨1, hd⟩ i else 0#32) (ix2 b 0)
  have e : (ix2 b 0 : S8x40000.Idx).along ⟨1, by decide⟩ a = ix2 b a := by
    funext d
    fin_cases d <;> rfl
  rw [e] at h h'
  refine ⟨a, Eq.trans ?_ h, Eq.trans ?_ (h'.trans ?_)⟩
  · unfold first Host.topK
    pointwise
  · unfold firstAt Host.topK
    pointwise
  · rfl

/-- The class every one of the 40000 places belongs to, as a number: 500 places to a class. -/
def classOf : Vec Ideal S40000 .f32 :=
  shapeCast S40000 (broadcastInDim S80x500 ![0, 1] bcast_S80x1_S80x500_0_1 (broadcastInDim S80x1 ![0] bcast_S80_S80x1_0
    (sitofp (F := Ideal) .f32 (iotaInDim S80 32 0)))) shapeCasts_S80x500_S40000

theorem classOf_apply (n : Fin 40000) : classOf (ix1 n) = (((BitVec.ofNat 32 (n.val / 500)).toInt : ℝ) : EReal) := by
  unfold classOf
  pointwise
  rfl

/-- From the thousandth place on the class is at least two. -/
theorem two_le_classOf (n : Fin 40000) (h : 1000 ≤ n.val) : Ideal.ofBits .f32 0x40000000#32 ≤ classOf (ix1 n) := by
  have h2 : Ideal.ofBits .f32 0x40000000#32 = ((2 : ℝ) : EReal) := by
    simp [Ideal.ofBits, Ideal.ieee]
    try (rw [← EReal.coe_mul]; norm_num)
  rw [classOf_apply, h2, Cert.Greedy.toInt_ofNat (by have := n.isLt; omega), EReal.coe_le_coe_iff]
  exact_mod_cast (by omega : 2 ≤ n.val / 500)

theorem rdAt_eq (V : Valuation τ sig (Elt Ideal)) : rdAt (after hostOps0_11 V)
    = firstAt (shapeCast S8x40000 (rd109 V) shapeCasts_S8x80x500_S8x40000) := by
  unfold rdAt firstAt
  after_results
  all_goals rfl

theorem rd115_eq (V : Valuation τ sig (Elt Ideal)) : rd115 (after hostOps0_11 V) = classOf := by
  unfold rd115 classOf
  after_results
  all_goals rfl

/-- The class read at the places selected. -/
def classAt (x : Vec Ideal S40000 .f32) (p : IVec S8x1000 32) : Vec Ideal S8x1000 .f32 :=
  Host.gather gather_S40000_S8x1000x1_S8x1000_n_0_n_n_0_2_1 x (broadcastInDim S8x1000x1 ![0, 1] bcast_S8x1000_S8x1000x1_0_1
    (select (cmpi .slt p (broadcastInDim S8x1000 ![] bcast_S_S8x1000 (constantI S_ 32 0#32)))
      (addi p (broadcastInDim S8x1000 ![] bcast_S_S8x1000 (constantI S_ 32 40000#32))) p))

theorem classAt_apply (x : Vec Ideal S40000 .f32) (p : IVec S8x1000 32) (b : Fin 8) (n : Fin 40000)
    (h : p (ix2 b 0) = BitVec.ofNat 32 n.val) : classAt x p (ix2 b 0) = x (ix1 n) := by
  unfold classAt
  refine (Idealize.ShloMosaic.ValueIdx.gather_take_apply (by decide) _ x _ (ix2 b 0)).trans ?_
  refine congrArg x (congrArg ix1 (Fin.ext ?_))
  have e : (broadcastInDim S8x1000x1 ![0, 1] bcast_S8x1000_S8x1000x1_0_1
      (select (cmpi .slt p (broadcastInDim S8x1000 ![] bcast_S_S8x1000 (constantI S_ 32 0#32)))
      (addi p (broadcastInDim S8x1000 ![] bcast_S_S8x1000 (constantI S_ 32 40000#32))) p))
      (Idealize.ShloMosaic.ValueIdx.takeIdx (ix2 b (0 : Fin 1000))) = BitVec.ofNat 32 n.val := by
    have ei : (Idealize.ShloMosaic.ValueIdx.takeIdx (ix2 b (0 : Fin 1000)) : S8x1000x1.Idx) = ix3 b 0 0 := by
      funext d
      fin_cases d <;> rfl
    rw [ei]
    have es : ∀ w : BitVec 32, p (ix2 b 0) = w → (broadcastInDim S8x1000x1 ![0, 1] bcast_S8x1000_S8x1000x1_0_1
        (select (cmpi .slt p (broadcastInDim S8x1000 ![] bcast_S_S8x1000 (constantI S_ 32 0#32)))
        (addi p (broadcastInDim S8x1000 ![] bcast_S_S8x1000 (constantI S_ 32 40000#32))) p)) (ix3 b 0 0)
        = Scalar.select (IntOp.cmpi .slt w (BitVec.ofNat 32 0)) (IntOp.addi w 40000#32) w := by
      intro w hw
      rw [← hw]
      pointwise
    rw [es _ h, Cert.Greedy.cmpi_slt_ofNat (by have := n.isLt; omega) (by omega), Cert.Greedy.select_ofBool, if_neg (by omega)]
  show min (BitVec.toInt _).toNat (40000 - 1) = n.val
  rw [e, Cert.Greedy.toInt_ofNat (by have := n.isLt; omega)]
  have := n.isLt
  omega

theorem rd133_eq (V : Valuation τ sig (Elt Ideal)) : rd133 (after hostOps0_13 V) = classAt (rd115 V) (rdAt V) := by
  unfold rd133 classAt
  after_results
  all_goals rfl

theorem rd134_eq (V : Valuation τ sig (Elt Ideal)) : rd134 (after hostOps0_14 V)
    = select (rd117 V) (rd133 V) (broadcastInDim S8x1000 ![] bcast_S_S8x1000 (rd22 V)) := by
  unfold rd134
  after_results
  all_goals rfl

theorem late_134 (V : Valuation τ sig (Elt Ideal)) :
    rd134 (after hostOps0_17 (after hostOps0_16 (after hostOps0_15 V))) = rd134 V := by
  unfold rd134
  after_results

theorem mid_117 (V : Valuation τ sig (Elt Ideal)) : rd117 (after hostOps0_13 (after hostOps0_12 V)) = rd117 V := by
  unfold rd117
  after_results

theorem twelve_115 (V : Valuation τ sig (Elt Ideal)) : rd115 (after hostOps0_12 V) = rd115 V := by
  unfold rd115
  after_results

theorem twelve_at (V : Valuation τ sig (Elt Ideal)) : rdAt (after hostOps0_12 V) = rdAt V := by
  unfold rdAt
  after_results

/-- The class returned first is the selected place's. -/
theorem late_class (U : Valuation τ sig (Elt Ideal)) (b : Fin 8) (n : Fin 40000) (h117 : rd117 U (ix2 b 0) = 1#1)
    (hp : rdAt U (ix2 b 0) = BitVec.ofNat 32 n.val) :
    rd134 (after hostOps0_17 (after hostOps0_16 (after hostOps0_15 (after hostOps0_14 (after hostOps0_13 (after hostOps0_12 U)))))) (ix2 b 0)
      = rd115 U (ix1 n) := by
  rw [late_134, rd134_eq, mid_117, rd133_eq, twelve_115, twelve_at]
  show (if rd117 U (ix2 b 0) = 1#1 then classAt (rd115 U) (rdAt U) (ix2 b 0) else _) = _
  rw [if_pos h117, classAt_apply _ _ b n hp]

/-- The first of the selected scores stands at a place whose score it is, from the thousandth on where no candidate of the
    first two classes lies above the threshold and it does itself. -/
theorem select_at (V : Valuation τ sig (Elt Ideal)) (b : Fin 8)
    (hlow : ∀ k : Fin 80, k.val < 2 → ∀ r : Fin 500, ¬ Cert.Sigmoid.thr < rd109 V (ix3 b k r))
    (h14 : Cert.Sigmoid.thr < rd14 (after hostOps0_11 V) (ix2 b 0)) :
    ∃ n : Fin 40000, 1000 ≤ n.val ∧ rdAt (after hostOps0_11 V) (ix2 b 0) = BitVec.ofNat 32 n.val := by
  obtain ⟨n, h, h'⟩ := first_at (shapeCast S8x40000 (rd109 V) shapeCasts_S8x80x500_S8x40000) b
  refine ⟨n, ?_, (congrFun (rdAt_eq V) _).trans h'⟩
  by_contra hn
  rw [rd14_eq, h] at h14
  generalize rd109 V = v at hlow h14
  refine hlow ⟨n.val / 500, by omega⟩ (by show n.val / 500 < 2; omega) ⟨n.val % 500, by omega⟩ (h14.trans_eq ?_)
  pointwise

/-- No candidate the loop's marks leave out lies above the threshold, nor one that did not before. -/
theorem masked_low (V : Valuation τ sig (Elt Ideal)) (b : Fin 8) (k : Fin 80) (r : Fin 500) (hz : rdZero V = constant (F := Ideal) S_ .f32 0x00000000#32)
    (h : ¬ Cert.Sigmoid.thr < rdVals V (ix3 b k r)) : ¬ Cert.Sigmoid.thr < rd109 (after hostOps0_10 V) (ix3 b k r) := by
  rw [rd109_eq, hz]
  generalize rdVals V = v at h
  generalize rdKeep V = u
  have e : select u v (broadcastInDim S8x80x500 ![] bcast_S_S8x80x500 (constant (F := Ideal) S_ .f32 0x00000000#32)) (ix3 b k r)
      = if u (ix3 b k r) = 1#1 then v (ix3 b k r) else 0 := by
    pointwise
    rfl
  rw [e]
  split
  · exact h
  · intro h0
    exact absurd (Cert.Sigmoid.pos_of_thr_lt h0) (lt_irrefl _)

theorem nine_zero (V : Valuation τ sig (Elt Ideal)) : rdZero (after hostOps0_9 V) = constant (F := Ideal) S_ .f32 0x00000000#32 := by
  unfold rdZero
  after_results

theorem eleven_115 (V : Valuation τ sig (Elt Ideal)) : rd115 (after hostOps0_11 (after hostOps0_10 (after hostOps0_9 V))) = classOf := rd115_eq _

/-- Where a class's first candidate is kept after the loop, above the threshold, and no candidate of the first two classes lies
    above it, the class returned first is at least two and the count is positive. -/
theorem post_found (X : Valuation τ sig (Elt Ideal)) (b : Fin 8) (k : Fin 80) (hk : rdKeep X (ix3 b k 0) = 1#1)
    (hv : Cert.Sigmoid.thr < rdVals X (ix3 b k 0)) :
    IntOp.cmpi .sgt (rd137 (afterL postI X) (ix1 b)) 0#32 = 1#1
    ∧ ((∀ k' : Fin 80, k'.val < 2 → ∀ r : Fin 500, ¬ Cert.Sigmoid.thr < rdVals X (ix3 b k' r)) →
      Ideal.ofBits .f32 0x40000000#32 ≤ rd134 (afterL postI X) (ix2 b 0)) := by
  rw [← nine_keep] at hk
  rw [← nine_vals] at hv
  have h14 := select_pos (after hostOps0_9 X) b k hk hv
  have h117 : rd117 (after hostOps0_11 (after hostOps0_10 (after hostOps0_9 X))) (ix2 b 0) = 1#1 := by
    rw [rd117_eq]
    have h14' := h14
    generalize rd14 (after hostOps0_11 (after hostOps0_10 (after hostOps0_9 X))) = v at h14'
    pointwise
    exact congrArg BitVec.ofBool (decide_eq_true h14')
  refine ⟨late_count _ b h117, fun hlow => ?_⟩
  rw [← nine_vals] at hlow
  obtain ⟨n, hn, hp⟩ := select_at (after hostOps0_10 (after hostOps0_9 X)) b
    (fun k' hk' r => masked_low _ b k' r (nine_zero X) (hlow k' hk' r)) h14
  refine (two_le_classOf n hn).trans_eq ?_
  rw [← eleven_115 X]
  exact (late_class _ b n h117 hp).symm

/-! ## The box -/

/-- A gathered box's coordinate is that coordinate of some anchor's box, in the same image, -/
theorem gather_anchor (x : Vec Ideal S8x20000x4 .f32) (p : IVec S8x80x500x1 32) (b : Fin 8) (k : Fin 80) (r : Fin 500) (j : Fin 4) :
    ∃ a : Fin 20000, Host.gather gather_S8x20000x4_S8x80x500x1_S8x80x500x4_3_1_0_0_1_3_114 x p (ix4 b k r j) = x (ix3 b a j) := by
  refine ⟨gather_S8x20000x4_S8x80x500x1_S8x80x500x4_3_1_0_0_1_3_114.operandIdx (ix4 b k r j) p 1, ?_⟩
  unfold Host.gather
  refine congrArg x ?_
  funext d
  fin_cases d
  · refine Fin.ext ?_
    refine (congrArg₂ (· + ·) (congrArg₂ (· + ·) (GatherDims.start_batching _ _ _ _ (by decide)) rfl)
      (GatherDims.offCoord_eq_zero _ _ _ (by decide))).trans ?_
    exact Nat.zero_add _
  · rfl
  · refine Fin.ext ?_
    show GatherDims.start _ _ _ _ + GatherDims.batchCoord _ _ _ + GatherDims.offCoord _ _ _ = j.val
    rw [GatherDims.batchCoord_eq_zero _ _ _ (by decide)]
    unfold GatherDims.start
    rw [dif_neg (by decide)]
    exact Nat.zero_add _

/-- and so is a gathered candidate's. -/
theorem gather_candidate (x : Vec Ideal S8x40000x4 .f32) (p : IVec S8x1000x1 32) (b : Fin 8) (n : Fin 1000) (j : Fin 4) :
    ∃ a : Fin 40000, Host.gather gather_S8x40000x4_S8x1000x1_S8x1000x4_2_1_0_0_1_2_114 x p (ix3 b n j) = x (ix3 b a j) := by
  refine ⟨gather_S8x40000x4_S8x1000x1_S8x1000x4_2_1_0_0_1_2_114.operandIdx (ix3 b n j) p 1, ?_⟩
  unfold Host.gather
  refine congrArg x ?_
  funext d
  fin_cases d
  · refine Fin.ext ?_
    refine (congrArg₂ (· + ·) (congrArg₂ (· + ·) (GatherDims.start_batching _ _ _ _ (by decide)) rfl)
      (GatherDims.offCoord_eq_zero _ _ _ (by decide))).trans ?_
    exact Nat.zero_add _
  · rfl
  · refine Fin.ext ?_
    show GatherDims.start _ _ _ _ + GatherDims.batchCoord _ _ _ + GatherDims.offCoord _ _ _ = j.val
    rw [GatherDims.batchCoord_eq_zero _ _ _ (by decide)]
    unfold GatherDims.start
    rw [dif_neg (by decide)]
    exact Nat.zero_add _

/-- Shifts and scales at least zero, from an anchor whose centre and size are at least one, leave a box's right edge positive. -/
theorem right_pos (t a : Fin 4 → EReal) (ht : ∀ j, 0 ≤ t j) (ha : ∀ j, 1 ≤ a j) : 0 < Cert.Boxes.corner t a 2 := by
  have h0 : ∀ j, 0 ≤ a j := fun j => zero_le_one.trans (ha j)
  have hc : (0 : EReal) ≤ Cert.Boxes.centreVar := by
    unfold Cert.Boxes.centreVar
    simp [Ideal.ofBits, Ideal.ieee]
    rw [← EReal.coe_mul]
    exact EReal.coe_nonneg.mpr (by norm_num)
  have h2 : Cert.Boxes.two = ((2 : ℝ) : EReal) := by
    unfold Cert.Boxes.two
    simp [Ideal.ofBits, Ideal.ieee]
    try (rw [← EReal.coe_mul]; norm_num)
  have he : ∀ x : EReal, 0 ≤ Ideal.exp x := by
    intro x
    induction x with
    | bot => exact le_refl (0 : EReal)
    | top => exact (le_top : (0 : EReal) ≤ ⊤)
    | coe r => exact EReal.coe_nonneg.mpr (Real.exp_pos r).le
  have h1 : 1 ≤ Cert.Boxes.centre (t 0) (a 0) (a 2) := by
    unfold Cert.Boxes.centre
    calc (1 : EReal) = 0 + 1 := (zero_add 1).symm
      _ ≤ _ := add_le_add (mul_nonneg (mul_nonneg (ht 0) hc) (h0 2)) (ha 0)
  have h3 : 0 ≤ Ideal.div (Cert.Boxes.size (t 2) (a 2)) Cert.Boxes.two := by
    unfold Ideal.div
    rw [h2, if_neg (by exact_mod_cast (two_ne_zero : (2 : ℝ) ≠ 0))]
    refine mul_nonneg (mul_nonneg (he _) (h0 2)) ?_
    rw [← EReal.coe_inv]
    exact EReal.coe_nonneg.mpr (by norm_num)
  show 0 < Cert.Boxes.centre (t 0) (a 0) (a 2) + Ideal.div (Cert.Boxes.size (t 2) (a 2)) Cert.Boxes.two
  calc (0 : EReal) < 1 := zero_lt_one
    _ = 1 + 0 := (add_zero 1).symm
    _ ≤ _ := add_le_add h1 h3

/-- The regression under the variances, -/
def scaled (t : Vec Ideal S8x20000x4 .f32) : Vec Ideal S8x20000x4 .f32 :=
  mulf t (broadcastInDim S8x20000x4 ![0, 1, 2] bcast_S1x1x4_S8x20000x4_0_1_2 (broadcastInDim S1x1x4 ![2] bcast_S4_S1x1x4_2
    (fun i => FloatOps.ofBits (F := Ideal) .f32 (lit0 (S4.rowMajor i)))))

/-- the anchors in every image, -/
def anchors (a : Vec Ideal S20000x4 .f32) : Vec Ideal S1x20000x4 .f32 :=
  broadcastInDim S1x20000x4 ![1, 2] bcast_S20000x4_S1x20000x4_1_2 a

/-- the boxes' centres and sizes, -/
def centred (t : Vec Ideal S8x20000x4 .f32) (a : Vec Ideal S20000x4 .f32) : Vec Ideal S8x20000x4 .f32 :=
  concatenate S8x20000x4 2 [
    ⟨S8x20000x2, addf (F := Ideal) (φ := .f32) (mulf (extractStridedSlice S8x20000x2 ![0, 0, 0] (scaled t) slices_S8x20000x4_S8x20000x2_0_0_0)
      (broadcastInDim S8x20000x2 ![0, 1, 2] bcast_S1x20000x2_S8x20000x2_0_1_2
        (extractStridedSlice S1x20000x2 ![0, 0, 2] (anchors a) slices_S1x20000x4_S1x20000x2_0_0_2)))
      (broadcastInDim S8x20000x2 ![0, 1, 2] bcast_S1x20000x2_S8x20000x2_0_1_2
        (extractStridedSlice S1x20000x2 ![0, 0, 0] (anchors a) slices_S1x20000x4_S1x20000x2_0_0_0))⟩,
    ⟨S8x20000x2, mulf (F := Ideal) (φ := .f32) (Host.exp (extractStridedSlice S8x20000x2 ![0, 0, 2] (scaled t) slices_S8x20000x4_S8x20000x2_0_0_2))
      (broadcastInDim S8x20000x2 ![0, 1, 2] bcast_S1x20000x2_S8x20000x2_0_1_2
        (extractStridedSlice S1x20000x2 ![0, 0, 2] (anchors a) slices_S1x20000x4_S1x20000x2_0_0_2))⟩]
    concatenates_S8x20000x2_S8x20000x2_S8x20000x4_d2

/-- half of a box's size, -/
def halved (z : Vec Ideal S8x20000x4 .f32) : Vec Ideal S8x20000x2 .f32 :=
  Host.divf (F := Ideal) (φ := .f32) (extractStridedSlice S8x20000x2 ![0, 0, 2] z slices_S8x20000x4_S8x20000x2_0_0_2)
    (broadcastInDim S8x20000x2 ![] bcast_S_S8x20000x2 (constant (F := Ideal) S_ .f32 0x40000000#32))

/-- and the boxes' corners. -/
def corners (z : Vec Ideal S8x20000x4 .f32) : Vec Ideal S8x20000x4 .f32 :=
  concatenate S8x20000x4 2 [
    ⟨S8x20000x2, subf (F := Ideal) (φ := .f32) (extractStridedSlice S8x20000x2 ![0, 0, 0] z slices_S8x20000x4_S8x20000x2_0_0_0) (halved z)⟩,
    ⟨S8x20000x2, addf (F := Ideal) (φ := .f32) (extractStridedSlice S8x20000x2 ![0, 0, 0] z slices_S8x20000x4_S8x20000x2_0_0_0) (halved z)⟩]
    concatenates_S8x20000x2_S8x20000x2_S8x20000x4_d2

theorem corners_apply (t : Vec Ideal S8x20000x4 .f32) (a : Vec Ideal S20000x4 .f32) (b : Fin 8) (n : Fin 20000) :
    corners (centred t a) (ix3 b n (2 : Fin 4)) = Cert.Boxes.corner (fun j => t (ix3 b n j)) (fun j => a (ix2 n j)) 2 := by
  unfold corners halved centred scaled anchors
  pointwise
  all_goals rfl

theorem rd33_eq (V : Valuation τ sig (Elt Ideal)) : rd33 (after hostOps0 V) = corners (centred (rdReg V) (rdAnc V)) := by
  unfold rd33 corners halved centred scaled anchors
  after_results
  all_goals rfl

theorem rd41_eq (V : Valuation τ sig (Elt Ideal)) : rd41 (after hostOps0 V)
    = Host.gather gather_S8x20000x4_S8x80x500x1_S8x80x500x4_3_1_0_0_1_3_114 (rd33 (after hostOps0 V)) (rd40 (after hostOps0 V)) := by
  unfold rd41 rd33 rd40
  after_results
  all_goals rfl

theorem rd125_eq (V : Valuation τ sig (Elt Ideal)) : rd125 (after hostOps0_11 V)
    = Host.gather gather_S8x40000x4_S8x1000x1_S8x1000x4_2_1_0_0_1_2_114
      (shapeCast S8x40000x4 (rd41 V) shapeCasts_S8x80x500x4_S8x40000x4) (rd124 (after hostOps0_11 V)) := by
  unfold rd125 rd124
  after_results
  all_goals rfl

theorem rd118_eq (V : Valuation τ sig (Elt Ideal)) : rd118 (after hostOps0_11 V)
    = broadcastInDim S8x1000x1 ![0, 1] bcast_S8x1000_S8x1000x1_0_1 (rd117 (after hostOps0_11 V)) := by
  unfold rd118 rd117
  after_results
  all_goals rfl

theorem rd126_eq (V : Valuation τ sig (Elt Ideal)) : rd126 (after hostOps0_12 V)
    = select (broadcastInDim S8x1000x4 ![0, 1, 2] bcast_S8x1000x1_S8x1000x4_0_1_2 (rd118 V)) (rd125 V)
      (broadcastInDim S8x1000x4 ![] bcast_S_S8x1000x4 (rd19 V)) := by
  unfold rd126
  after_results
  all_goals rfl

theorem late_126 (V : Valuation τ sig (Elt Ideal)) :
    rd126 (after hostOps0_17 (after hostOps0_16 (after hostOps0_15 (after hostOps0_14 (after hostOps0_13 V))))) = rd126 V := by
  unfold rd126
  after_results

theorem early_41 (V : Valuation τ sig (Elt Ideal)) : rd41 (after hostOps0_10 (after hostOps0_9 V)) = rd41 V := by
  unfold rd41
  after_results

/-- Where a row's mark is set, the selection takes the first array's entry. -/
theorem marked (u : IVec S8x1000 1) (x : Vec Ideal S8x1000x4 .f32) (z : Vec Ideal S_ .f32) (b : Fin 8) (j : Fin 4) (h : u (ix2 b 0) = 1#1) :
    select (broadcastInDim S8x1000x4 ![0, 1, 2] bcast_S8x1000x1_S8x1000x4_0_1_2
      (broadcastInDim S8x1000x1 ![0, 1] bcast_S8x1000_S8x1000x1_0_1 u)) x (broadcastInDim S8x1000x4 ![] bcast_S_S8x1000x4 z) (ix3 b 0 j)
      = x (ix3 b 0 j) := by
  have e : broadcastInDim S8x1000x4 ![0, 1, 2] bcast_S8x1000x1_S8x1000x4_0_1_2
      (broadcastInDim S8x1000x1 ![0, 1] bcast_S8x1000_S8x1000x1_0_1 u) (ix3 b 0 j) = u (ix2 b 0) := by
    pointwise
  show (if broadcastInDim S8x1000x4 ![0, 1, 2] bcast_S8x1000x1_S8x1000x4_0_1_2
      (broadcastInDim S8x1000x1 ![0, 1] bcast_S8x1000_S8x1000x1_0_1 u) (ix3 b 0 j) = 1#1 then x (ix3 b 0 j) else _) = _
  rw [e, if_pos h]

/-- A candidate's box, in the array of all candidates, is one class's candidate's. -/
theorem candidate (x : Vec Ideal S8x80x500x4 .f32) (b : Fin 8) (n : Fin 40000) (j : Fin 4) :
    shapeCast S8x40000x4 x shapeCasts_S8x80x500x4_S8x40000x4 (ix3 b n j)
      = x (ix4 b (⟨n.val / 500, by omega⟩ : Fin 80) (⟨n.val % 500, by omega⟩ : Fin 500) j) := by
  pointwise

/-- Where a class's first candidate is kept after the loop, above the threshold, the first box returned has its coordinates
    among the candidates'. -/
theorem post_box (X : Valuation τ sig (Elt Ideal)) (b : Fin 8) (k : Fin 80) (hk : rdKeep X (ix3 b k 0) = 1#1)
    (hv : Cert.Sigmoid.thr < rdVals X (ix3 b k 0)) (j : Fin 4) :
    ∃ (k' : Fin 80) (r : Fin 500), rd126 (afterL postI X) (ix3 b 0 j) = rd41 X (ix4 b k' r j) := by
  rw [← nine_keep] at hk
  rw [← nine_vals] at hv
  have h14 := select_pos (after hostOps0_9 X) b k hk hv
  have h117 : rd117 (after hostOps0_11 (after hostOps0_10 (after hostOps0_9 X))) (ix2 b 0) = 1#1 := by
    rw [rd117_eq]
    generalize rd14 (after hostOps0_11 (after hostOps0_10 (after hostOps0_9 X))) = v at h14
    pointwise
    exact congrArg BitVec.ofBool (decide_eq_true h14)
  have e : rd126 (afterL postI X) (ix3 b 0 j) = rd125 (after hostOps0_11 (after hostOps0_10 (after hostOps0_9 X))) (ix3 b 0 j) := by
    show rd126 (after hostOps0_17 (after hostOps0_16 (after hostOps0_15 (after hostOps0_14 (after hostOps0_13 (after hostOps0_12
      (after hostOps0_11 (after hostOps0_10 (after hostOps0_9 X))))))))) (ix3 b 0 j) = _
    rw [late_126, rd126_eq, rd118_eq]
    exact marked _ _ _ b j h117
  obtain ⟨n, hn⟩ := gather_candidate (shapeCast S8x40000x4 (rd41 X) shapeCasts_S8x80x500x4_S8x40000x4)
    (rd124 (after hostOps0_11 (after hostOps0_10 (after hostOps0_9 X)))) b 0 j
  refine ⟨_, _, e.trans (Eq.trans ?_ (hn.trans (candidate (rd41 X) b n j)))⟩
  rw [rd125_eq, early_41]

variable (m : (ℓ : Loc nD τ sig) → Buf (Elt Ideal) ℓ) (ρ : Dev nD → PrngReg)

/-- The loop's last test leaves a class's first candidate as the loop did. -/
theorem kept_cond (c : Dev nD) (b : Fin 8) (k : Fin 80) (h : ∀ a : Fin 20000, 0 ≤ head m c (ix3 b a k)) :
    rdKeep (after condOps (atK m 500 c)) (ix3 b k 0) = 1#1 ∧ Cert.Sigmoid.thr < rdVals (after condOps (atK m 500 c)) (ix3 b k 0) := by
  rw [show rdKeep (after condOps (atK m 500 c)) = rdKeep (atK m 500 c) from cond_keeps (F := Ideal) (atK m 500 c) main_v108_4 (by decide),
    show rdVals (after condOps (atK m 500 c)) = rdVals (atK m 500 c) from
      after_of_writes_sub condOps (atK m 500 c) condOps_writes (r := main_values) (by decide +kernel)]
  exact kept m c b k h

/-- Where a class's scores are all at least zero, the count returned is positive, -/
theorem v137_pos (c : Dev nD) (b : Fin 8) (k : Fin 80) (h : ∀ a : Fin 20000, 0 ≤ head m c (ix3 b a k)) :
    IntOp.cmpi .sgt (rd137 (final m c) (ix1 b)) 0#32 = 1#1 :=
  (post_found _ b k (kept_cond m c b k h).1 (kept_cond m c b k h).2).1

/-- and where moreover the first two classes' are at most minus twenty, the first class returned is at least two. -/
theorem v134_ge (c : Dev nD) (b : Fin 8) (k : Fin 80) (h : ∀ a : Fin 20000, 0 ≤ head m c (ix3 b a k))
    (hlow : ∀ (a : Fin 20000) (k' : Fin 80), k'.val < 2 → head m c (ix3 b a k') ≤ Ideal.ofBits .f32 0xC1A00000#32) :
    Ideal.ofBits .f32 0x40000000#32 ≤ rd134 (final m c) (ix2 b 0) :=
  (post_found _ b k (kept_cond m c b k h).1 (kept_cond m c b k h).2).2 fun k' hk' r => by
    rw [show rdVals (after condOps (atK m 500 c)) = rdVals (atK m 500 c) from
      after_of_writes_sub condOps (atK m 500 c) condOps_writes (r := main_values) (by decide +kernel), vals_atK m c 500]
    obtain ⟨a, ha⟩ := best_apply (scores (head m c)) b k' r
    rw [ha, scores_apply]
    exact Cert.Sigmoid.logistic_le_thr (hlow a k' hk')

/-- The candidates' boxes do not change in the loop. -/
theorem rd41_atK (c : Dev nD) : ∀ n, rd41 (atK m n c) = rd41 (after hostOps0 (launchContents m c))
  | 0 => (after_of_writes_sub hostOps0_8 (before8 m c) hostOps0_8_writes (r := main_v41) (by decide +kernel)).trans
      (mid_keep (after hostOps0 (launchContents m c)) main_v41 (by decide +kernel) (by decide +kernel) (by decide +kernel)
        (by decide +kernel) (by decide +kernel) (by decide +kernel) (by decide +kernel))
  | n + 1 => (body_keep (atK m n c) main_v41 (by decide +kernel) (by decide +kernel) (by decide +kernel) (by decide +kernel)
      (by decide +kernel)).trans (rd41_atK c n)

/-- The regression and the anchors. -/
abbrev regression (c : Dev nD) : Vec Ideal S8x20000x4 .f32 := m ((c.tc : Thread nD τ).loc main_arg1)
abbrev anchor (c : Dev nD) : Vec Ideal S20000x4 .f32 := m ((c.tc : Thread nD τ).loc main_arg2)

/-- Where a class's scores are all at least zero, the right edge of the first box returned is some anchor's decoded right edge, -/
theorem v126_eq (c : Dev nD) (b : Fin 8) (k : Fin 80) (h : ∀ a : Fin 20000, 0 ≤ head m c (ix3 b a k)) :
    ∃ n : Fin 20000, rd126 (final m c) (ix3 b 0 (2 : Fin 4)) = Cert.Boxes.box (regression m c) (anchor m c) b 2 n := by
  obtain ⟨k', r, e⟩ := post_box _ b k (kept_cond m c b k h).1 (kept_cond m c b k h).2 2
  have e41 : rd41 (after condOps (atK m 500 c)) = rd41 (after hostOps0 (launchContents m c)) :=
    (after_of_writes_sub condOps (atK m 500 c) condOps_writes (r := main_v41) (by decide +kernel)).trans (rd41_atK m c 500)
  rw [e41, rd41_eq] at e
  obtain ⟨n, hn⟩ := gather_anchor (rd33 (after hostOps0 (launchContents m c))) (rd40 (after hostOps0 (launchContents m c))) b k' r 2
  rw [hn, rd33_eq] at e
  exact ⟨n, e.trans (corners_apply _ _ b n)⟩

/-- so it is positive where the regression is at least zero and the anchors at least one. -/
theorem v126_pos (c : Dev nD) (b : Fin 8) (k : Fin 80) (h : ∀ a : Fin 20000, 0 ≤ head m c (ix3 b a k))
    (ht : ∀ (n : Fin 20000) (j : Fin 4), 0 ≤ regression m c (ix3 b n j)) (ha : ∀ (n : Fin 20000) (j : Fin 4), 1 ≤ anchor m c (ix2 n j)) :
    0 < rd126 (final m c) (ix3 b 0 (2 : Fin 4)) := by
  obtain ⟨n, e⟩ := v126_eq m c b k h
  rw [e]
  exact right_pos _ _ (ht n) (ha n)

/-- The run: the four results are what the last contents say, and the arguments are unchanged. -/
theorem run : θ_run (defs (F := Ideal)) (onTc (τ := τ) (main (F := Ideal))) ⟨m, fun _ => 0, ρ⟩ fun r => ∀ c : Dev nD,
      (r.2.mem ((c.tc : Thread nD τ).loc main_v126) = final m c (Proc.devRef .tc main_v126)
      ∧ r.2.mem ((c.tc : Thread nD τ).loc main_v135) = final m c (Proc.devRef .tc main_v135)
      ∧ r.2.mem ((c.tc : Thread nD τ).loc main_v134) = final m c (Proc.devRef .tc main_v134)
      ∧ r.2.mem ((c.tc : Thread nD τ).loc main_v137) = final m c (Proc.devRef .tc main_v137))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨⟨h c main_v126 (by decide), h c main_v135 (by decide), h c main_v134 (by decide),
      h c main_v137 (by decide)⟩,
      (h c main_arg0 (by decide)).trans ((post_arg0 _).trans (arg_cond m c main_arg0 (by decide))),
      (h c main_arg1 (by decide)).trans ((post_arg1 _).trans (arg_cond m c main_arg1 (by decide))),
      (h c main_arg2 (by decide)).trans ((post_arg2 _).trans (arg_cond m c main_arg2 (by decide)))⟩) (run_fold m ρ)

end Cert.WholeRefIdeal.High

end
-- ==== Proof.V00Run.lean ====
/-
  Version v00, run under the precondition: the first box, score and class it returns are zero.
-/
module

public import proofs.«01_k».proof.Proof.Sigmoid
public import proofs.«01_k».proof.Proof.Gen.V00Ideal.Frame

@[expose] public section

set_option maxRecDepth 16384

noncomputable section

namespace Cert.V00Ideal.Empty

open Cert.V00Ideal Cert.V00Ideal.Gen Idealize.ShloMosaic Idealize.ShloMosaic.TcCoe Idealize.SL.Sem Idealize.ShloMosaic.StableHlo

/-! ## The arrays the scores pass through, read from the buffers' contents -/

abbrev rdHead (V : Valuation τ sig (Elt Ideal)) : Vec Ideal S8x20000x80 .f32 := V (Proc.devRef .tc main_arg0)
abbrev rd10 (V : Valuation τ sig (Elt Ideal)) : Vec Ideal S8x80x512 .f32 := V (Proc.devRef .tc main_v10)
abbrev rd17 (V : Valuation τ sig (Elt Ideal)) : Vec Ideal S8x512x80 .f32 := V (Proc.devRef .tc main_v17)
abbrev rd29 (V : Valuation τ sig (Elt Ideal)) : Vec Ideal S8x1000 .f32 := V (Proc.devRef .tc main_v29)
abbrev rd38 (V : Valuation τ sig (Elt Ideal)) : IVec S8x1000 1 := V (Proc.devRef .tc main_v38)
abbrev rdZero (V : Valuation τ sig (Elt Ideal)) : Vec Ideal S_ .f32 := V (Proc.devRef .tc main_cst_4)
abbrev rd43 (V : Valuation τ sig (Elt Ideal)) : Vec Ideal S8x1000 .f32 := V (Proc.devRef .tc main_v43)

abbrev rd39 (V : Valuation τ sig (Elt Ideal)) : IVec S8x1000x1 1 := V (Proc.devRef .tc main_v39)
abbrev rd40 (V : Valuation τ sig (Elt Ideal)) : Vec Ideal S8x1000x4 .f32 := V (Proc.devRef .tc main_v40)
abbrev rdZero3 (V : Valuation τ sig (Elt Ideal)) : Vec Ideal S_ .f32 := V (Proc.devRef .tc main_cst_2)
abbrev rd41 (V : Valuation τ sig (Elt Ideal)) : Vec Ideal S8x1000x4 .f32 := V (Proc.devRef .tc main_v41)
abbrev rd33 (V : Valuation τ sig (Elt Ideal)) : Vec Ideal S8x1000 .f32 := V (Proc.devRef .tc main_v33)
abbrev rdZero4 (V : Valuation τ sig (Elt Ideal)) : Vec Ideal S_ .f32 := V (Proc.devRef .tc main_cst_3)
abbrev rd42 (V : Valuation τ sig (Elt Ideal)) : Vec Ideal S8x1000 .f32 := V (Proc.devRef .tc main_v42)

/-- The array the kernel makes of the head's scores. -/
def spread (x : Vec Ideal S8x20000x80 .f32) : Vec Ideal S8x80x512 .f32 :=
  extractStridedSlice S8x80x512 ![0, 0, 0] (Host.divf (F := Ideal) (φ := .f32)
      (broadcastInDim S8x80x20000 ![] bcast_S_S8x80x20000 (constant (F := Ideal) S_ .f32 0x3F800000#32))
      (addf (broadcastInDim S8x80x20000 ![] bcast_S_S8x80x20000 (constant (F := Ideal) S_ .f32 0x3F800000#32))
        (Host.exp (Host.negf (shapeCast S8x80x20000 x shapeCasts_S8x20000x80_S8x80x20000)))))
    slices_S8x80x20000_S8x80x512_0_0_0

/-- Its first entry is the logistic function of the head's first score. -/
theorem spread_apply (x : Vec Ideal S8x20000x80 .f32) (b : Fin 8) :
    spread x (ix3 b 0 0) = Ideal.logistic (x (ix3 b 0 0)) := by
  unfold spread Ideal.logistic
  pointwise

theorem rd10_eq (V : Valuation τ sig (Elt Ideal)) : rd10 (after hostOps1 V) = spread (rdHead V) := by
  unfold rd10 spread
  after_results
  all_goals rfl

theorem rd17_eq (V : Valuation τ sig (Elt Ideal)) : rd17 (after hostOps1_2 V)
    = transpose S8x512x80 [0, 2, 1] (rd10 V) transposes_S8x80x512_S8x512x80_0_2_1 := by
  unfold rd17
  after_results
  all_goals rfl

theorem rd29_eq (V : Valuation τ sig (Elt Ideal)) : rd29 (after hostOps2 V)
    = extractStridedSlice S8x1000 ![0, 0] (shapeCast S8x40960 (transpose S8x80x512 [0, 2, 1] (rd17 V)
        transposes_S8x512x80_S8x80x512_0_2_1) shapeCasts_S8x80x512_S8x40960) slices_S8x40960_S8x1000_0_0 := by
  unfold rd29
  after_results
  all_goals rfl

theorem rd38_eq (V : Valuation τ sig (Elt Ideal)) : rd38 (after hostOps2_4 V)
    = cmpf .ogt (rd29 V) (broadcastInDim S8x1000 ![] bcast_S_S8x1000 (constant (F := Ideal) S_ .f32 0x3D4CCCCD#32)) := by
  unfold rd38
  after_results
  all_goals rfl

theorem rdZero_eq (V : Valuation τ sig (Elt Ideal)) : rdZero (after hostOps2_8 V) = constant (F := Ideal) S_ .f32 0x00000000#32 := by
  unfold rdZero
  after_results
  all_goals rfl

theorem rd43_eq (V : Valuation τ sig (Elt Ideal)) : rd43 (after hostOps2_9 V)
    = select (rd38 V) (rd29 V) (broadcastInDim S8x1000 ![] bcast_S_S8x1000 (rdZero V)) := by
  unfold rd43
  after_results
  all_goals rfl

theorem rd39_eq (V : Valuation τ sig (Elt Ideal)) : rd39 (after hostOps2_4 V)
    = broadcastInDim S8x1000x1 ![0, 1] bcast_S8x1000_S8x1000x1_0_1 (rd38 (after hostOps2_4 V)) := by
  unfold rd39 rd38
  after_results
  all_goals rfl

theorem rdZero3_eq (V : Valuation τ sig (Elt Ideal)) : rdZero3 (after hostOps2_4 V) = constant (F := Ideal) S_ .f32 0x00000000#32 := by
  unfold rdZero3
  after_results
  all_goals rfl

theorem rd41_eq (V : Valuation τ sig (Elt Ideal)) : rd41 (after hostOps2_5 V)
    = select (broadcastInDim S8x1000x4 ![0, 1, 2] bcast_S8x1000x1_S8x1000x4_0_1_2 (rd39 V)) (rd40 V)
      (broadcastInDim S8x1000x4 ![] bcast_S_S8x1000x4 (rdZero3 V)) := by
  unfold rd41
  after_results
  all_goals rfl

theorem rdZero4_eq (V : Valuation τ sig (Elt Ideal)) : rdZero4 (after hostOps2_6 V) = constant (F := Ideal) S_ .f32 0x00000000#32 := by
  unfold rdZero4
  after_results
  all_goals rfl

theorem rd42_eq (V : Valuation τ sig (Elt Ideal)) : rd42 (after hostOps2_7 V)
    = select (rd38 V) (rd33 V) (broadcastInDim S8x1000 ![] bcast_S_S8x1000 (rdZero4 V)) := by
  unfold rd42
  after_results
  all_goals rfl

/-- Where the first place is not marked, the scores and the classes are zero there, -/
theorem class_zero (k : IVec S8x1000 1) (x : Vec Ideal S8x1000 .f32) (b : Fin 8) (h : k (ix2 b 0) = 0#1) :
    select k x (broadcastInDim S8x1000 ![] bcast_S_S8x1000 (constant (F := Ideal) S_ .f32 0x00000000#32)) (ix2 b 0) = 0 := by
  pointwise
  rw [h]
  rfl

/-- and so are the boxes. -/
theorem box_zero (k : IVec S8x1000 1) (x : Vec Ideal S8x1000x4 .f32) (b : Fin 8) (h : k (ix2 b 0) = 0#1) (j : Fin 4) :
    select (broadcastInDim S8x1000x4 ![0, 1, 2] bcast_S8x1000x1_S8x1000x4_0_1_2 (broadcastInDim S8x1000x1 ![0, 1] bcast_S8x1000_S8x1000x1_0_1 k)) x
      (broadcastInDim S8x1000x4 ![] bcast_S_S8x1000x4 (constant (F := Ideal) S_ .f32 0x00000000#32)) (ix3 b 0 j) = 0 := by
  pointwise
  rw [h]
  rfl

variable (m : (ℓ : Loc nD τ sig) → Buf (Elt Ideal) ℓ) (ρ : Dev nD → PrngReg)

/-- The head's scores, before the logistic function. -/
abbrev head (c : Dev nD) : Vec Ideal S8x20000x80 .f32 := m ((c.tc : Thread nD τ).loc main_arg0)

/-- The first entry of the array of scores is the logistic function of the head's first. -/
theorem v10_apply (c : Dev nD) (b : Fin 8) : rd10 (W3 m ρ c) (ix3 b 0 0) = Ideal.logistic (head m c (ix3 b 0 0)) := by
  have h0 : rdHead (W2 m ρ c) = head m c := W2_args m ρ c main_arg0 (by decide)
  have hv : rd10 (W3 m ρ c) = spread (rdHead (W2 m ρ c)) := rd10_eq (W2 m ρ c)
  rw [hv, h0, spread_apply]

/-- The scores before the threshold: the first is that entry of that array. -/
theorem v29_apply (c : Dev nD) (b : Fin 8) :
    rd29 (W10 m ρ c) (ix2 b 0) = Ideal.logistic (head m c (ix3 b 0 0)) := by
  have h1 : rd29 (W10 m ρ c) = rd29 (W7 m ρ c) :=
    (W10_of m ρ c main_v29 (by decide)).trans ((W9_of m ρ c main_v29 (by decide)).trans (W8_of m ρ c main_v29 (by decide)))
  have h2 := rd29_eq (W6 m ρ c)
  have h3 : rd17 (W6 m ρ c) = rd17 (W5 m ρ c) := W6_of m ρ c main_v17 (by decide)
  have h4 := rd17_eq (W4 m ρ c)
  have h5 : rd10 (W4 m ρ c) = rd10 (W3 m ρ c) := W4_of m ρ c main_v10 (by decide)
  rw [h3, h4, h5] at h2
  rw [h1, h2, ← v10_apply m ρ c b]
  pointwise

/-- Where that score is at most minus twenty, the first place is not marked as above the threshold, -/
theorem v38_zero (c : Dev nD) (b : Fin 8) (h : head m c (ix3 b 0 0) ≤ Ideal.ofBits .f32 0xC1A00000#32) :
    rd38 (W11 m ρ c) (ix2 b 0) = 0#1 := by
  have h1 := v29_apply m ρ c b
  have h2 : ¬Cert.Sigmoid.thr < rd29 (W10 m ρ c) (ix2 b 0) := by
    rw [h1]
    exact Cert.Sigmoid.logistic_le_thr h
  have h3 := rd38_eq (W10 m ρ c)
  rw [h3]
  generalize rd29 (W10 m ρ c) = v at h2
  pointwise
  exact congrArg BitVec.ofBool (decide_eq_false h2)

/-- so the first score returned is zero, -/
theorem v43_zero (c : Dev nD) (b : Fin 8) (h : head m c (ix3 b 0 0) ≤ Ideal.ofBits .f32 0xC1A00000#32) :
    rd43 (W17 m ρ c) (ix2 b 0) = 0 := by
  have h1 : rd43 (W17 m ρ c) = rd43 (W16 m ρ c) := W17_of m ρ c main_v43 (by decide)
  have h2 := rd43_eq (W15 m ρ c)
  have h3 := rdZero_eq (W14 m ρ c)
  have h4 : rd38 (W15 m ρ c) = rd38 (W11 m ρ c) :=
    (W15_of m ρ c main_v38 (by decide)).trans ((W14_of m ρ c main_v38 (by decide)).trans ((W13_of m ρ c main_v38 (by decide)).trans
      (W12_of m ρ c main_v38 (by decide))))
  rw [h3, h4] at h2
  rw [h1, h2]
  exact class_zero _ _ b (v38_zero m ρ c b h)

/-- the first box is, -/
theorem v41_zero (c : Dev nD)
    (b : Fin 8) (h : head m c (ix3 b 0 0) ≤ Ideal.ofBits .f32 0xC1A00000#32) (j : Fin 4) : rd41 (W17 m ρ c) (ix3 b 0 j) = 0 := by
  have h1 : rd41 (W17 m ρ c) = rd41 (W12 m ρ c) :=
    (W17_of m ρ c main_v41 (by decide)).trans ((W16_of m ρ c main_v41 (by decide)).trans ((W15_of m ρ c main_v41 (by decide)).trans
      ((W14_of m ρ c main_v41 (by decide)).trans (W13_of m ρ c main_v41 (by decide)))))
  have h2 := rd41_eq (W11 m ρ c)
  have h3 := rd39_eq (W10 m ρ c)
  have h4 := rdZero3_eq (W10 m ρ c)
  rw [h3, h4] at h2
  rw [h1, h2]
  exact box_zero _ _ b (v38_zero m ρ c b h) j

/-- and the first class. -/
theorem v42_zero (c : Dev nD)
    (b : Fin 8) (h : head m c (ix3 b 0 0) ≤ Ideal.ofBits .f32 0xC1A00000#32) : rd42 (W17 m ρ c) (ix2 b 0) = 0 := by
  have h1 : rd42 (W17 m ρ c) = rd42 (W14 m ρ c) :=
    (W17_of m ρ c main_v42 (by decide)).trans ((W16_of m ρ c main_v42 (by decide)).trans (W15_of m ρ c main_v42 (by decide)))
  have h2 := rd42_eq (W13 m ρ c)
  have h3 := rdZero4_eq (W12 m ρ c)
  have h4 : rd38 (W13 m ρ c) = rd38 (W11 m ρ c) := (W13_of m ρ c main_v38 (by decide)).trans (W12_of m ρ c main_v38 (by decide))
  rw [h3, h4] at h2
  rw [h1, h2]
  exact class_zero _ _ b (v38_zero m ρ c b h)

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

set_option backward.isDefEq.respectTransparency.types false in
/-- The run: the results are what the last contents say, and the arguments are unchanged. -/
theorem run : θ_run (defs (F := Ideal)) (onTc (τ := τ) (main (F := Ideal))) ⟨m, fun _ => 0, ρ⟩ (fun r => ∀ c : Dev nD,
      (r.2.mem ((c.tc : Thread nD τ).loc main_v41) = W17 m ρ c (Proc.devRef .tc main_v41)
      ∧ r.2.mem ((c.tc : Thread nD τ).loc main_v43) = W17 m ρ c (Proc.devRef .tc main_v43)
      ∧ r.2.mem ((c.tc : Thread nD τ).loc main_v42) = W17 m ρ c (Proc.devRef .tc main_v42))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ c =>
      ⟨⟨h c _ (mem_uc main_v41 (by decide)), h c _ (mem_uc main_v43 (by decide)), h c _ (mem_uc main_v42 (by decide))⟩,
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c)⟩)

end Cert.V00Ideal.Empty

end
-- ==== Proof.V02Count.lean ====
/-
  Version v02, run: every count it returns is zero.
-/
module

public import Idealize.ShloMosaic.Lib.Pipeline.ValueKit
public import proofs.«01_k».proof.Proof.Gen.V02Ideal.Frame

@[expose] public section

set_option maxRecDepth 16384

noncomputable section

namespace Cert.V02Ideal.Count

open Cert.V02Ideal Cert.V02Ideal.Gen Idealize.ShloMosaic Idealize.ShloMosaic.TcCoe Idealize.SL.Sem Idealize.ShloMosaic.StableHlo

abbrev rdCount (V : Valuation τ sig (Elt Ideal)) : IVec S8 32 := V (Proc.devRef .tc main_v19)

/-- The counts are written as zero, whatever was computed before, -/
theorem rdCount_eq (V : Valuation τ sig (Elt Ideal)) : rdCount (after hostOps1 V)
    = broadcastInDim S8 ![] bcast_S_S8 (constantI S_ 32 0#32) := by
  unfold rdCount
  after_results
  all_goals rfl

variable (m : (ℓ : Loc nD τ sig) → Buf (Elt Ideal) ℓ) (ρ : Dev nD → PrngReg)

/-- so they are zero at the end; the arguments are unchanged. -/
theorem run : θ_run (defs (F := Ideal)) (onTc (τ := τ) (main (F := Ideal))) ⟨m, fun _ => 0, ρ⟩ (fun r => ∀ c : Dev nD,
      (∀ b : Fin 8, r.2.mem ((c.tc : Thread nD τ).loc main_v19) (ix1 b) = 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨fun b => congrFun (((h c).2 main_v19 (Pipeline.mem_restRefs_of main_v19 (by decide) (by decide))).trans
        (rdCount_eq _)) (ix1 b),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.V02Ideal.Count

end
-- ==== Proof.V03Count.lean ====
/-
  Version v03, run: every count it returns is zero.
-/
module

public import Idealize.ShloMosaic.Lib.Pipeline.ValueKit
public import proofs.«01_k».proof.Proof.Gen.V03Ideal.Frame

@[expose] public section

set_option maxRecDepth 16384

noncomputable section

namespace Cert.V03Ideal.Count

open Cert.V03Ideal Cert.V03Ideal.Gen Idealize.ShloMosaic Idealize.ShloMosaic.TcCoe Idealize.SL.Sem Idealize.ShloMosaic.StableHlo

abbrev rdCount (V : Valuation τ sig (Elt Ideal)) : IVec S8 32 := V (Proc.devRef .tc main_v25)

/-- The counts are written as zero, whatever was computed before, -/
theorem rdCount_eq (V : Valuation τ sig (Elt Ideal)) : rdCount (after hostOps1 V)
    = broadcastInDim S8 ![] bcast_S_S8 (constantI S_ 32 0#32) := by
  unfold rdCount
  after_results
  all_goals rfl

variable (m : (ℓ : Loc nD τ sig) → Buf (Elt Ideal) ℓ) (ρ : Dev nD → PrngReg)

/-- so they are zero at the end; the arguments are unchanged. -/
theorem run : θ_run (defs (F := Ideal)) (onTc (τ := τ) (main (F := Ideal))) ⟨m, fun _ => 0, ρ⟩ (fun r => ∀ c : Dev nD,
      (∀ b : Fin 8, r.2.mem ((c.tc : Thread nD τ).loc main_v25) (ix1 b) = 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨fun b => congrFun (((h c).2 main_v25 (Pipeline.mem_restRefs_of main_v25 (by decide) (by decide))).trans
        (rdCount_eq _)) (ix1 b),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.V03Ideal.Count

end
-- ==== Proof.V04Count.lean ====
/-
  Version v04, run: every count it returns is zero.
-/
module

public import Idealize.ShloMosaic.Lib.Pipeline.ValueKit
public import proofs.«01_k».proof.Proof.Gen.V04Ideal.Frame

@[expose] public section

set_option maxRecDepth 16384

noncomputable section

namespace Cert.V04Ideal.Count

open Cert.V04Ideal Cert.V04Ideal.Gen Idealize.ShloMosaic Idealize.ShloMosaic.TcCoe Idealize.SL.Sem Idealize.ShloMosaic.StableHlo

abbrev rdCount (V : Valuation τ sig (Elt Ideal)) : IVec S8 32 := V (Proc.devRef .tc main_v30)

/-- The counts are written as zero, whatever was computed before, -/
theorem rdCount_eq (V : Valuation τ sig (Elt Ideal)) : rdCount (after hostOps2_4 V)
    = broadcastInDim S8 ![] bcast_S_S8 (constantI S_ 32 0#32) := by
  unfold rdCount
  after_results
  all_goals rfl

variable (m : (ℓ : Loc nD τ sig) → Buf (Elt Ideal) ℓ) (ρ : Dev nD → PrngReg)

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

set_option backward.isDefEq.respectTransparency.types false in
/-- so they are zero at the end; the arguments are unchanged. -/
theorem run : θ_run (defs (F := Ideal)) (onTc (τ := τ) (main (F := Ideal))) ⟨m, fun _ => 0, ρ⟩ (fun r => ∀ c : Dev nD,
      (∀ b : Fin 8, r.2.mem ((c.tc : Thread nD τ).loc main_v30) (ix1 b) = 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨fun b => congrFun ((h c _ (mem_uc main_v30 (by decide))).trans (rdCount_eq (W8 m ρ c))) (ix1 b),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.V04Ideal.Count

end
-- ==== Proof.V05Count.lean ====
/-
  Version v05, run: every count it returns is zero.
-/
module

public import Idealize.ShloMosaic.Lib.Pipeline.ValueKit
public import proofs.«01_k».proof.Proof.Gen.V05Ideal.Frame

@[expose] public section

set_option maxRecDepth 16384

noncomputable section

namespace Cert.V05Ideal.Count

open Cert.V05Ideal Cert.V05Ideal.Gen Idealize.ShloMosaic Idealize.ShloMosaic.TcCoe Idealize.SL.Sem Idealize.ShloMosaic.StableHlo

abbrev rdCount (V : Valuation τ sig (Elt Ideal)) : IVec S8 32 := V (Proc.devRef .tc main_v28)

/-- The counts are written as zero, whatever was computed before, -/
theorem rdCount_eq (V : Valuation τ sig (Elt Ideal)) : rdCount (after hostOps2 V)
    = broadcastInDim S8 ![] bcast_S_S8 (constantI S_ 32 0#32) := by
  unfold rdCount
  after_results
  all_goals rfl

variable (m : (ℓ : Loc nD τ sig) → Buf (Elt Ideal) ℓ) (ρ : Dev nD → PrngReg)

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

set_option backward.isDefEq.respectTransparency.types false in
/-- so they are zero at the end; the arguments are unchanged. -/
theorem run : θ_run (defs (F := Ideal)) (onTc (τ := τ) (main (F := Ideal))) ⟨m, fun _ => 0, ρ⟩ (fun r => ∀ c : Dev nD,
      (∀ b : Fin 8, r.2.mem ((c.tc : Thread nD τ).loc main_v28) (ix1 b) = 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨fun b => congrFun ((h c _ (mem_uc main_v28 (by decide))).trans (rdCount_eq (W4 m ρ c))) (ix1 b),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.V05Ideal.Count

end
-- ==== Proof.lean ====
module

public import proofs.«01_k».proof.Defs
public import proofs.«01_k».proof.Proof.Gen.Nms
public import proofs.«01_k».proof.Proof.Gen.Nms.Frame
public import proofs.«01_k».proof.Proof.Gen.NmsIdeal
public import proofs.«01_k».proof.Proof.Gen.NmsIdeal.Frame
public import proofs.«01_k».proof.Proof.Gen.NmsIdeal.Value
public import proofs.«01_k».proof.Proof.Gen.NmsRefIdeal
public import proofs.«01_k».proof.Proof.Gen.NmsRefIdeal.Run
public import proofs.«01_k».proof.Proof.Gen.NmsRefIdeal.StepRun
public import proofs.«01_k».proof.Proof.Gen.Decode
public import proofs.«01_k».proof.Proof.Gen.Decode.Frame
public import proofs.«01_k».proof.Proof.Gen.DecodeIdeal
public import proofs.«01_k».proof.Proof.Gen.DecodeIdeal.Frame
public import proofs.«01_k».proof.Proof.Gen.DecodeIdeal.Value
public import proofs.«01_k».proof.Proof.Gen.DecodeRefIdeal
public import proofs.«01_k».proof.Proof.Gen.DecodeRefIdeal.Run
public import proofs.«01_k».proof.Proof.NmsRun
public import proofs.«01_k».proof.Proof.NmsRef
public import proofs.«01_k».proof.Proof.DecodeRun
public import proofs.«01_k».proof.Proof.DecodeRef
public import proofs.«01_k».proof.Proof.Gen.Whole
public import proofs.«01_k».proof.Proof.Gen.Whole.Frame
public import proofs.«01_k».proof.Proof.Gen.WholeIdeal
public import proofs.«01_k».proof.Proof.Gen.WholeIdeal.Frame
public import proofs.«01_k».proof.Proof.Gen.WholeRefIdeal
public import proofs.«01_k».proof.Proof.Gen.WholeRefIdeal.Run
public import proofs.«01_k».proof.Proof.WholeRun
public import proofs.«01_k».proof.Proof.WholeRef
public import proofs.«01_k».proof.Proof.WholeRest
public import proofs.«01_k».proof.Proof.V00Run
public import proofs.«01_k».proof.Proof.V02Count
public import proofs.«01_k».proof.Proof.V03Count
public import proofs.«01_k».proof.Proof.V04Count
public import proofs.«01_k».proof.Proof.V05Count
public import proofs.«01_k».proof.Proof.Gen.V00
public import proofs.«01_k».proof.Proof.Gen.V00.Frame
public import proofs.«01_k».proof.Proof.Gen.V00Ideal
public import proofs.«01_k».proof.Proof.Gen.V00Ideal.Frame
public import proofs.«01_k».proof.Proof.Gen.V02
public import proofs.«01_k».proof.Proof.Gen.V02.Frame
public import proofs.«01_k».proof.Proof.Gen.V02Ideal
public import proofs.«01_k».proof.Proof.Gen.V02Ideal.Frame
public import proofs.«01_k».proof.Proof.Gen.V03
public import proofs.«01_k».proof.Proof.Gen.V03.Frame
public import proofs.«01_k».proof.Proof.Gen.V03Ideal
public import proofs.«01_k».proof.Proof.Gen.V03Ideal.Frame
public import proofs.«01_k».proof.Proof.Gen.V04
public import proofs.«01_k».proof.Proof.Gen.V04.Frame
public import proofs.«01_k».proof.Proof.Gen.V04Ideal
public import proofs.«01_k».proof.Proof.Gen.V04Ideal.Frame
public import proofs.«01_k».proof.Proof.Gen.V05
public import proofs.«01_k».proof.Proof.Gen.V05.Frame
public import proofs.«01_k».proof.Proof.Gen.V05Ideal
public import proofs.«01_k».proof.Proof.Gen.V05Ideal.Frame
public import Idealize.ShloMosaic.Adequacy
public import Idealize.ShloMosaic.Init

@[expose] public section

noncomputable section

namespace Cert.Proof

open Idealize.ShloMosaic Idealize.SL.Sem

/-- Over the extended reals the suppression kernel's kept scores are the reference's. -/
theorem suppression : Cert.algebraic_NmsIdeal_NmsRefIdeal :=
  fun m ρ m' ρ' _ hag => ⟨fun c => Cert.NmsIdeal.Run.want m c, Cert.NmsIdeal.Run.run m ρ,
    (θ_run _ _ _).mono (fun _ h c => ⟨(h c).1.trans (by rw [(hag c).1, (hag c).2]), (h c).2⟩) (Cert.NmsRefIdeal.Keep.run m' ρ')⟩

/-- Over the extended reals the decoding kernel's boxes are the reference's. -/
theorem decoding : Cert.algebraic_DecodeIdeal_DecodeRefIdeal :=
  fun m ρ m' ρ' _ hag => ⟨fun c => Cert.DecodeIdeal.Run.want m c, Cert.DecodeIdeal.Run.run m ρ,
    (θ_run _ _ _).mono (fun _ h c => ⟨(h c).1.trans (by rw [(hag c).1, (hag c).2]), (h c).2⟩) (Cert.DecodeRefIdeal.Corners.run m' ρ')⟩

/-- The side conditions of the operations in the preconditions and in the predicates on the results. -/
theorem lowFacts : Cert.Pre_first_two_classes_low.Facts := ⟨by decide, by decide, by decide, by decide⟩
theorem boxFacts : Cert.Pre_first_two_classes_low_boxes_positive.Facts := ⟨by decide, by decide, by decide, by decide, by decide, by decide⟩
theorem noFacts : Cert.Post_no_scores.Facts := ⟨by decide⟩
theorem aFacts : Cert.Post_a_score.Facts := ⟨by decide, by decide, by decide⟩
theorem nothingFacts : Cert.Post_nothing_found.Facts := ⟨by decide, by decide, by decide⟩
theorem detectionFacts : Cert.Post_a_detection.Facts := ⟨by decide, by decide, by decide⟩
theorem aBoxFacts : Cert.Post_a_box.Facts := ⟨by decide, by decide, by decide⟩
theorem emptyFacts : Cert.Post_first_place_empty.Facts := ⟨by decide, by decide, by decide, by decide, by decide, by decide⟩
theorem countFacts : Cert.Post_none_counted.Facts := ⟨by decide⟩

/-- Under the precondition the first two classes' scores are at most minus twenty, -/
theorem low_apply [Cert.Pre_first_two_classes_low.Facts] (x : FVec Ideal Cert.Pre_first_two_classes_low.S8x20000x80 .f32) (y : FVec Ideal Cert.Pre_first_two_classes_low.S8x20000x4 .f32)
    (z : FVec Ideal Cert.Pre_first_two_classes_low.S20000x4 .f32)
    (h : (Cert.Pre_first_two_classes_low.fn (F := Ideal) x y z).1 = fun _ => 1#1) (b : Fin 8) (a : Fin 20000) (k : Fin 80) (hk : k.val < 2) :
    x (ix3 b a k) ≤ Ideal.ofBits .f32 0xC1A00000#32 := by
  have h' := congrFun h (ix3 b a ⟨k.val, hk⟩)
  unfold Cert.Pre_first_two_classes_low.fn at h'
  have e : BitVec.ofBool (decide (x (ix3 b a k) ≤ Ideal.ofBits .f32 0xC1A00000#32)) = 1#1 := by
    rw [← h']
    pointwise
  by_contra hc
  rw [decide_eq_false hc] at e
  exact absurd e (by decide)

/-- and the third class's at least zero. -/
theorem high_apply [Cert.Pre_first_two_classes_low.Facts] (x : FVec Ideal Cert.Pre_first_two_classes_low.S8x20000x80 .f32) (y : FVec Ideal Cert.Pre_first_two_classes_low.S8x20000x4 .f32)
    (z : FVec Ideal Cert.Pre_first_two_classes_low.S20000x4 .f32)
    (h : (Cert.Pre_first_two_classes_low.fn (F := Ideal) x y z).2 = fun _ => 1#1) (b : Fin 8) (a : Fin 20000) :
    0 ≤ x (ix3 b a (2 : Fin 80)) := by
  have h' := congrFun h (ix3 b a (0 : Fin 78))
  unfold Cert.Pre_first_two_classes_low.fn at h'
  have e : BitVec.ofBool (decide (0 ≤ x (ix3 b a (2 : Fin 80)))) = 1#1 := by
    rw [← h']
    pointwise
  by_contra hc
  rw [decide_eq_false hc] at e
  exact absurd e (by decide)

/-- The second precondition says the third class's scores are at least zero too, -/
theorem high_apply' [Cert.Pre_first_two_classes_low_boxes_positive.Facts] (x : FVec Ideal Cert.Pre_first_two_classes_low_boxes_positive.S8x20000x80 .f32) (y : FVec Ideal Cert.Pre_first_two_classes_low_boxes_positive.S8x20000x4 .f32)
    (z : FVec Ideal Cert.Pre_first_two_classes_low_boxes_positive.S20000x4 .f32)
    (h : (Cert.Pre_first_two_classes_low_boxes_positive.fn (F := Ideal) x y z).2.1 = fun _ => 1#1) (b : Fin 8) (a : Fin 20000) : 0 ≤ x (ix3 b a (2 : Fin 80)) := by
  have h' := congrFun h (ix3 b a (0 : Fin 78))
  unfold Cert.Pre_first_two_classes_low_boxes_positive.fn at h'
  have e : BitVec.ofBool (decide (0 ≤ x (ix3 b a (2 : Fin 80)))) = 1#1 := by
    rw [← h']
    pointwise
  by_contra hc
  rw [decide_eq_false hc] at e
  exact absurd e (by decide)

/-- and the regression, -/
theorem regression_apply [Cert.Pre_first_two_classes_low_boxes_positive.Facts] (x : FVec Ideal Cert.Pre_first_two_classes_low_boxes_positive.S8x20000x80 .f32) (y : FVec Ideal Cert.Pre_first_two_classes_low_boxes_positive.S8x20000x4 .f32)
    (z : FVec Ideal Cert.Pre_first_two_classes_low_boxes_positive.S20000x4 .f32)
    (h : (Cert.Pre_first_two_classes_low_boxes_positive.fn (F := Ideal) x y z).2.2.1 = fun _ => 1#1) (b : Fin 8) (n : Fin 20000) (j : Fin 4) : 0 ≤ y (ix3 b n j) := by
  have h' := congrFun h (ix3 b n j)
  unfold Cert.Pre_first_two_classes_low_boxes_positive.fn at h'
  have e : BitVec.ofBool (decide (0 ≤ y (ix3 b n j))) = 1#1 := by
    rw [← h']
    pointwise
  by_contra hc
  rw [decide_eq_false hc] at e
  exact absurd e (by decide)

/-- and the anchors at least one. -/
theorem anchors_apply [Cert.Pre_first_two_classes_low_boxes_positive.Facts] (x : FVec Ideal Cert.Pre_first_two_classes_low_boxes_positive.S8x20000x80 .f32) (y : FVec Ideal Cert.Pre_first_two_classes_low_boxes_positive.S8x20000x4 .f32)
    (z : FVec Ideal Cert.Pre_first_two_classes_low_boxes_positive.S20000x4 .f32)
    (h : (Cert.Pre_first_two_classes_low_boxes_positive.fn (F := Ideal) x y z).2.2.2 = fun _ => 1#1) (n : Fin 20000) (j : Fin 4) : 1 ≤ z (ix2 n j) := by
  have h' := congrFun h (ix2 n j)
  unfold Cert.Pre_first_two_classes_low_boxes_positive.fn at h'
  have e : BitVec.ofBool (decide (1 ≤ z (ix2 n j))) = 1#1 := by
    rw [← h']
    pointwise
  by_contra hc
  rw [decide_eq_false hc] at e
  exact absurd e (by decide)

/-- The first predicate holds of scores that are all zero, -/
theorem no_scores [Cert.Post_no_scores.Facts] (x : FVec Ideal Cert.Post_no_scores.S8x20000x80 .f32) (y : FVec Ideal Cert.Post_no_scores.S8x20000x4 .f32)
    (z : FVec Ideal Cert.Post_no_scores.S20000x4 .f32) (o : FVec Ideal Cert.Post_no_scores.S8x1000x4 .f32) (v w : FVec Ideal Cert.Post_no_scores.S8x1000 .f32)
    (k : IVec Cert.Post_no_scores.S8 32) (h : ∀ b n, v (ix2 b n) = 0) : Cert.Post_no_scores.fn (F := Ideal) x y z o v w k = fun _ => 1#1 := by
  funext i
  idx_vars i
  have e : BitVec.ofBool (decide (v (ix2 i0 i1) = 0)) = 1#1 := by rw [decide_eq_true (h i0 i1)]; rfl
  unfold Cert.Post_no_scores.fn
  rw [← e]
  pointwise

/-- and the second of scores whose first is positive in every image. -/
theorem a_score [Cert.Post_a_score.Facts] (x : FVec Ideal Cert.Post_a_score.S8x20000x80 .f32) (y : FVec Ideal Cert.Post_a_score.S8x20000x4 .f32)
    (z : FVec Ideal Cert.Post_a_score.S20000x4 .f32) (o : FVec Ideal Cert.Post_a_score.S8x1000x4 .f32) (v w : FVec Ideal Cert.Post_a_score.S8x1000 .f32)
    (k : IVec Cert.Post_a_score.S8 32) (h : ∀ b, 0 < v (ix2 b 0)) : Cert.Post_a_score.fn (F := Ideal) x y z o v w k = fun _ => 1#1 := by
  funext i
  idx_vars i
  have e : BitVec.ofBool (decide (0 < v (ix2 i0 0))) = 1#1 := by rw [decide_eq_true (h i0)]; rfl
  unfold Cert.Post_a_score.fn
  rw [← e]
  pointwise

/-- The third holds of boxes, classes and counts that are all zero, -/
theorem nothing_found [Cert.Post_nothing_found.Facts] (x : FVec Ideal Cert.Post_nothing_found.S8x20000x80 .f32) (y : FVec Ideal Cert.Post_nothing_found.S8x20000x4 .f32)
    (z : FVec Ideal Cert.Post_nothing_found.S20000x4 .f32) (o : FVec Ideal Cert.Post_nothing_found.S8x1000x4 .f32) (v w : FVec Ideal Cert.Post_nothing_found.S8x1000 .f32)
    (k : IVec Cert.Post_nothing_found.S8 32) (ho : ∀ b n j, o (ix3 b n j) = 0) (hw : ∀ b n, w (ix2 b n) = 0)
    (hk : ∀ b, k (ix1 b) = 0#32) : (Cert.Post_nothing_found.fn (F := Ideal) x y z o v w k).1 = (fun _ => 1#1)
    ∧ (Cert.Post_nothing_found.fn (F := Ideal) x y z o v w k).2.1 = (fun _ => 1#1) ∧ (Cert.Post_nothing_found.fn (F := Ideal) x y z o v w k).2.2 = fun _ => 1#1 := by
  refine ⟨?_, ?_, ?_⟩
  · funext i
    idx_vars i
    have e : BitVec.ofBool (decide (o (ix3 i0 i1 i2) = 0)) = 1#1 := by rw [decide_eq_true (ho i0 i1 i2)]; rfl
    unfold Cert.Post_nothing_found.fn
    rw [← e]
    pointwise
  · funext i
    idx_vars i
    have e : BitVec.ofBool (decide (w (ix2 i0 i1) = 0)) = 1#1 := by rw [decide_eq_true (hw i0 i1)]; rfl
    unfold Cert.Post_nothing_found.fn
    rw [← e]
    pointwise
  · funext i
    idx_vars i
    unfold Cert.Post_nothing_found.fn
    show IntOp.cmpi .eq (k (ix1 i0)) 0#32 = 1#1
    rw [hk i0]
    rfl

/-- the fourth of classes whose first is at least two, and counts that are positive, -/
theorem a_detection [Cert.Post_a_detection.Facts] (x : FVec Ideal Cert.Post_a_detection.S8x20000x80 .f32) (y : FVec Ideal Cert.Post_a_detection.S8x20000x4 .f32)
    (z : FVec Ideal Cert.Post_a_detection.S20000x4 .f32) (o : FVec Ideal Cert.Post_a_detection.S8x1000x4 .f32) (v w : FVec Ideal Cert.Post_a_detection.S8x1000 .f32)
    (k : IVec Cert.Post_a_detection.S8 32) (hw : ∀ b, Ideal.ofBits .f32 0x40000000#32 ≤ w (ix2 b 0))
    (hk : ∀ b, IntOp.cmpi .sgt (k (ix1 b)) 0#32 = 1#1) : (Cert.Post_a_detection.fn (F := Ideal) x y z o v w k).1 = (fun _ => 1#1)
    ∧ (Cert.Post_a_detection.fn (F := Ideal) x y z o v w k).2 = fun _ => 1#1 := by
  refine ⟨?_, ?_⟩
  · funext i
    idx_vars i
    have e : BitVec.ofBool (decide (Ideal.ofBits .f32 0x40000000#32 ≤ w (ix2 i0 0))) = 1#1 := by rw [decide_eq_true (hw i0)]; rfl
    unfold Cert.Post_a_detection.fn
    rw [← e]
    pointwise
  · funext i
    idx_vars i
    unfold Cert.Post_a_detection.fn
    exact hk i0

/-- and the fifth of boxes the first of which has a positive right edge in every image. -/
theorem a_box [Cert.Post_a_box.Facts] (x : FVec Ideal Cert.Post_a_box.S8x20000x80 .f32) (y : FVec Ideal Cert.Post_a_box.S8x20000x4 .f32)
    (z : FVec Ideal Cert.Post_a_box.S20000x4 .f32) (o : FVec Ideal Cert.Post_a_box.S8x1000x4 .f32) (v w : FVec Ideal Cert.Post_a_box.S8x1000 .f32)
    (k : IVec Cert.Post_a_box.S8 32) (h : ∀ b, 0 < o (ix3 b 0 (2 : Fin 4))) : Cert.Post_a_box.fn (F := Ideal) x y z o v w k = fun _ => 1#1 := by
  funext i
  idx_vars i
  have e : BitVec.ofBool (decide (0 < o (ix3 i0 0 (2 : Fin 4)))) = 1#1 := by rw [decide_eq_true (h i0)]; rfl
  unfold Cert.Post_a_box.fn
  rw [← e]
  pointwise

/-- The sixth holds of boxes, scores and classes that are zero at the first place of every image, -/
theorem first_place_empty [Cert.Post_first_place_empty.Facts] (x : FVec Ideal Cert.Post_first_place_empty.S8x20000x80 .f32) (y : FVec Ideal Cert.Post_first_place_empty.S8x20000x4 .f32)
    (z : FVec Ideal Cert.Post_first_place_empty.S20000x4 .f32) (o : FVec Ideal Cert.Post_first_place_empty.S8x1000x4 .f32) (v w : FVec Ideal Cert.Post_first_place_empty.S8x1000 .f32)
    (k : IVec Cert.Post_first_place_empty.S8 32) (ho : ∀ b j, o (ix3 b 0 j) = 0) (hv : ∀ b, v (ix2 b 0) = 0)
    (hw : ∀ b, w (ix2 b 0) = 0) : (Cert.Post_first_place_empty.fn (F := Ideal) x y z o v w k).1 = (fun _ => 1#1)
    ∧ (Cert.Post_first_place_empty.fn (F := Ideal) x y z o v w k).2.1 = (fun _ => 1#1)
    ∧ (Cert.Post_first_place_empty.fn (F := Ideal) x y z o v w k).2.2 = fun _ => 1#1 := by
  refine ⟨?_, ?_, ?_⟩
  · funext i
    idx_vars i
    have e : BitVec.ofBool (decide (o (ix3 i0 0 i1) = 0)) = 1#1 := by rw [decide_eq_true (ho i0 i1)]; rfl
    unfold Cert.Post_first_place_empty.fn
    rw [← e]
    pointwise
  · funext i
    idx_vars i
    have e : BitVec.ofBool (decide (v (ix2 i0 0) = 0)) = 1#1 := by rw [decide_eq_true (hv i0)]; rfl
    unfold Cert.Post_first_place_empty.fn
    rw [← e]
    pointwise
  · funext i
    idx_vars i
    have e : BitVec.ofBool (decide (w (ix2 i0 0) = 0)) = 1#1 := by rw [decide_eq_true (hw i0)]; rfl
    unfold Cert.Post_first_place_empty.fn
    rw [← e]
    pointwise

/-- and the seventh of counts that are zero. -/
theorem none_counted [Cert.Post_none_counted.Facts] (x : FVec Ideal Cert.Post_none_counted.S8x20000x80 .f32) (y : FVec Ideal Cert.Post_none_counted.S8x20000x4 .f32)
    (z : FVec Ideal Cert.Post_none_counted.S20000x4 .f32) (o : FVec Ideal Cert.Post_none_counted.S8x1000x4 .f32) (v w : FVec Ideal Cert.Post_none_counted.S8x1000 .f32)
    (k : IVec Cert.Post_none_counted.S8 32) (h : ∀ b, k (ix1 b) = 0#32) : Cert.Post_none_counted.fn (F := Ideal) x y z o v w k = fun _ => 1#1 := by
  funext i
  idx_vars i
  unfold Cert.Post_none_counted.fn
  show IntOp.cmpi .eq (k (ix1 i0)) 0#32 = 1#1
  rw [h i0]
  rfl

/-- Over the extended reals, under the precondition, every score the whole kernel returns is zero, -/
theorem kernel_none [Cert.Pre_first_two_classes_low.Facts] [Cert.Post_no_scores.Facts] : Cert.holds_WholeIdeal_no_scores_pre_first_two_classes_low :=
  fun m ρ hpre => (θ_run Cert.WholeIdeal.defs _ _).mono (fun _ h c => ⟨(h c).2.1, (h c).2.2.1, (h c).2.2.2,
    no_scores _ _ _ _ _ _ _ (fun b n => (congrFun (h c).1.2.1 (ix2 b n)).trans (Cert.WholeIdeal.Low.v45_zero m ρ c (low_apply _ _ _ (hpre c).1) b n))⟩)
    (Cert.WholeIdeal.Low.run m ρ)

/-- and the first score the whole reference returns is positive in every image. -/
theorem reference_some [Cert.Pre_first_two_classes_low.Facts] [Cert.Post_a_score.Facts] : Cert.holds_WholeRefIdeal_a_score_pre_first_two_classes_low :=
  fun m ρ hpre => (θ_run Cert.WholeRefIdeal.defs _ _).mono (fun _ h c => ⟨(h c).2.1, (h c).2.2.1, (h c).2.2.2,
    a_score _ _ _ _ _ _ _ (fun b => (Cert.WholeRefIdeal.High.v135_pos m c b (2 : Fin 80) (high_apply _ _ _ (hpre c).2 b)).trans_eq
      (congrFun (h c).1.2.1 (ix2 b 0)).symm)⟩) (Cert.WholeRefIdeal.High.run m ρ)

/-- Under the precondition the boxes, classes and counts the whole kernel returns are zero too, -/
theorem kernel_nothing [Cert.Pre_first_two_classes_low.Facts] [Cert.Post_nothing_found.Facts] : Cert.holds_WholeIdeal_nothing_found_pre_first_two_classes_low :=
  fun m ρ hpre => (θ_run Cert.WholeIdeal.defs _ _).mono (fun _ h c => ⟨(h c).2.1, (h c).2.2.1, (h c).2.2.2,
    nothing_found _ _ _ _ _ _ _
      (fun b n j => (congrFun (h c).1.1 (ix3 b n j)).trans (Cert.WholeIdeal.Low.v43_zero m ρ c (low_apply _ _ _ (hpre c).1) b n j))
      (fun b n => (congrFun (h c).1.2.2.1 (ix2 b n)).trans (Cert.WholeIdeal.Low.v44_zero m ρ c (low_apply _ _ _ (hpre c).1) b n))
      (fun b => (congrFun (h c).1.2.2.2 (ix1 b)).trans (Cert.WholeIdeal.Low.v47_zero m ρ c (low_apply _ _ _ (hpre c).1) b))⟩)
    (Cert.WholeIdeal.Low.run m ρ)

/-- and of the whole reference the first class is at least two and the counts are positive. -/
theorem reference_detects [Cert.Pre_first_two_classes_low.Facts] [Cert.Post_a_detection.Facts] :
    Cert.holds_WholeRefIdeal_a_detection_pre_first_two_classes_low :=
  fun m ρ hpre => (θ_run Cert.WholeRefIdeal.defs _ _).mono (fun _ h c => ⟨(h c).2.1, (h c).2.2.1, (h c).2.2.2,
    a_detection _ _ _ _ _ _ _
      (fun b => (Cert.WholeRefIdeal.High.v134_ge m c b (2 : Fin 80) (high_apply _ _ _ (hpre c).2 b)
        (fun a k hk => low_apply _ _ _ (hpre c).1 b a k hk)).trans_eq (congrFun (h c).1.2.2.1 (ix2 b 0)).symm)
      (fun b => (congrArg (fun w => IntOp.cmpi .sgt w 0#32) (congrFun (h c).1.2.2.2 (ix1 b))).trans
        (Cert.WholeRefIdeal.High.v137_pos m c b (2 : Fin 80) (high_apply _ _ _ (hpre c).2 b)))⟩) (Cert.WholeRefIdeal.High.run m ρ)

/-- Under the second precondition the first box the whole reference returns has a positive right edge in every image. -/
theorem reference_box [Cert.Pre_first_two_classes_low_boxes_positive.Facts] [Cert.Post_a_box.Facts] :
    Cert.holds_WholeRefIdeal_a_box_pre_first_two_classes_low_boxes_positive :=
  fun m ρ hpre => (θ_run Cert.WholeRefIdeal.defs _ _).mono (fun _ h c => ⟨(h c).2.1, (h c).2.2.1, (h c).2.2.2,
    a_box _ _ _ _ _ _ _ (fun b => (Cert.WholeRefIdeal.High.v126_pos m c b (2 : Fin 80) (high_apply' _ _ _ (hpre c).2.1 b)
      (regression_apply _ _ _ (hpre c).2.2.1 b) (anchors_apply _ _ _ (hpre c).2.2.2)).trans_eq
      (congrFun (h c).1.1 (ix3 b 0 (2 : Fin 4))).symm)⟩) (Cert.WholeRefIdeal.High.run m ρ)

/-- Under the precondition the first box, score and class that version v00 returns are zero in every image. -/
theorem first_version [Cert.Pre_first_two_classes_low.Facts] [Cert.Post_first_place_empty.Facts] :
    Cert.holds_V00Ideal_first_place_empty_pre_first_two_classes_low :=
  fun m ρ hpre => (θ_run Cert.V00Ideal.defs _ _).mono (fun _ h c => ⟨(h c).2.1, (h c).2.2.1, (h c).2.2.2,
    first_place_empty _ _ _ _ _ _ _
      (fun b j => (congrFun (h c).1.1 (ix3 b 0 j)).trans (Cert.V00Ideal.Empty.v41_zero m ρ c b (low_apply _ _ _ (hpre c).1 b 0 0 (by decide)) j))
      (fun b => (congrFun (h c).1.2.1 (ix2 b 0)).trans (Cert.V00Ideal.Empty.v43_zero m ρ c b (low_apply _ _ _ (hpre c).1 b 0 0 (by decide))))
      (fun b => (congrFun (h c).1.2.2 (ix2 b 0)).trans (Cert.V00Ideal.Empty.v42_zero m ρ c b (low_apply _ _ _ (hpre c).1 b 0 0 (by decide))))⟩)
    (Cert.V00Ideal.Empty.run m ρ)

/-- Whatever the inputs, the counts that version v02 returns are zero, -/
theorem counts_v02 [Cert.Post_none_counted.Facts] : Cert.holds_V02Ideal_none_counted :=
  fun m ρ _ => (θ_run Cert.V02Ideal.defs _ _).mono (fun _ h c => ⟨(h c).2.1, (h c).2.2.1, (h c).2.2.2,
    none_counted _ _ _ _ _ _ _ (h c).1⟩) (Cert.V02Ideal.Count.run m ρ)

/-- and those of v03, -/
theorem counts_v03 [Cert.Post_none_counted.Facts] : Cert.holds_V03Ideal_none_counted :=
  fun m ρ _ => (θ_run Cert.V03Ideal.defs _ _).mono (fun _ h c => ⟨(h c).2.1, (h c).2.2.1, (h c).2.2.2,
    none_counted _ _ _ _ _ _ _ (h c).1⟩) (Cert.V03Ideal.Count.run m ρ)

/-- and those of v04, -/
theorem counts_v04 [Cert.Post_none_counted.Facts] : Cert.holds_V04Ideal_none_counted :=
  fun m ρ _ => (θ_run Cert.V04Ideal.defs _ _).mono (fun _ h c => ⟨(h c).2.1, (h c).2.2.1, (h c).2.2.2,
    none_counted _ _ _ _ _ _ _ (h c).1⟩) (Cert.V04Ideal.Count.run m ρ)

/-- and those of v05. -/
theorem counts_v05 [Cert.Post_none_counted.Facts] : Cert.holds_V05Ideal_none_counted :=
  fun m ρ _ => (θ_run Cert.V05Ideal.defs _ _).mono (fun _ h c => ⟨(h c).2.1, (h c).2.2.1, (h c).2.2.2,
    none_counted _ _ _ _ _ _ _ (h c).1⟩) (Cert.V05Ideal.Count.run m ρ)

/-- The frames and the values of the two calls, and what the whole kernel, its other versions and the whole reference return. -/
theorem claim : Cert.Claim := ⟨Cert.Nms.Gen.facts, Cert.NmsIdeal.Gen.facts, Cert.NmsRefIdeal.Gen.facts, Cert.Decode.Gen.facts, Cert.DecodeIdeal.Gen.facts, Cert.DecodeRefIdeal.Gen.facts,
  Cert.Whole.Gen.facts, Cert.WholeIdeal.Gen.facts, Cert.WholeRefIdeal.Gen.facts,
  Cert.V00.Gen.facts, Cert.V00Ideal.Gen.facts, Cert.V02.Gen.facts, Cert.V02Ideal.Gen.facts, Cert.V03.Gen.facts, Cert.V03Ideal.Gen.facts, Cert.V04.Gen.facts, Cert.V04Ideal.Gen.facts, Cert.V05.Gen.facts, Cert.V05Ideal.Gen.facts,
  lowFacts, boxFacts, noFacts, aFacts,
  nothingFacts, detectionFacts, aBoxFacts, emptyFacts, countFacts,
  fun m ρ _ => Cert.Nms.Gen.frame m ρ,
  fun m ρ _ => Cert.NmsIdeal.Gen.frame m ρ,
  fun m ρ _ => (θ_run Cert.NmsRefIdeal.defs _ _).mono (fun r h => ⟨fun c => (h c).2, sem_eq_zero_of_no_sems (by decide) r.2⟩)
    (Cert.NmsRefIdeal.Keep.run m ρ),
  fun m ρ _ => Cert.Decode.Gen.frame m ρ,
  fun m ρ _ => Cert.DecodeIdeal.Gen.frame m ρ,
  fun m ρ _ => (θ_run Cert.DecodeRefIdeal.defs _ _).mono (fun r h => ⟨fun c => (h c).2, sem_eq_zero_of_no_sems (by decide) r.2⟩)
    (Cert.DecodeRefIdeal.Corners.run m ρ),
  fun m ρ _ => Cert.Whole.Gen.frame m ρ,
  fun m ρ _ => Cert.WholeIdeal.Gen.frame m ρ,
  fun m ρ _ => Cert.WholeIdeal.Gen.frame m ρ,
  fun m ρ _ => (θ_run Cert.WholeRefIdeal.defs _ _).mono (fun r h => ⟨fun c => (h c).2, sem_eq_zero_of_no_sems (by decide) r.2⟩)
    (Cert.WholeRefIdeal.High.run m ρ),
  fun m ρ _ => (θ_run Cert.WholeRefIdeal.defs _ _).mono (fun r h => ⟨fun c => (h c).2, sem_eq_zero_of_no_sems (by decide) r.2⟩)
    (Cert.WholeRefIdeal.High.run m ρ),
  fun m ρ _ => (θ_run Cert.WholeRefIdeal.defs _ _).mono (fun r h => ⟨fun c => (h c).2, sem_eq_zero_of_no_sems (by decide) r.2⟩)
    (Cert.WholeRefIdeal.High.run m ρ),
  fun m ρ _ => Cert.V00.Gen.frame m ρ,
  fun m ρ _ => Cert.V00Ideal.Gen.frame m ρ,
  fun m ρ _ => Cert.V00Ideal.Gen.frame m ρ,
  fun m ρ _ => Cert.V02.Gen.frame m ρ,
  fun m ρ _ => Cert.V02Ideal.Gen.frame m ρ,
  fun m ρ _ => Cert.V03.Gen.frame m ρ,
  fun m ρ _ => Cert.V03Ideal.Gen.frame m ρ,
  fun m ρ _ => Cert.V04.Gen.frame m ρ,
  fun m ρ _ => Cert.V04Ideal.Gen.frame m ρ,
  fun m ρ _ => Cert.V05.Gen.frame m ρ,
  fun m ρ _ => Cert.V05Ideal.Gen.frame m ρ,
  trivial, suppression, trivial, decoding, trivial,
  @kernel_none lowFacts noFacts,
  @reference_some lowFacts aFacts,
  @kernel_nothing lowFacts nothingFacts,
  @reference_detects lowFacts detectionFacts,
  @reference_box boxFacts aBoxFacts,
  trivial, @first_version lowFacts emptyFacts,
  trivial, @counts_v02 countFacts, trivial, @counts_v03 countFacts, trivial, @counts_v04 countFacts, trivial, @counts_v05 countFacts⟩

end Cert.Proof

end
